-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "neg_inv_hist" .f32 0xBBA3D70A#32 ((-1 / 200 : ℝ) : EReal)
  ∧ IdealRules.named_const.Statement Cert.KernelIdeal.κ "inv_scale" .f32 0x38D1B717#32 ((1 / 10000 : ℝ) : EReal)

def algebraic_KernelIdeal_ReferenceIdeal_on_no_tie_pre_in_range_finite [hKernelIdeal : Cert.KernelIdeal.Facts] [hReferenceIdeal : Cert.ReferenceIdeal.Facts] [hPre_in_range_finite : Cert.Pre_in_range_finite.Facts] [hOn_no_tie : Cert.On_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          (∀ i : (⟨2, ![16384, 1]⟩ : Shape).Idx, (Cert.On_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v13) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16384, 1]⟩ : Shape).Idx, (Cert.On_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v18) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts) (hOn_no_tie : Cert.On_no_tie.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_on_no_tie_pre_in_range_finite (hKernelIdeal := hKernelIdeal) (hReferenceIdeal := hReferenceIdeal) (hPre_in_range_finite := hPre_in_range_finite) (hOn_no_tie := hOn_no_tie)
-- ==== On_no_tie.lean ====
abbrev S16384x200 : Shape := ⟨2, ![16384, 200]⟩
abbrev S100000x16 : Shape := ⟨2, ![100000, 16]⟩
abbrev S16x1 : Shape := ⟨2, ![16, 1]⟩
abbrev S1 : Shape := ⟨1, ![1]⟩
abbrev S_ : Shape := ⟨0, ![]⟩
abbrev S16384x200x1 : Shape := ⟨3, ![16384, 200, 1]⟩
abbrev S1x1x1 : Shape := ⟨3, ![1, 1, 1]⟩
abbrev S16384x200x16 : Shape := ⟨3, ![16384, 200, 16]⟩
abbrev S16384x16 : Shape := ⟨2, ![16384, 16]⟩
abbrev S16384x1 : Shape := ⟨2, ![16384, 1]⟩
abbrev S1x1 : Shape := ⟨2, ![1, 1]⟩

class Facts : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  bcast_S16384x200_S16384x200x16_0_1 : S16384x200.BroadcastsInDim S16384x200x16 (![0, 1] : Fin 2 → Fin S16384x200x16.rank)
  bcast_S_S16384x200x16 : S_.BroadcastsInDim S16384x200x16 (![] : Fin 0 → Fin S16384x200x16.rank)
  reducesTo_S16384x200x16_S16384x16_d1 : S16384x200x16.ReducesTo [1] S16384x16
  bcast_S_S16384x16 : S_.BroadcastsInDim S16384x16 (![] : Fin 0 → Fin S16384x16.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  gather_S100000x16_S16384x200x1_S16384x200x16_2_0_n_n_0_2_116_wf : GatherDims.WF S100000x16 S16384x200x1 S16384x200x16 [2] [0] [] [0] [] 2 ![1, 16]
  dot_S16384x16_S16x1_S16384x1_1_0_0_1_n_n_wf : DotDims.WF S16384x16 S16x1 S16384x1 [1] [0] [0] [1] [] []

variable [Facts]

def gather_S100000x16_S16384x200x1_S16384x200x16_2_0_n_n_0_2_116 : GatherDims S100000x16 S16384x200x1 S16384x200x16 where
  offsetDims := [2]
  collapsedSliceDims := [0]
  operandBatchingDims := []
  startIndicesBatchingDims := []
  startIndexMap := [0]
  indexVectorDim := 2
  sliceSizes := ![1, 16]
  wf := gather_S100000x16_S16384x200x1_S16384x200x16_2_0_n_n_0_2_116_wf
def dot_S16384x16_S16x1_S16384x1_1_0_0_1_n_n : DotDims S16384x16 S16x1 S16384x1 where
  lhsContracting := [1]
  rhsContracting := [0]
  lhsNonContracting := [0]
  rhsNonContracting := [1]
  lhsBatch := []
  rhsBatch := []
  wf := dot_S16384x16_S16x1_S16384x1_1_0_0_1_n_n_wf
def fn_where {F : FTy → Type} [FloatOps F] (arg0 : IVec S16384x200 1) (arg1 : IVec S16384x200 32) (arg2 : IVec S16384x200 32) : IVec S16384x200 32 :=
  let v0 : IVec S16384x200 32 := select arg0 arg1 arg2
  v0

def fn_take {F : FTy → Type} [FloatOps F] (arg0 : FVec F S100000x16 .f32) (arg1 : IVec S16384x200 32) : FVec F S16384x200x16 .f32 :=
  let c : IVec S_ 32 := constantI S_ 32 0#32
  let v0 : IVec S16384x200 32 := broadcastInDim S16384x200 ![] bcast_S_S16384x200 c
  let v1 : IVec S16384x200 1 := cmpi .slt arg1 v0
  let c_0 : IVec S_ 32 := constantI S_ 32 100000#32
  let v2 : IVec S16384x200 32 := broadcastInDim S16384x200 ![] bcast_S_S16384x200 c_0
  let v3 : IVec S16384x200 32 := addi arg1 v2
  let v4 : IVec S16384x200 32 := fn_where (F := F) v1 v3 arg1
  let v5 : IVec S16384x200x1 32 := broadcastInDim S16384x200x1 ![0, 1] bcast_S16384x200_S16384x200x1_0_1 v4
  let c_1 : IVec S1 32 := constantI S1 32 99999#32
  let c_2 : IVec S_ 32 := constantI S_ 32 0#32
  let v6 : IVec S16384x200x1 32 := broadcastInDim S16384x200x1 ![] bcast_S_S16384x200x1 c_2
  let v7 : IVec S16384x200x1 1 := cmpi .sge v5 v6
  let v8 : IVec S1x1x1 32 := broadcastInDim S1x1x1 ![2] bcast_S1_S1x1x1_2 c_1
  let v9 : IVec S16384x200x1 32 := broadcastInDim S16384x200x1 ![0, 1, 2] bcast_S1x1x1_S16384x200x1_0_1_2 v8
  let v10 : IVec S16384x200x1 1 := cmpi .sle v5 v9
  let v11 : IVec S16384x200x1 1 := andi v7 v10
  let c_3 : IVec S_ 1 := constantI S_ 1 1#1
  let v12 : IVec S16384x200 1 := (fun x v => Host.reduce IntOp.andi x v reducesTo_S16384x200x1_S16384x200_d2 h_S_) v11 c_3
  let v13 : FVec F S16384x200x16 .f32 := (fun x i => Host.gather gather_S100000x16_S16384x200x1_S16384x200x16_2_0_n_n_0_2_116 x i) arg0 v5
  let v14 : IVec S16384x200x16 1 := broadcastInDim S16384x200x16 ![0, 1] bcast_S16384x200_S16384x200x16_0_1 v12
  let cst : FVec F S_ .f32 := constant S_ .f32 0x7FC00000#32
  let v15 : FVec F S16384x200x16 .f32 := broadcastInDim S16384x200x16 ![] bcast_S_S16384x200x16 cst
  let v16 : FVec F S16384x200x16 .f32 := select v14 v13 v15
  v16

def fn_part1 {F : FTy → Type} [FloatOps F] (main_v15 : FVec F S16384x1 .f32) (main_v16 : FVec F S16384x1 .f32) (main_v17 : FVec F S16384x1 .f32) : IVec S16384x1 1 :=
  let main_v18 : FVec F S16384x1 .f32 := addf main_v16 main_v17
  let main_v19 : IVec S16384x1 1 := cmpf .une main_v18 main_v15
  main_v19

def fn {F : FTy → Type} [FloatOps F] (main_arg0 : IVec S16384x200 32) (main_arg1 : FVec F S100000x16 .f32) (main_arg2 : FVec F S16x1 .f32) (main_arg3 : FVec F S1 .f32) : IVec S16384x1 1 :=
  let main_v0 : FVec F S16384x200x16 .f32 := fn_take (F := F) main_arg1 main_arg0
  let main_cst : FVec F S_ .f32 := constant S_ .f32 0x00000000#32
  let main_v1 : FVec F S16384x16 .f32 := (fun x v => Host.reduceAdd x v reducesTo_S16384x200x16_S16384x16_d1 h_S_) main_v0 main_cst
  let main_cst_0 : FVec F S_ .f32 := constant S_ .f32 0x43480000#32
  let main_v2 : FVec F S16384x16 .f32 := broadcastInDim S16384x16 ![] bcast_S_S16384x16 main_cst_0
  let main_v3 : FVec F S16384x16 .f32 := Host.divf main_v1 main_v2
  let main_v4 : FVec F S16384x1 .f32 := (fun l r => Host.dotGeneral dot_S16384x16_S16x1_S16384x1_1_0_0_1_n_n none l r) main_v3 main_arg2
  let main_v5 : FVec F S1x1 .f32 := broadcastInDim S1x1 ![1] bcast_S1_S1x1_1 main_arg3
  let main_v6 : FVec F S16384x1 .f32 := broadcastInDim S16384x1 ![0, 1] bcast_S1x1_S16384x1_0_1 main_v5
  let main_v7 : FVec F S16384x1 .f32 := addf main_v4 main_v6
  let main_v8 : FVec F S16384x1 .f32 := Host.negf main_v7
  let main_v9 : FVec F S16384x1 .f32 := Host.exp main_v8
  let main_cst_1 : FVec F S_ .f32 := constant S_ .f32 0x3F800000#32
  let main_v10 : FVec F S16384x1 .f32 := broadcastInDim S16384x1 ![] bcast_S_S16384x1 main_cst_1
  let main_v11 : FVec F S16384x1 .f32 := addf main_v10 main_v9
  let main_cst_2 : FVec F S_ .f32 := constant S_ .f32 0x3F800000#32
  let main_v12 : FVec F S16384x1 .f32 := broadcastInDim S16384x1 ![] bcast_S_S16384x1 main_cst_2
  let main_v13 : FVec F S16384x1 .f32 := Host.divf main_v12 main_v11
  let main_cst_3 : FVec F S_ .f32 := constant S_ .f32 0x461C4000#32
  let main_v14 : FVec F S16384x1 .f32 := broadcastInDim S16384x1 ![] bcast_S_S16384x1 main_cst_3
  let main_v15 : FVec F S16384x1 .f32 := mulf main_v13 main_v14
  let main_v16 : FVec F S16384x1 .f32 := Host.floor main_v15
  let main_cst_4 : FVec F S_ .f32 := constant S_ .f32 0x3F000000#32
  let main_v17 : FVec F S16384x1 .f32 := broadcastInDim S16384x1 ![] bcast_S_S16384x1 main_cst_4
  fn_part1 (F := F) main_v15 main_v16 main_v17
-- ==== Pre_in_range.lean ====
abbrev S16384x200 : Shape := ⟨2, ![16384, 200]⟩
abbrev S100000x16 : Shape := ⟨2, ![100000, 16]⟩
abbrev S16x1 : Shape := ⟨2, ![16, 1]⟩
abbrev S1 : Shape := ⟨1, ![1]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : IVec S16384x200 32) (main_arg1 : FVec F S100000x16 .f32) (main_arg2 : FVec F S16x1 .f32) (main_arg3 : FVec F S1 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 100000#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  main_v5
-- ==== Pre_in_range_finite.lean ====
abbrev S16384x200 : Shape := ⟨2, ![16384, 200]⟩
abbrev S100000x16 : Shape := ⟨2, ![100000, 16]⟩
abbrev S16x1 : Shape := ⟨2, ![16, 1]⟩
abbrev S1 : Shape := ⟨1, ![1]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_
  bcast_S_S16x1 : S_.BroadcastsInDim S16x1 (![] : Fin 0 → Fin S16x1.rank)
  reducesTo_S16x1_S_d0_1 : S16x1.ReducesTo [0, 1] S_

variable [Facts]

def fn {F : FTy → Type} [FloatOps F] (main_arg0 : IVec S16384x200 32) (main_arg1 : FVec F S100000x16 .f32) (main_arg2 : FVec F S16x1 .f32) (main_arg3 : FVec F S1 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 100000#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  let main_v6 : FVec F S100000x16 .f32 := Host.absf main_arg1
  let main_cst : FVec F S_ .f32 := constant S_ .f32 0x7F800000#32
  let main_v7 : FVec F S100000x16 .f32 := broadcastInDim S100000x16 ![] bcast_S_S100000x16 main_cst
  let main_v8 : IVec S100000x16 1 := cmpf .olt main_v6 main_v7
  let main_c_2 : IVec S_ 1 := constantI S_ 1 1#1
  let main_v9 : IVec S_ 1 := (fun x v => Host.reduce IntOp.andi x v reducesTo_S100000x16_S_d0_1 h_S_) main_v8 main_c_2
  let main_v10 : IVec S_ 1 := andi main_v5 main_v9
  let main_v11 : FVec F S16x1 .f32 := Host.absf main_arg2
  let main_cst_3 : FVec F S_ .f32 := constant S_ .f32 0x7F800000#32
  let main_v12 : FVec F S16x1 .f32 := broadcastInDim S16x1 ![] bcast_S_S16x1 main_cst_3
  let main_v13 : IVec S16x1 1 := cmpf .olt main_v11 main_v12
  let main_c_4 : IVec S_ 1 := constantI S_ 1 1#1
  let main_v14 : IVec S_ 1 := (fun x v => Host.reduce IntOp.andi x v reducesTo_S16x1_S_d0_1 h_S_) main_v13 main_c_4
  let main_v15 : IVec S_ 1 := andi main_v10 main_v14
  main_v15
-- ==== Kernel.lean ====
abbrev S16384x200 : Shape := ⟨2, ![16384, 200]⟩
abbrev S100000x16 : Shape := ⟨2, ![100000, 16]⟩
abbrev S16x1 : Shape := ⟨2, ![16, 1]⟩
abbrev S1 : Shape := ⟨1, ![1]⟩
abbrev S8x8 : Shape := ⟨2, ![8, 8]⟩
abbrev S_ : Shape := ⟨0, ![]⟩
abbrev S8x1x8x1 : Shape := ⟨4, ![8, 1, 8, 1]⟩
abbrev S1x16x1x1 : Shape := ⟨4, ![1, 16, 1, 1]⟩
abbrev S8x16x8x1 : Shape := ⟨4, ![8, 16, 8, 1]⟩
abbrev S128x8 : Shape := ⟨2, ![128, 8]⟩
abbrev S12500x128 : Shape := ⟨2, ![12500, 128]⟩
abbrev S1x1 : Shape := ⟨2, ![1, 1]⟩
abbrev S12500x8 : Shape := ⟨2, ![12500, 8]⟩
abbrev S100000 : Shape := ⟨1, ![100000]⟩
abbrev S25600x128 : Shape := ⟨2, ![25600, 128]⟩
abbrev S16384 : Shape := ⟨1, ![16384]⟩
abbrev S100x128 : Shape := ⟨2, ![100, 128]⟩
abbrev S512 : Shape := ⟨1, ![512]⟩
abbrev S16 : Shape := ⟨1, ![16]⟩
abbrev S16384x1 : Shape := ⟨2, ![16384, 1]⟩

abbrev nBuf : Table → Nat
  | .hbm => 24
  | .local .tc .vmem => 3
  | .local .tc .smem => 1
  | .local .scVector .vmem => 4
  | _ => 0

abbrev bufTy : (tb : Table) → Fin (nBuf tb) → BufTy
  | .hbm, ⟨0, _⟩ => ⟨S16384x200, .i32⟩
  | .hbm, ⟨1, _⟩ => ⟨S100000x16, .f32⟩
  | .hbm, ⟨2, _⟩ => ⟨S16x1, .f32⟩
  | .hbm, ⟨3, _⟩ => ⟨S1, .f32⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S8x8, .f32⟩
  | .hbm, ⟨11, _⟩ => ⟨S8x1x8x1, .f32⟩
  | .hbm, ⟨12, _⟩ => ⟨S1x16x1x1, .f32⟩
  | .hbm, ⟨13, _⟩ => ⟨S8x16x8x1, .f32⟩
  | .hbm, ⟨14, _⟩ => ⟨S8x16x8x1, .f32⟩
  | .hbm, ⟨15, _⟩ => ⟨S8x16x8x1, .f32⟩
  | .hbm, ⟨16, _⟩ => ⟨S128x8, .f32⟩
  | .hbm, ⟨17, _⟩ => ⟨S12500x128, .f32⟩
  | .hbm, ⟨18, _⟩ => ⟨S1x1, .f32⟩
  | .hbm, ⟨19, _⟩ => ⟨S12500x8, .f32⟩
  | .hbm, ⟨20, _⟩ => ⟨S100000, .f32⟩
  | .hbm, ⟨21, _⟩ => ⟨S25600x128, .i32⟩
  | .hbm, ⟨22, _⟩ => ⟨S16384, .f32⟩
  | .hbm, ⟨23, _⟩ => ⟨S16384x1, .f32⟩
  | .local .tc .vmem, ⟨0, _⟩ => ⟨S12500x128, .f32⟩
  | .local .tc .vmem, ⟨1, _⟩ => ⟨S128x8, .f32⟩
  | .local .tc .vmem, ⟨2, _⟩ => ⟨S12500x8, .f32⟩
  | .local .tc .smem, ⟨0, _⟩ => ⟨S1x1, .f32⟩
  | .local .scVector .vmem, ⟨0, _⟩ => ⟨S100000, .f32⟩
  | .local .scVector .vmem, ⟨1, _⟩ => ⟨S100x128, .i32⟩
  | .local .scVector .vmem, ⟨2, _⟩ => ⟨S100x128, .i32⟩
  | .local .scVector .vmem, ⟨3, _⟩ => ⟨S512, .f32⟩
  | _, _ => ⟨S16384x200, .i32⟩

abbrev bufScoped : (cs : CoreSpace) → Fin (nBuf (.local .tc cs)) → Bool
  | .vmem, ⟨0, _⟩ => true
  | .vmem, ⟨1, _⟩ => true
  | .vmem, ⟨2, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v10_scv : Ref sig .scVector := ⟨.hbm, 20, rfl⟩
abbrev main_v11_scv : Ref sig .scVector := ⟨.hbm, 21, rfl⟩
abbrev main_v12_scv : Ref sig .scVector := ⟨.hbm, 22, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg2_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S12500x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12500x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c200_i32 : BitVec 32 := 200#32
  let v3 : BitVec 32 := Scalar.muli v2 c200_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c128_i32 : BitVec 32 := 128#32
  let c0_i32_1 : BitVec 32 := 0#32
  let v10 : BitVec 1 := Scalar.cmpi .sgt c128_i32 c0_i32_1
  let v11 : BitVec 32 := Scalar.extui v10
  let c0_i32_2 : BitVec 32 := 0#32
  let v12 : BitVec 1 := Scalar.cmpi .slt c128_i32 c0_i32_2
  let v13 : BitVec 32 := Scalar.extui v12
  let v14 : BitVec 32 := Scalar.subi v11 v13
  let v15 : BitVec 1 := Scalar.cmpi .ne v9 v14
  let v16 : BitVec 32 := Scalar.remsi v3 c128_i32
  let c0_i32_3 : BitVec 32 := 0#32
  let v17 : BitVec 1 := Scalar.cmpi .ne v16 c0_i32_3
  let v18 : BitVec 1 := Scalar.andi v15 v17
  let v4 : BitVec 32 := Scalar.divsi v3 c128_i32
  let c1_i32 : BitVec 32 := 1#32
  let v19 : BitVec 32 := Scalar.subi v4 c1_i32
  let v20 : BitVec 32 := Scalar.select v18 v19 v4
  let c0_i32_4 : BitVec 32 := 0#32
  ![v20.toNat, 0]
def k1_off2 (i : grid1.Coords) (c100_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c200_i32 : BitVec 32 := 200#32
  let v3 : BitVec 32 := Scalar.muli v2 c200_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c128_i32 : BitVec 32 := 128#32
  let c0_i32_1 : BitVec 32 := 0#32
  let v10 : BitVec 1 := Scalar.cmpi .sgt c128_i32 c0_i32_1
  let v11 : BitVec 32 := Scalar.extui v10
  let c0_i32_2 : BitVec 32 := 0#32
  let v12 : BitVec 1 := Scalar.cmpi .slt c128_i32 c0_i32_2
  let v13 : BitVec 32 := Scalar.extui v12
  let v14 : BitVec 32 := Scalar.subi v11 v13
  let v15 : BitVec 1 := Scalar.cmpi .ne v9 v14
  let v16 : BitVec 32 := Scalar.remsi v3 c128_i32
  let c0_i32_3 : BitVec 32 := 0#32
  let v17 : BitVec 1 := Scalar.cmpi .ne v16 c0_i32_3
  let v18 : BitVec 1 := Scalar.andi v15 v17
  let v4 : BitVec 32 := Scalar.divsi v3 c128_i32
  let c1_i32 : BitVec 32 := 1#32
  let v19 : BitVec 32 := Scalar.subi v4 c1_i32
  let v20 : BitVec 32 := Scalar.select v18 v19 v4
  let v24 : BitVec 32 := Scalar.addi v20 c100_i32
  let c0_i32_6 : BitVec 32 := 0#32
  ![v24.toNat, 0]
@[reducible] def k1_t1_loop : Scf.Loop 32 :=
  let c0_i32_52 : BitVec 32 := 0#32
  let c25_i32 : BitVec 32 := 25#32
  let v126 : BitVec 32 := Scalar.addi c0_i32_52 c25_i32
  let c1_i32_53 : BitVec 32 := 1#32
  ⟨c0_i32_52, v126, c1_i32_53⟩

def k1_chk1 (v2227 : IVec S16 32) (v2229 : IVec S16 32) : Prop :=
  (∀ a x, ((![v2227, v2229] : Fin 2 → IVec S16 32) a x).toNat < S100x128.size a)
theorem k1_idx1_inb : ∀ (v2227 : IVec S16 32) (v2229 : IVec S16 32) (k1_hw1 : k1_chk1 v2227 v2229), ∀ a x, ((![v2227, v2229] : Fin 2 → IVec S16 32) a x).toNat < S100x128.size a := fun v2227 v2229 k1_hw1 => k1_hw1

def k1_chk2 (v2232 : IVec S16 32) (v2234 : IVec S16 32) : Prop :=
  (∀ a x, ((![v2232, v2234] : Fin 2 → IVec S16 32) a x).toNat < S100x128.size a)
theorem k1_idx2_inb : ∀ (v2232 : IVec S16 32) (v2234 : IVec S16 32) (k1_hw2 : k1_chk2 v2232 v2234), ∀ a x, ((![v2232, v2234] : Fin 2 → IVec S16 32) a x).toNat < S100x128.size a := fun v2232 v2234 k1_hw2 => k1_hw2

def k1_chk3 (v2230 : IVec S16 32) : Prop :=
  (∀ a x, ((![v2230] : Fin 1 → IVec S16 32) a x).toNat < S100000.size a)
theorem k1_idx3_inb : ∀ (v2230 : IVec S16 32) (k1_hw3 : k1_chk3 v2230), ∀ a x, ((![v2230] : Fin 1 → IVec S16 32) a x).toNat < S100000.size a := fun v2230 k1_hw3 => k1_hw3

def k1_chk4 (v2235 : IVec S16 32) : Prop :=
  (∀ a x, ((![v2235] : Fin 1 → IVec S16 32) a x).toNat < S100000.size a)
theorem k1_idx4_inb : ∀ (v2235 : IVec S16 32) (k1_hw4 : k1_chk4 v2235), ∀ a x, ((![v2235] : Fin 1 → IVec S16 32) a x).toNat < S100000.size a := fun v2235 k1_hw4 => k1_hw4

def k1_chk5 (v2243 : IVec S16 32) (v2245 : IVec S16 32) : Prop :=
  (∀ a x, ((![v2243, v2245] : Fin 2 → IVec S16 32) a x).toNat < S100x128.size a)
theorem k1_idx5_inb : ∀ (v2243 : IVec S16 32) (v2245 : IVec S16 32) (k1_hw5 : k1_chk5 v2243 v2245), ∀ a x, ((![v2243, v2245] : Fin 2 → IVec S16 32) a x).toNat < S100x128.size a := fun v2243 v2245 k1_hw5 => k1_hw5

def k1_chk6 (v2248 : IVec S16 32) (v2250 : IVec S16 32) : Prop :=
  (∀ a x, ((![v2248, v2250] : Fin 2 → IVec S16 32) a x).toNat < S100x128.size a)
theorem k1_idx6_inb : ∀ (v2248 : IVec S16 32) (v2250 : IVec S16 32) (k1_hw6 : k1_chk6 v2248 v2250), ∀ a x, ((![v2248, v2250] : Fin 2 → IVec S16 32) a x).toNat < S100x128.size a := fun v2248 v2250 k1_hw6 => k1_hw6

def k1_chk7 (v2246 : IVec S16 32) : Prop :=
  (∀ a x, ((![v2246] : Fin 1 → IVec S16 32) a x).toNat < S100000.size a)
theorem k1_idx7_inb : ∀ (v2246 : IVec S16 32) (k1_hw7 : k1_chk7 v2246), ∀ a x, ((![v2246] : Fin 1 → IVec S16 32) a x).toNat < S100000.size a := fun v2246 k1_hw7 => k1_hw7

def k1_chk8 (v2251 : IVec S16 32) : Prop :=
  (∀ a x, ((![v2251] : Fin 1 → IVec S16 32) a x).toNat < S100000.size a)
theorem k1_idx8_inb : ∀ (v2251 : IVec S16 32) (k1_hw8 : k1_chk8 v2251), ∀ a x, ((![v2251] : Fin 1 → IVec S16 32) a x).toNat < S100000.size a := fun v2251 k1_hw8 => k1_hw8

def k1_chk9 (v2259 : IVec S16 32) (v2261 : IVec S16 32) : Prop :=
  (∀ a x, ((![v2259, v2261] : Fin 2 → IVec S16 32) a x).toNat < S100x128.size a)
theorem k1_idx9_inb : ∀ (v2259 : IVec S16 32) (v2261 : IVec S16 32) (k1_hw9 : k1_chk9 v2259 v2261), ∀ a x, ((![v2259, v2261] : Fin 2 → IVec S16 32) a x).toNat < S100x128.size a := fun v2259 v2261 k1_hw9 => k1_hw9

def k1_chk10 (v2264 : IVec S16 32) (v2266 : IVec S16 32) : Prop :=
  (∀ a x, ((![v2264, v2266] : Fin 2 → IVec S16 32) a x).toNat < S100x128.size a)
theorem k1_idx10_inb : ∀ (v2264 : IVec S16 32) (v2266 : IVec S16 32) (k1_hw10 : k1_chk10 v2264 v2266), ∀ a x, ((![v2264, v2266] : Fin 2 → IVec S16 32) a x).toNat < S100x128.size a := fun v2264 v2266 k1_hw10 => k1_hw10

def k1_chk11 (v2262 : IVec S16 32) : Prop :=
  (∀ a x, ((![v2262] : Fin 1 → IVec S16 32) a x).toNat < S100000.size a)
theorem k1_idx11_inb : ∀ (v2262 : IVec S16 32) (k1_hw11 : k1_chk11 v2262), ∀ a x, ((![v2262] : Fin 1 → IVec S16 32) a x).toNat < S100000.size a := fun v2262 k1_hw11 => k1_hw11

def k1_chk12 (v2267 : IVec S16 32) : Prop :=
  (∀ a x, ((![v2267] : Fin 1 → IVec S16 32) a x).toNat < S100000.size a)
theorem k1_idx12_inb : ∀ (v2267 : IVec S16 32) (k1_hw12 : k1_chk12 v2267), ∀ a x, ((![v2267] : Fin 1 → IVec S16 32) a x).toNat < S100000.size a := fun v2267 k1_hw12 => k1_hw12

def k1_chk13 (v2275 : IVec S16 32) (v2277 : IVec S16 32) : Prop :=
  (∀ a x, ((![v2275, v2277] : Fin 2 → IVec S16 32) a x).toNat < S100x128.size a)
theorem k1_idx13_inb : ∀ (v2275 : IVec S16 32) (v2277 : IVec S16 32) (k1_hw13 : k1_chk13 v2275 v2277), ∀ a x, ((![v2275, v2277] : Fin 2 → IVec S16 32) a x).toNat < S100x128.size a := fun v2275 v2277 k1_hw13 => k1_hw13

def k1_chk14 (v2280 : IVec S16 32) (v2282 : IVec S16 32) : Prop :=
  (∀ a x, ((![v2280, v2282] : Fin 2 → IVec S16 32) a x).toNat < S100x128.size a)
theorem k1_idx14_inb : ∀ (v2280 : IVec S16 32) (v2282 : IVec S16 32) (k1_hw14 : k1_chk14 v2280 v2282), ∀ a x, ((![v2280, v2282] : Fin 2 → IVec S16 32) a x).toNat < S100x128.size a := fun v2280 v2282 k1_hw14 => k1_hw14

def k1_chk15 (v2278 : IVec S16 32) : Prop :=
  (∀ a x, ((![v2278] : Fin 1 → IVec S16 32) a x).toNat < S100000.size a)
theorem k1_idx15_inb : ∀ (v2278 : IVec S16 32) (k1_hw15 : k1_chk15 v2278), ∀ a x, ((![v2278] : Fin 1 → IVec S16 32) a x).toNat < S100000.size a := fun v2278 k1_hw15 => k1_hw15

def k1_chk16 (v2283 : IVec S16 32) : Prop :=
  (∀ a x, ((![v2283] : Fin 1 → IVec S16 32) a x).toNat < S100000.size a)
theorem k1_idx16_inb : ∀ (v2283 : IVec S16 32) (k1_hw16 : k1_chk16 v2283), ∀ a x, ((![v2283] : Fin 1 → IVec S16 32) a x).toNat < S100000.size a := fun v2283 k1_hw16 => k1_hw16

def k1_chk17 (v2291 : IVec S16 32) (v2293 : IVec S16 32) : Prop :=
  (∀ a x, ((![v2291, v2293] : Fin 2 → IVec S16 32) a x).toNat < S100x128.size a)
theorem k1_idx17_inb : ∀ (v2291 : IVec S16 32) (v2293 : IVec S16 32) (k1_hw17 : k1_chk17 v2291 v2293), ∀ a x, ((![v2291, v2293] : Fin 2 → IVec S16 32) a x).toNat < S100x128.size a := fun v2291 v2293 k1_hw17 => k1_hw17

def k1_chk18 (v2296 : IVec S16 32) (v2298 : IVec S16 32) : Prop :=
  (∀ a x, ((![v2296, v2298] : Fin 2 → IVec S16 32) a x).toNat < S100x128.size a)
theorem k1_idx18_inb : ∀ (v2296 : IVec S16 32) (v2298 : IVec S16 32) (k1_hw18 : k1_chk18 v2296 v2298), ∀ a x, ((![v2296, v2298] : Fin 2 → IVec S16 32) a x).toNat < S100x128.size a := fun v2296 v2298 k1_hw18 => k1_hw18

def k1_chk19 (v2294 : IVec S16 32) : Prop :=
  (∀ a x, ((![v2294] : Fin 1 → IVec S16 32) a x).toNat < S100000.size a)
theorem k1_idx19_inb : ∀ (v2294 : IVec S16 32) (k1_hw19 : k1_chk19 v2294), ∀ a x, ((![v2294] : Fin 1 → IVec S16 32) a x).toNat < S100000.size a := fun v2294 k1_hw19 => k1_hw19

def k1_chk20 (v2299 : IVec S16 32) : Prop :=
  (∀ a x, ((![v2299] : Fin 1 → IVec S16 32) a x).toNat < S100000.size a)
theorem k1_idx20_inb : ∀ (v2299 : IVec S16 32) (k1_hw20 : k1_chk20 v2299), ∀ a x, ((![v2299] : Fin 1 → IVec S16 32) a x).toNat < S100000.size a := fun v2299 k1_hw20 => k1_hw20

def k1_chk21 (v2307 : IVec S16 32) (v2309 : IVec S16 32) : Prop :=
  (∀ a x, ((![v2307, v2309] : Fin 2 → IVec S16 32) a x).toNat < S100x128.size a)
theorem k1_idx21_inb : ∀ (v2307 : IVec S16 32) (v2309 : IVec S16 32) (k1_hw21 : k1_chk21 v2307 v2309), ∀ a x, ((![v2307, v2309] : Fin 2 → IVec S16 32) a x).toNat < S100x128.size a := fun v2307 v2309 k1_hw21 => k1_hw21

def k1_chk22 (v2312 : IVec S16 32) (v2314 : IVec S16 32) : Prop :=
  (∀ a x, ((![v2312, v2314] : Fin 2 → IVec S16 32) a x).toNat < S100x128.size a)
theorem k1_idx22_inb : ∀ (v2312 : IVec S16 32) (v2314 : IVec S16 32) (k1_hw22 : k1_chk22 v2312 v2314), ∀ a x, ((![v2312, v2314] : Fin 2 → IVec S16 32) a x).toNat < S100x128.size a := fun v2312 v2314 k1_hw22 => k1_hw22

def k1_chk23 (v2310 : IVec S16 32) : Prop :=
  (∀ a x, ((![v2310] : Fin 1 → IVec S16 32) a x).toNat < S100000.size a)
theorem k1_idx23_inb : ∀ (v2310 : IVec S16 32) (k1_hw23 : k1_chk23 v2310), ∀ a x, ((![v2310] : Fin 1 → IVec S16 32) a x).toNat < S100000.size a := fun v2310 k1_hw23 => k1_hw23

def k1_chk24 (v2315 : IVec S16 32) : Prop :=
  (∀ a x, ((![v2315] : Fin 1 → IVec S16 32) a x).toNat < S100000.size a)
theorem k1_idx24_inb : ∀ (v2315 : IVec S16 32) (k1_hw24 : k1_chk24 v2315), ∀ a x, ((![v2315] : Fin 1 → IVec S16 32) a x).toNat < S100000.size a := fun v2315 k1_hw24 => k1_hw24

def k1_chk25 (v2323 : IVec S16 32) (v2325 : IVec S16 32) : Prop :=
  (∀ a x, ((![v2323, v2325] : Fin 2 → IVec S16 32) a x).toNat < S100x128.size a)
theorem k1_idx25_inb : ∀ (v2323 : IVec S16 32) (v2325 : IVec S16 32) (k1_hw25 : k1_chk25 v2323 v2325), ∀ a x, ((![v2323, v2325] : Fin 2 → IVec S16 32) a x).toNat < S100x128.size a := fun v2323 v2325 k1_hw25 => k1_hw25

def k1_chk26 (v2328 : IVec S16 32) (v2330 : IVec S16 32) : Prop :=
  (∀ a x, ((![v2328, v2330] : Fin 2 → IVec S16 32) a x).toNat < S100x128.size a)
theorem k1_idx26_inb : ∀ (v2328 : IVec S16 32) (v2330 : IVec S16 32) (k1_hw26 : k1_chk26 v2328 v2330), ∀ a x, ((![v2328, v2330] : Fin 2 → IVec S16 32) a x).toNat < S100x128.size a := fun v2328 v2330 k1_hw26 => k1_hw26

def k1_chk27 (v2326 : IVec S16 32) : Prop :=
  (∀ a x, ((![v2326] : Fin 1 → IVec S16 32) a x).toNat < S100000.size a)
theorem k1_idx27_inb : ∀ (v2326 : IVec S16 32) (k1_hw27 : k1_chk27 v2326), ∀ a x, ((![v2326] : Fin 1 → IVec S16 32) a x).toNat < S100000.size a := fun v2326 k1_hw27 => k1_hw27

def k1_chk28 (v2331 : IVec S16 32) : Prop :=
  (∀ a x, ((![v2331] : Fin 1 → IVec S16 32) a x).toNat < S100000.size a)
theorem k1_idx28_inb : ∀ (v2331 : IVec S16 32) (k1_hw28 : k1_chk28 v2331), ∀ a x, ((![v2331] : Fin 1 → IVec S16 32) a x).toNat < S100000.size a := fun v2331 k1_hw28 => k1_hw28

def k1_chk29 (v2339 : IVec S16 32) (v2341 : IVec S16 32) : Prop :=
  (∀ a x, ((![v2339, v2341] : Fin 2 → IVec S16 32) a x).toNat < S100x128.size a)
theorem k1_idx29_inb : ∀ (v2339 : IVec S16 32) (v2341 : IVec S16 32) (k1_hw29 : k1_chk29 v2339 v2341), ∀ a x, ((![v2339, v2341] : Fin 2 → IVec S16 32) a x).toNat < S100x128.size a := fun v2339 v2341 k1_hw29 => k1_hw29

def k1_chk30 (v2344 : IVec S16 32) (v2346 : IVec S16 32) : Prop :=
  (∀ a x, ((![v2344, v2346] : Fin 2 → IVec S16 32) a x).toNat < S100x128.size a)
theorem k1_idx30_inb : ∀ (v2344 : IVec S16 32) (v2346 : IVec S16 32) (k1_hw30 : k1_chk30 v2344 v2346), ∀ a x, ((![v2344, v2346] : Fin 2 → IVec S16 32) a x).toNat < S100x128.size a := fun v2344 v2346 k1_hw30 => k1_hw30

def k1_chk31 (v2342 : IVec S16 32) : Prop :=
  (∀ a x, ((![v2342] : Fin 1 → IVec S16 32) a x).toNat < S100000.size a)
theorem k1_idx31_inb : ∀ (v2342 : IVec S16 32) (k1_hw31 : k1_chk31 v2342), ∀ a x, ((![v2342] : Fin 1 → IVec S16 32) a x).toNat < S100000.size a := fun v2342 k1_hw31 => k1_hw31

def k1_chk32 (v2347 : IVec S16 32) : Prop :=
  (∀ a x, ((![v2347] : Fin 1 → IVec S16 32) a x).toNat < S100000.size a)
theorem k1_idx32_inb : ∀ (v2347 : IVec S16 32) (k1_hw32 : k1_chk32 v2347), ∀ a x, ((![v2347] : Fin 1 → IVec S16 32) a x).toNat < S100000.size a := fun v2347 k1_hw32 => k1_hw32
@[reducible] def k1_t2_loop : Scf.Loop 32 :=
  let c0_i32_102 : BitVec 32 := 0#32
  let c25_i32_103 : BitVec 32 := 25#32
  let v227 : BitVec 32 := Scalar.addi c0_i32_102 c25_i32_103
  let c1_i32_104 : BitVec 32 := 1#32
  ⟨c0_i32_102, v227, c1_i32_104⟩

def k1_chk33 (v2227 : IVec S16 32) (v2229 : IVec S16 32) : Prop :=
  (∀ a x, ((![v2227, v2229] : Fin 2 → IVec S16 32) a x).toNat < S100x128.size a)
theorem k1_idx33_inb : ∀ (v2227 : IVec S16 32) (v2229 : IVec S16 32) (k1_hw33 : k1_chk33 v2227 v2229), ∀ a x, ((![v2227, v2229] : Fin 2 → IVec S16 32) a x).toNat < S100x128.size a := fun v2227 v2229 k1_hw33 => k1_hw33

def k1_chk34 (v2232 : IVec S16 32) (v2234 : IVec S16 32) : Prop :=
  (∀ a x, ((![v2232, v2234] : Fin 2 → IVec S16 32) a x).toNat < S100x128.size a)
theorem k1_idx34_inb : ∀ (v2232 : IVec S16 32) (v2234 : IVec S16 32) (k1_hw34 : k1_chk34 v2232 v2234), ∀ a x, ((![v2232, v2234] : Fin 2 → IVec S16 32) a x).toNat < S100x128.size a := fun v2232 v2234 k1_hw34 => k1_hw34

def k1_chk35 (v2230 : IVec S16 32) : Prop :=
  (∀ a x, ((![v2230] : Fin 1 → IVec S16 32) a x).toNat < S100000.size a)
theorem k1_idx35_inb : ∀ (v2230 : IVec S16 32) (k1_hw35 : k1_chk35 v2230), ∀ a x, ((![v2230] : Fin 1 → IVec S16 32) a x).toNat < S100000.size a := fun v2230 k1_hw35 => k1_hw35

def k1_chk36 (v2235 : IVec S16 32) : Prop :=
  (∀ a x, ((![v2235] : Fin 1 → IVec S16 32) a x).toNat < S100000.size a)
theorem k1_idx36_inb : ∀ (v2235 : IVec S16 32) (k1_hw36 : k1_chk36 v2235), ∀ a x, ((![v2235] : Fin 1 → IVec S16 32) a x).toNat < S100000.size a := fun v2235 k1_hw36 => k1_hw36

def k1_chk37 (v2243 : IVec S16 32) (v2245 : IVec S16 32) : Prop :=
  (∀ a x, ((![v2243, v2245] : Fin 2 → IVec S16 32) a x).toNat < S100x128.size a)
theorem k1_idx37_inb : ∀ (v2243 : IVec S16 32) (v2245 : IVec S16 32) (k1_hw37 : k1_chk37 v2243 v2245), ∀ a x, ((![v2243, v2245] : Fin 2 → IVec S16 32) a x).toNat < S100x128.size a := fun v2243 v2245 k1_hw37 => k1_hw37

def k1_chk38 (v2248 : IVec S16 32) (v2250 : IVec S16 32) : Prop :=
  (∀ a x, ((![v2248, v2250] : Fin 2 → IVec S16 32) a x).toNat < S100x128.size a)
theorem k1_idx38_inb : ∀ (v2248 : IVec S16 32) (v2250 : IVec S16 32) (k1_hw38 : k1_chk38 v2248 v2250), ∀ a x, ((![v2248, v2250] : Fin 2 → IVec S16 32) a x).toNat < S100x128.size a := fun v2248 v2250 k1_hw38 => k1_hw38

def k1_chk39 (v2246 : IVec S16 32) : Prop :=
  (∀ a x, ((![v2246] : Fin 1 → IVec S16 32) a x).toNat < S100000.size a)
theorem k1_idx39_inb : ∀ (v2246 : IVec S16 32) (k1_hw39 : k1_chk39 v2246), ∀ a x, ((![v2246] : Fin 1 → IVec S16 32) a x).toNat < S100000.size a := fun v2246 k1_hw39 => k1_hw39

def k1_chk40 (v2251 : IVec S16 32) : Prop :=
  (∀ a x, ((![v2251] : Fin 1 → IVec S16 32) a x).toNat < S100000.size a)
theorem k1_idx40_inb : ∀ (v2251 : IVec S16 32) (k1_hw40 : k1_chk40 v2251), ∀ a x, ((![v2251] : Fin 1 → IVec S16 32) a x).toNat < S100000.size a := fun v2251 k1_hw40 => k1_hw40

def k1_chk41 (v2259 : IVec S16 32) (v2261 : IVec S16 32) : Prop :=
  (∀ a x, ((![v2259, v2261] : Fin 2 → IVec S16 32) a x).toNat < S100x128.size a)
theorem k1_idx41_inb : ∀ (v2259 : IVec S16 32) (v2261 : IVec S16 32) (k1_hw41 : k1_chk41 v2259 v2261), ∀ a x, ((![v2259, v2261] : Fin 2 → IVec S16 32) a x).toNat < S100x128.size a := fun v2259 v2261 k1_hw41 => k1_hw41

def k1_chk42 (v2264 : IVec S16 32) (v2266 : IVec S16 32) : Prop :=
  (∀ a x, ((![v2264, v2266] : Fin 2 → IVec S16 32) a x).toNat < S100x128.size a)
theorem k1_idx42_inb : ∀ (v2264 : IVec S16 32) (v2266 : IVec S16 32) (k1_hw42 : k1_chk42 v2264 v2266), ∀ a x, ((![v2264, v2266] : Fin 2 → IVec S16 32) a x).toNat < S100x128.size a := fun v2264 v2266 k1_hw42 => k1_hw42

def k1_chk43 (v2262 : IVec S16 32) : Prop :=
  (∀ a x, ((![v2262] : Fin 1 → IVec S16 32) a x).toNat < S100000.size a)
theorem k1_idx43_inb : ∀ (v2262 : IVec S16 32) (k1_hw43 : k1_chk43 v2262), ∀ a x, ((![v2262] : Fin 1 → IVec S16 32) a x).toNat < S100000.size a := fun v2262 k1_hw43 => k1_hw43

def k1_chk44 (v2267 : IVec S16 32) : Prop :=
  (∀ a x, ((![v2267] : Fin 1 → IVec S16 32) a x).toNat < S100000.size a)
theorem k1_idx44_inb : ∀ (v2267 : IVec S16 32) (k1_hw44 : k1_chk44 v2267), ∀ a x, ((![v2267] : Fin 1 → IVec S16 32) a x).toNat < S100000.size a := fun v2267 k1_hw44 => k1_hw44

def k1_chk45 (v2275 : IVec S16 32) (v2277 : IVec S16 32) : Prop :=
  (∀ a x, ((![v2275, v2277] : Fin 2 → IVec S16 32) a x).toNat < S100x128.size a)
theorem k1_idx45_inb : ∀ (v2275 : IVec S16 32) (v2277 : IVec S16 32) (k1_hw45 : k1_chk45 v2275 v2277), ∀ a x, ((![v2275, v2277] : Fin 2 → IVec S16 32) a x).toNat < S100x128.size a := fun v2275 v2277 k1_hw45 => k1_hw45

def k1_chk46 (v2280 : IVec S16 32) (v2282 : IVec S16 32) : Prop :=
  (∀ a x, ((![v2280, v2282] : Fin 2 → IVec S16 32) a x).toNat < S100x128.size a)
theorem k1_idx46_inb : ∀ (v2280 : IVec S16 32) (v2282 : IVec S16 32) (k1_hw46 : k1_chk46 v2280 v2282), ∀ a x, ((![v2280, v2282] : Fin 2 → IVec S16 32) a x).toNat < S100x128.size a := fun v2280 v2282 k1_hw46 => k1_hw46

def k1_chk47 (v2278 : IVec S16 32) : Prop :=
  (∀ a x, ((![v2278] : Fin 1 → IVec S16 32) a x).toNat < S100000.size a)
theorem k1_idx47_inb : ∀ (v2278 : IVec S16 32) (k1_hw47 : k1_chk47 v2278), ∀ a x, ((![v2278] : Fin 1 → IVec S16 32) a x).toNat < S100000.size a := fun v2278 k1_hw47 => k1_hw47

def k1_chk48 (v2283 : IVec S16 32) : Prop :=
  (∀ a x, ((![v2283] : Fin 1 → IVec S16 32) a x).toNat < S100000.size a)
theorem k1_idx48_inb : ∀ (v2283 : IVec S16 32) (k1_hw48 : k1_chk48 v2283), ∀ a x, ((![v2283] : Fin 1 → IVec S16 32) a x).toNat < S100000.size a := fun v2283 k1_hw48 => k1_hw48

def k1_chk49 (v2291 : IVec S16 32) (v2293 : IVec S16 32) : Prop :=
  (∀ a x, ((![v2291, v2293] : Fin 2 → IVec S16 32) a x).toNat < S100x128.size a)
theorem k1_idx49_inb : ∀ (v2291 : IVec S16 32) (v2293 : IVec S16 32) (k1_hw49 : k1_chk49 v2291 v2293), ∀ a x, ((![v2291, v2293] : Fin 2 → IVec S16 32) a x).toNat < S100x128.size a := fun v2291 v2293 k1_hw49 => k1_hw49

def k1_chk50 (v2296 : IVec S16 32) (v2298 : IVec S16 32) : Prop :=
  (∀ a x, ((![v2296, v2298] : Fin 2 → IVec S16 32) a x).toNat < S100x128.size a)
theorem k1_idx50_inb : ∀ (v2296 : IVec S16 32) (v2298 : IVec S16 32) (k1_hw50 : k1_chk50 v2296 v2298), ∀ a x, ((![v2296, v2298] : Fin 2 → IVec S16 32) a x).toNat < S100x128.size a := fun v2296 v2298 k1_hw50 => k1_hw50

def k1_chk51 (v2294 : IVec S16 32) : Prop :=
  (∀ a x, ((![v2294] : Fin 1 → IVec S16 32) a x).toNat < S100000.size a)
theorem k1_idx51_inb : ∀ (v2294 : IVec S16 32) (k1_hw51 : k1_chk51 v2294), ∀ a x, ((![v2294] : Fin 1 → IVec S16 32) a x).toNat < S100000.size a := fun v2294 k1_hw51 => k1_hw51

def k1_chk52 (v2299 : IVec S16 32) : Prop :=
  (∀ a x, ((![v2299] : Fin 1 → IVec S16 32) a x).toNat < S100000.size a)
theorem k1_idx52_inb : ∀ (v2299 : IVec S16 32) (k1_hw52 : k1_chk52 v2299), ∀ a x, ((![v2299] : Fin 1 → IVec S16 32) a x).toNat < S100000.size a := fun v2299 k1_hw52 => k1_hw52

def k1_chk53 (v2307 : IVec S16 32) (v2309 : IVec S16 32) : Prop :=
  (∀ a x, ((![v2307, v2309] : Fin 2 → IVec S16 32) a x).toNat < S100x128.size a)
theorem k1_idx53_inb : ∀ (v2307 : IVec S16 32) (v2309 : IVec S16 32) (k1_hw53 : k1_chk53 v2307 v2309), ∀ a x, ((![v2307, v2309] : Fin 2 → IVec S16 32) a x).toNat < S100x128.size a := fun v2307 v2309 k1_hw53 => k1_hw53

def k1_chk54 (v2312 : IVec S16 32) (v2314 : IVec S16 32) : Prop :=
  (∀ a x, ((![v2312, v2314] : Fin 2 → IVec S16 32) a x).toNat < S100x128.size a)
theorem k1_idx54_inb : ∀ (v2312 : IVec S16 32) (v2314 : IVec S16 32) (k1_hw54 : k1_chk54 v2312 v2314), ∀ a x, ((![v2312, v2314] : Fin 2 → IVec S16 32) a x).toNat < S100x128.size a := fun v2312 v2314 k1_hw54 => k1_hw54

def k1_chk55 (v2310 : IVec S16 32) : Prop :=
  (∀ a x, ((![v2310] : Fin 1 → IVec S16 32) a x).toNat < S100000.size a)
theorem k1_idx55_inb : ∀ (v2310 : IVec S16 32) (k1_hw55 : k1_chk55 v2310), ∀ a x, ((![v2310] : Fin 1 → IVec S16 32) a x).toNat < S100000.size a := fun v2310 k1_hw55 => k1_hw55

def k1_chk56 (v2315 : IVec S16 32) : Prop :=
  (∀ a x, ((![v2315] : Fin 1 → IVec S16 32) a x).toNat < S100000.size a)
theorem k1_idx56_inb : ∀ (v2315 : IVec S16 32) (k1_hw56 : k1_chk56 v2315), ∀ a x, ((![v2315] : Fin 1 → IVec S16 32) a x).toNat < S100000.size a := fun v2315 k1_hw56 => k1_hw56

def k1_chk57 (v2323 : IVec S16 32) (v2325 : IVec S16 32) : Prop :=
  (∀ a x, ((![v2323, v2325] : Fin 2 → IVec S16 32) a x).toNat < S100x128.size a)
theorem k1_idx57_inb : ∀ (v2323 : IVec S16 32) (v2325 : IVec S16 32) (k1_hw57 : k1_chk57 v2323 v2325), ∀ a x, ((![v2323, v2325] : Fin 2 → IVec S16 32) a x).toNat < S100x128.size a := fun v2323 v2325 k1_hw57 => k1_hw57

def k1_chk58 (v2328 : IVec S16 32) (v2330 : IVec S16 32) : Prop :=
  (∀ a x, ((![v2328, v2330] : Fin 2 → IVec S16 32) a x).toNat < S100x128.size a)
theorem k1_idx58_inb : ∀ (v2328 : IVec S16 32) (v2330 : IVec S16 32) (k1_hw58 : k1_chk58 v2328 v2330), ∀ a x, ((![v2328, v2330] : Fin 2 → IVec S16 32) a x).toNat < S100x128.size a := fun v2328 v2330 k1_hw58 => k1_hw58

def k1_chk59 (v2326 : IVec S16 32) : Prop :=
  (∀ a x, ((![v2326] : Fin 1 → IVec S16 32) a x).toNat < S100000.size a)
theorem k1_idx59_inb : ∀ (v2326 : IVec S16 32) (k1_hw59 : k1_chk59 v2326), ∀ a x, ((![v2326] : Fin 1 → IVec S16 32) a x).toNat < S100000.size a := fun v2326 k1_hw59 => k1_hw59

def k1_chk60 (v2331 : IVec S16 32) : Prop :=
  (∀ a x, ((![v2331] : Fin 1 → IVec S16 32) a x).toNat < S100000.size a)
theorem k1_idx60_inb : ∀ (v2331 : IVec S16 32) (k1_hw60 : k1_chk60 v2331), ∀ a x, ((![v2331] : Fin 1 → IVec S16 32) a x).toNat < S100000.size a := fun v2331 k1_hw60 => k1_hw60

def k1_chk61 (v2339 : IVec S16 32) (v2341 : IVec S16 32) : Prop :=
  (∀ a x, ((![v2339, v2341] : Fin 2 → IVec S16 32) a x).toNat < S100x128.size a)
theorem k1_idx61_inb : ∀ (v2339 : IVec S16 32) (v2341 : IVec S16 32) (k1_hw61 : k1_chk61 v2339 v2341), ∀ a x, ((![v2339, v2341] : Fin 2 → IVec S16 32) a x).toNat < S100x128.size a := fun v2339 v2341 k1_hw61 => k1_hw61

def k1_chk62 (v2344 : IVec S16 32) (v2346 : IVec S16 32) : Prop :=
  (∀ a x, ((![v2344, v2346] : Fin 2 → IVec S16 32) a x).toNat < S100x128.size a)
theorem k1_idx62_inb : ∀ (v2344 : IVec S16 32) (v2346 : IVec S16 32) (k1_hw62 : k1_chk62 v2344 v2346), ∀ a x, ((![v2344, v2346] : Fin 2 → IVec S16 32) a x).toNat < S100x128.size a := fun v2344 v2346 k1_hw62 => k1_hw62

def k1_chk63 (v2342 : IVec S16 32) : Prop :=
  (∀ a x, ((![v2342] : Fin 1 → IVec S16 32) a x).toNat < S100000.size a)
theorem k1_idx63_inb : ∀ (v2342 : IVec S16 32) (k1_hw63 : k1_chk63 v2342), ∀ a x, ((![v2342] : Fin 1 → IVec S16 32) a x).toNat < S100000.size a := fun v2342 k1_hw63 => k1_hw63

def k1_chk64 (v2347 : IVec S16 32) : Prop :=
  (∀ a x, ((![v2347] : Fin 1 → IVec S16 32) a x).toNat < S100000.size a)
theorem k1_idx64_inb : ∀ (v2347 : IVec S16 32) (k1_hw64 : k1_chk64 v2347), ∀ a x, ((![v2347] : Fin 1 → IVec S16 32) a x).toNat < S100000.size a := fun v2347 k1_hw64 => k1_hw64
@[reducible] def k1_t3_loop : Scf.Loop 32 :=
  let c0_i32_160 : BitVec 32 := 0#32
  let c25_i32_161 : BitVec 32 := 25#32
  let v333 : BitVec 32 := Scalar.addi c0_i32_160 c25_i32_161
  let c1_i32_162 : BitVec 32 := 1#32
  ⟨c0_i32_160, v333, c1_i32_162⟩

def k1_chk65 (v2227 : IVec S16 32) (v2229 : IVec S16 32) : Prop :=
  (∀ a x, ((![v2227, v2229] : Fin 2 → IVec S16 32) a x).toNat < S100x128.size a)
theorem k1_idx65_inb : ∀ (v2227 : IVec S16 32) (v2229 : IVec S16 32) (k1_hw65 : k1_chk65 v2227 v2229), ∀ a x, ((![v2227, v2229] : Fin 2 → IVec S16 32) a x).toNat < S100x128.size a := fun v2227 v2229 k1_hw65 => k1_hw65

def k1_chk66 (v2232 : IVec S16 32) (v2234 : IVec S16 32) : Prop :=
  (∀ a x, ((![v2232, v2234] : Fin 2 → IVec S16 32) a x).toNat < S100x128.size a)
theorem k1_idx66_inb : ∀ (v2232 : IVec S16 32) (v2234 : IVec S16 32) (k1_hw66 : k1_chk66 v2232 v2234), ∀ a x, ((![v2232, v2234] : Fin 2 → IVec S16 32) a x).toNat < S100x128.size a := fun v2232 v2234 k1_hw66 => k1_hw66

def k1_chk67 (v2230 : IVec S16 32) : Prop :=
  (∀ a x, ((![v2230] : Fin 1 → IVec S16 32) a x).toNat < S100000.size a)
theorem k1_idx67_inb : ∀ (v2230 : IVec S16 32) (k1_hw67 : k1_chk67 v2230), ∀ a x, ((![v2230] : Fin 1 → IVec S16 32) a x).toNat < S100000.size a := fun v2230 k1_hw67 => k1_hw67

def k1_chk68 (v2235 : IVec S16 32) : Prop :=
  (∀ a x, ((![v2235] : Fin 1 → IVec S16 32) a x).toNat < S100000.size a)
theorem k1_idx68_inb : ∀ (v2235 : IVec S16 32) (k1_hw68 : k1_chk68 v2235), ∀ a x, ((![v2235] : Fin 1 → IVec S16 32) a x).toNat < S100000.size a := fun v2235 k1_hw68 => k1_hw68

def k1_chk69 (v2243 : IVec S16 32) (v2245 : IVec S16 32) : Prop :=
  (∀ a x, ((![v2243, v2245] : Fin 2 → IVec S16 32) a x).toNat < S100x128.size a)
theorem k1_idx69_inb : ∀ (v2243 : IVec S16 32) (v2245 : IVec S16 32) (k1_hw69 : k1_chk69 v2243 v2245), ∀ a x, ((![v2243, v2245] : Fin 2 → IVec S16 32) a x).toNat < S100x128.size a := fun v2243 v2245 k1_hw69 => k1_hw69

def k1_chk70 (v2248 : IVec S16 32) (v2250 : IVec S16 32) : Prop :=
  (∀ a x, ((![v2248, v2250] : Fin 2 → IVec S16 32) a x).toNat < S100x128.size a)
theorem k1_idx70_inb : ∀ (v2248 : IVec S16 32) (v2250 : IVec S16 32) (k1_hw70 : k1_chk70 v2248 v2250), ∀ a x, ((![v2248, v2250] : Fin 2 → IVec S16 32) a x).toNat < S100x128.size a := fun v2248 v2250 k1_hw70 => k1_hw70

def k1_chk71 (v2246 : IVec S16 32) : Prop :=
  (∀ a x, ((![v2246] : Fin 1 → IVec S16 32) a x).toNat < S100000.size a)
theorem k1_idx71_inb : ∀ (v2246 : IVec S16 32) (k1_hw71 : k1_chk71 v2246), ∀ a x, ((![v2246] : Fin 1 → IVec S16 32) a x).toNat < S100000.size a := fun v2246 k1_hw71 => k1_hw71

def k1_chk72 (v2251 : IVec S16 32) : Prop :=
  (∀ a x, ((![v2251] : Fin 1 → IVec S16 32) a x).toNat < S100000.size a)
theorem k1_idx72_inb : ∀ (v2251 : IVec S16 32) (k1_hw72 : k1_chk72 v2251), ∀ a x, ((![v2251] : Fin 1 → IVec S16 32) a x).toNat < S100000.size a := fun v2251 k1_hw72 => k1_hw72

def k1_chk73 (v2259 : IVec S16 32) (v2261 : IVec S16 32) : Prop :=
  (∀ a x, ((![v2259, v2261] : Fin 2 → IVec S16 32) a x).toNat < S100x128.size a)
theorem k1_idx73_inb : ∀ (v2259 : IVec S16 32) (v2261 : IVec S16 32) (k1_hw73 : k1_chk73 v2259 v2261), ∀ a x, ((![v2259, v2261] : Fin 2 → IVec S16 32) a x).toNat < S100x128.size a := fun v2259 v2261 k1_hw73 => k1_hw73

def k1_chk74 (v2264 : IVec S16 32) (v2266 : IVec S16 32) : Prop :=
  (∀ a x, ((![v2264, v2266] : Fin 2 → IVec S16 32) a x).toNat < S100x128.size a)
theorem k1_idx74_inb : ∀ (v2264 : IVec S16 32) (v2266 : IVec S16 32) (k1_hw74 : k1_chk74 v2264 v2266), ∀ a x, ((![v2264, v2266] : Fin 2 → IVec S16 32) a x).toNat < S100x128.size a := fun v2264 v2266 k1_hw74 => k1_hw74

def k1_chk75 (v2262 : IVec S16 32) : Prop :=
  (∀ a x, ((![v2262] : Fin 1 → IVec S16 32) a x).toNat < S100000.size a)
theorem k1_idx75_inb : ∀ (v2262 : IVec S16 32) (k1_hw75 : k1_chk75 v2262), ∀ a x, ((![v2262] : Fin 1 → IVec S16 32) a x).toNat < S100000.size a := fun v2262 k1_hw75 => k1_hw75

def k1_chk76 (v2267 : IVec S16 32) : Prop :=
  (∀ a x, ((![v2267] : Fin 1 → IVec S16 32) a x).toNat < S100000.size a)
theorem k1_idx76_inb : ∀ (v2267 : IVec S16 32) (k1_hw76 : k1_chk76 v2267), ∀ a x, ((![v2267] : Fin 1 → IVec S16 32) a x).toNat < S100000.size a := fun v2267 k1_hw76 => k1_hw76

def k1_chk77 (v2275 : IVec S16 32) (v2277 : IVec S16 32) : Prop :=
  (∀ a x, ((![v2275, v2277] : Fin 2 → IVec S16 32) a x).toNat < S100x128.size a)
theorem k1_idx77_inb : ∀ (v2275 : IVec S16 32) (v2277 : IVec S16 32) (k1_hw77 : k1_chk77 v2275 v2277), ∀ a x, ((![v2275, v2277] : Fin 2 → IVec S16 32) a x).toNat < S100x128.size a := fun v2275 v2277 k1_hw77 => k1_hw77

def k1_chk78 (v2280 : IVec S16 32) (v2282 : IVec S16 32) : Prop :=
  (∀ a x, ((![v2280, v2282] : Fin 2 → IVec S16 32) a x).toNat < S100x128.size a)
theorem k1_idx78_inb : ∀ (v2280 : IVec S16 32) (v2282 : IVec S16 32) (k1_hw78 : k1_chk78 v2280 v2282), ∀ a x, ((![v2280, v2282] : Fin 2 → IVec S16 32) a x).toNat < S100x128.size a := fun v2280 v2282 k1_hw78 => k1_hw78

def k1_chk79 (v2278 : IVec S16 32) : Prop :=
  (∀ a x, ((![v2278] : Fin 1 → IVec S16 32) a x).toNat < S100000.size a)
theorem k1_idx79_inb : ∀ (v2278 : IVec S16 32) (k1_hw79 : k1_chk79 v2278), ∀ a x, ((![v2278] : Fin 1 → IVec S16 32) a x).toNat < S100000.size a := fun v2278 k1_hw79 => k1_hw79

def k1_chk80 (v2283 : IVec S16 32) : Prop :=
  (∀ a x, ((![v2283] : Fin 1 → IVec S16 32) a x).toNat < S100000.size a)
theorem k1_idx80_inb : ∀ (v2283 : IVec S16 32) (k1_hw80 : k1_chk80 v2283), ∀ a x, ((![v2283] : Fin 1 → IVec S16 32) a x).toNat < S100000.size a := fun v2283 k1_hw80 => k1_hw80

def k1_chk81 (v2291 : IVec S16 32) (v2293 : IVec S16 32) : Prop :=
  (∀ a x, ((![v2291, v2293] : Fin 2 → IVec S16 32) a x).toNat < S100x128.size a)
theorem k1_idx81_inb : ∀ (v2291 : IVec S16 32) (v2293 : IVec S16 32) (k1_hw81 : k1_chk81 v2291 v2293), ∀ a x, ((![v2291, v2293] : Fin 2 → IVec S16 32) a x).toNat < S100x128.size a := fun v2291 v2293 k1_hw81 => k1_hw81

def k1_chk82 (v2296 : IVec S16 32) (v2298 : IVec S16 32) : Prop :=
  (∀ a x, ((![v2296, v2298] : Fin 2 → IVec S16 32) a x).toNat < S100x128.size a)
theorem k1_idx82_inb : ∀ (v2296 : IVec S16 32) (v2298 : IVec S16 32) (k1_hw82 : k1_chk82 v2296 v2298), ∀ a x, ((![v2296, v2298] : Fin 2 → IVec S16 32) a x).toNat < S100x128.size a := fun v2296 v2298 k1_hw82 => k1_hw82

def k1_chk83 (v2294 : IVec S16 32) : Prop :=
  (∀ a x, ((![v2294] : Fin 1 → IVec S16 32) a x).toNat < S100000.size a)
theorem k1_idx83_inb : ∀ (v2294 : IVec S16 32) (k1_hw83 : k1_chk83 v2294), ∀ a x, ((![v2294] : Fin 1 → IVec S16 32) a x).toNat < S100000.size a := fun v2294 k1_hw83 => k1_hw83

def k1_chk84 (v2299 : IVec S16 32) : Prop :=
  (∀ a x, ((![v2299] : Fin 1 → IVec S16 32) a x).toNat < S100000.size a)
theorem k1_idx84_inb : ∀ (v2299 : IVec S16 32) (k1_hw84 : k1_chk84 v2299), ∀ a x, ((![v2299] : Fin 1 → IVec S16 32) a x).toNat < S100000.size a := fun v2299 k1_hw84 => k1_hw84

def k1_chk85 (v2307 : IVec S16 32) (v2309 : IVec S16 32) : Prop :=
  (∀ a x, ((![v2307, v2309] : Fin 2 → IVec S16 32) a x).toNat < S100x128.size a)
theorem k1_idx85_inb : ∀ (v2307 : IVec S16 32) (v2309 : IVec S16 32) (k1_hw85 : k1_chk85 v2307 v2309), ∀ a x, ((![v2307, v2309] : Fin 2 → IVec S16 32) a x).toNat < S100x128.size a := fun v2307 v2309 k1_hw85 => k1_hw85

def k1_chk86 (v2312 : IVec S16 32) (v2314 : IVec S16 32) : Prop :=
  (∀ a x, ((![v2312, v2314] : Fin 2 → IVec S16 32) a x).toNat < S100x128.size a)
theorem k1_idx86_inb : ∀ (v2312 : IVec S16 32) (v2314 : IVec S16 32) (k1_hw86 : k1_chk86 v2312 v2314), ∀ a x, ((![v2312, v2314] : Fin 2 → IVec S16 32) a x).toNat < S100x128.size a := fun v2312 v2314 k1_hw86 => k1_hw86

def k1_chk87 (v2310 : IVec S16 32) : Prop :=
  (∀ a x, ((![v2310] : Fin 1 → IVec S16 32) a x).toNat < S100000.size a)
theorem k1_idx87_inb : ∀ (v2310 : IVec S16 32) (k1_hw87 : k1_chk87 v2310), ∀ a x, ((![v2310] : Fin 1 → IVec S16 32) a x).toNat < S100000.size a := fun v2310 k1_hw87 => k1_hw87

def k1_chk88 (v2315 : IVec S16 32) : Prop :=
  (∀ a x, ((![v2315] : Fin 1 → IVec S16 32) a x).toNat < S100000.size a)
theorem k1_idx88_inb : ∀ (v2315 : IVec S16 32) (k1_hw88 : k1_chk88 v2315), ∀ a x, ((![v2315] : Fin 1 → IVec S16 32) a x).toNat < S100000.size a := fun v2315 k1_hw88 => k1_hw88

def k1_chk89 (v2323 : IVec S16 32) (v2325 : IVec S16 32) : Prop :=
  (∀ a x, ((![v2323, v2325] : Fin 2 → IVec S16 32) a x).toNat < S100x128.size a)
theorem k1_idx89_inb : ∀ (v2323 : IVec S16 32) (v2325 : IVec S16 32) (k1_hw89 : k1_chk89 v2323 v2325), ∀ a x, ((![v2323, v2325] : Fin 2 → IVec S16 32) a x).toNat < S100x128.size a := fun v2323 v2325 k1_hw89 => k1_hw89

def k1_chk90 (v2328 : IVec S16 32) (v2330 : IVec S16 32) : Prop :=
  (∀ a x, ((![v2328, v2330] : Fin 2 → IVec S16 32) a x).toNat < S100x128.size a)
theorem k1_idx90_inb : ∀ (v2328 : IVec S16 32) (v2330 : IVec S16 32) (k1_hw90 : k1_chk90 v2328 v2330), ∀ a x, ((![v2328, v2330] : Fin 2 → IVec S16 32) a x).toNat < S100x128.size a := fun v2328 v2330 k1_hw90 => k1_hw90

def k1_chk91 (v2326 : IVec S16 32) : Prop :=
  (∀ a x, ((![v2326] : Fin 1 → IVec S16 32) a x).toNat < S100000.size a)
theorem k1_idx91_inb : ∀ (v2326 : IVec S16 32) (k1_hw91 : k1_chk91 v2326), ∀ a x, ((![v2326] : Fin 1 → IVec S16 32) a x).toNat < S100000.size a := fun v2326 k1_hw91 => k1_hw91

def k1_chk92 (v2331 : IVec S16 32) : Prop :=
  (∀ a x, ((![v2331] : Fin 1 → IVec S16 32) a x).toNat < S100000.size a)
theorem k1_idx92_inb : ∀ (v2331 : IVec S16 32) (k1_hw92 : k1_chk92 v2331), ∀ a x, ((![v2331] : Fin 1 → IVec S16 32) a x).toNat < S100000.size a := fun v2331 k1_hw92 => k1_hw92

def k1_chk93 (v2339 : IVec S16 32) (v2341 : IVec S16 32) : Prop :=
  (∀ a x, ((![v2339, v2341] : Fin 2 → IVec S16 32) a x).toNat < S100x128.size a)
theorem k1_idx93_inb : ∀ (v2339 : IVec S16 32) (v2341 : IVec S16 32) (k1_hw93 : k1_chk93 v2339 v2341), ∀ a x, ((![v2339, v2341] : Fin 2 → IVec S16 32) a x).toNat < S100x128.size a := fun v2339 v2341 k1_hw93 => k1_hw93

def k1_chk94 (v2344 : IVec S16 32) (v2346 : IVec S16 32) : Prop :=
  (∀ a x, ((![v2344, v2346] : Fin 2 → IVec S16 32) a x).toNat < S100x128.size a)
theorem k1_idx94_inb : ∀ (v2344 : IVec S16 32) (v2346 : IVec S16 32) (k1_hw94 : k1_chk94 v2344 v2346), ∀ a x, ((![v2344, v2346] : Fin 2 → IVec S16 32) a x).toNat < S100x128.size a := fun v2344 v2346 k1_hw94 => k1_hw94

def k1_chk95 (v2342 : IVec S16 32) : Prop :=
  (∀ a x, ((![v2342] : Fin 1 → IVec S16 32) a x).toNat < S100000.size a)
theorem k1_idx95_inb : ∀ (v2342 : IVec S16 32) (k1_hw95 : k1_chk95 v2342), ∀ a x, ((![v2342] : Fin 1 → IVec S16 32) a x).toNat < S100000.size a := fun v2342 k1_hw95 => k1_hw95

def k1_chk96 (v2347 : IVec S16 32) : Prop :=
  (∀ a x, ((![v2347] : Fin 1 → IVec S16 32) a x).toNat < S100000.size a)
theorem k1_idx96_inb : ∀ (v2347 : IVec S16 32) (k1_hw96 : k1_chk96 v2347), ∀ a x, ((![v2347] : Fin 1 → IVec S16 32) a x).toNat < S100000.size a := fun v2347 k1_hw96 => k1_hw96
@[reducible] def k1_t4_loop : Scf.Loop 32 :=
  let c0_i32_213 : BitVec 32 := 0#32
  let c25_i32_214 : BitVec 32 := 25#32
  let v434 : BitVec 32 := Scalar.addi c0_i32_213 c25_i32_214
  let c1_i32_215 : BitVec 32 := 1#32
  ⟨c0_i32_213, v434, c1_i32_215⟩

def k1_chk97 (v2227 : IVec S16 32) (v2229 : IVec S16 32) : Prop :=
  (∀ a x, ((![v2227, v2229] : Fin 2 → IVec S16 32) a x).toNat < S100x128.size a)
theorem k1_idx97_inb : ∀ (v2227 : IVec S16 32) (v2229 : IVec S16 32) (k1_hw97 : k1_chk97 v2227 v2229), ∀ a x, ((![v2227, v2229] : Fin 2 → IVec S16 32) a x).toNat < S100x128.size a := fun v2227 v2229 k1_hw97 => k1_hw97

def k1_chk98 (v2232 : IVec S16 32) (v2234 : IVec S16 32) : Prop :=
  (∀ a x, ((![v2232, v2234] : Fin 2 → IVec S16 32) a x).toNat < S100x128.size a)
theorem k1_idx98_inb : ∀ (v2232 : IVec S16 32) (v2234 : IVec S16 32) (k1_hw98 : k1_chk98 v2232 v2234), ∀ a x, ((![v2232, v2234] : Fin 2 → IVec S16 32) a x).toNat < S100x128.size a := fun v2232 v2234 k1_hw98 => k1_hw98

def k1_chk99 (v2230 : IVec S16 32) : Prop :=
  (∀ a x, ((![v2230] : Fin 1 → IVec S16 32) a x).toNat < S100000.size a)
theorem k1_idx99_inb : ∀ (v2230 : IVec S16 32) (k1_hw99 : k1_chk99 v2230), ∀ a x, ((![v2230] : Fin 1 → IVec S16 32) a x).toNat < S100000.size a := fun v2230 k1_hw99 => k1_hw99

def k1_chk100 (v2235 : IVec S16 32) : Prop :=
  (∀ a x, ((![v2235] : Fin 1 → IVec S16 32) a x).toNat < S100000.size a)
theorem k1_idx100_inb : ∀ (v2235 : IVec S16 32) (k1_hw100 : k1_chk100 v2235), ∀ a x, ((![v2235] : Fin 1 → IVec S16 32) a x).toNat < S100000.size a := fun v2235 k1_hw100 => k1_hw100

def k1_chk101 (v2243 : IVec S16 32) (v2245 : IVec S16 32) : Prop :=
  (∀ a x, ((![v2243, v2245] : Fin 2 → IVec S16 32) a x).toNat < S100x128.size a)
theorem k1_idx101_inb : ∀ (v2243 : IVec S16 32) (v2245 : IVec S16 32) (k1_hw101 : k1_chk101 v2243 v2245), ∀ a x, ((![v2243, v2245] : Fin 2 → IVec S16 32) a x).toNat < S100x128.size a := fun v2243 v2245 k1_hw101 => k1_hw101

def k1_chk102 (v2248 : IVec S16 32) (v2250 : IVec S16 32) : Prop :=
  (∀ a x, ((![v2248, v2250] : Fin 2 → IVec S16 32) a x).toNat < S100x128.size a)
theorem k1_idx102_inb : ∀ (v2248 : IVec S16 32) (v2250 : IVec S16 32) (k1_hw102 : k1_chk102 v2248 v2250), ∀ a x, ((![v2248, v2250] : Fin 2 → IVec S16 32) a x).toNat < S100x128.size a := fun v2248 v2250 k1_hw102 => k1_hw102

def k1_chk103 (v2246 : IVec S16 32) : Prop :=
  (∀ a x, ((![v2246] : Fin 1 → IVec S16 32) a x).toNat < S100000.size a)
theorem k1_idx103_inb : ∀ (v2246 : IVec S16 32) (k1_hw103 : k1_chk103 v2246), ∀ a x, ((![v2246] : Fin 1 → IVec S16 32) a x).toNat < S100000.size a := fun v2246 k1_hw103 => k1_hw103

def k1_chk104 (v2251 : IVec S16 32) : Prop :=
  (∀ a x, ((![v2251] : Fin 1 → IVec S16 32) a x).toNat < S100000.size a)
theorem k1_idx104_inb : ∀ (v2251 : IVec S16 32) (k1_hw104 : k1_chk104 v2251), ∀ a x, ((![v2251] : Fin 1 → IVec S16 32) a x).toNat < S100000.size a := fun v2251 k1_hw104 => k1_hw104

def k1_chk105 (v2259 : IVec S16 32) (v2261 : IVec S16 32) : Prop :=
  (∀ a x, ((![v2259, v2261] : Fin 2 → IVec S16 32) a x).toNat < S100x128.size a)
theorem k1_idx105_inb : ∀ (v2259 : IVec S16 32) (v2261 : IVec S16 32) (k1_hw105 : k1_chk105 v2259 v2261), ∀ a x, ((![v2259, v2261] : Fin 2 → IVec S16 32) a x).toNat < S100x128.size a := fun v2259 v2261 k1_hw105 => k1_hw105

def k1_chk106 (v2264 : IVec S16 32) (v2266 : IVec S16 32) : Prop :=
  (∀ a x, ((![v2264, v2266] : Fin 2 → IVec S16 32) a x).toNat < S100x128.size a)
theorem k1_idx106_inb : ∀ (v2264 : IVec S16 32) (v2266 : IVec S16 32) (k1_hw106 : k1_chk106 v2264 v2266), ∀ a x, ((![v2264, v2266] : Fin 2 → IVec S16 32) a x).toNat < S100x128.size a := fun v2264 v2266 k1_hw106 => k1_hw106

def k1_chk107 (v2262 : IVec S16 32) : Prop :=
  (∀ a x, ((![v2262] : Fin 1 → IVec S16 32) a x).toNat < S100000.size a)
theorem k1_idx107_inb : ∀ (v2262 : IVec S16 32) (k1_hw107 : k1_chk107 v2262), ∀ a x, ((![v2262] : Fin 1 → IVec S16 32) a x).toNat < S100000.size a := fun v2262 k1_hw107 => k1_hw107

def k1_chk108 (v2267 : IVec S16 32) : Prop :=
  (∀ a x, ((![v2267] : Fin 1 → IVec S16 32) a x).toNat < S100000.size a)
theorem k1_idx108_inb : ∀ (v2267 : IVec S16 32) (k1_hw108 : k1_chk108 v2267), ∀ a x, ((![v2267] : Fin 1 → IVec S16 32) a x).toNat < S100000.size a := fun v2267 k1_hw108 => k1_hw108

def k1_chk109 (v2275 : IVec S16 32) (v2277 : IVec S16 32) : Prop :=
  (∀ a x, ((![v2275, v2277] : Fin 2 → IVec S16 32) a x).toNat < S100x128.size a)
theorem k1_idx109_inb : ∀ (v2275 : IVec S16 32) (v2277 : IVec S16 32) (k1_hw109 : k1_chk109 v2275 v2277), ∀ a x, ((![v2275, v2277] : Fin 2 → IVec S16 32) a x).toNat < S100x128.size a := fun v2275 v2277 k1_hw109 => k1_hw109

def k1_chk110 (v2280 : IVec S16 32) (v2282 : IVec S16 32) : Prop :=
  (∀ a x, ((![v2280, v2282] : Fin 2 → IVec S16 32) a x).toNat < S100x128.size a)
theorem k1_idx110_inb : ∀ (v2280 : IVec S16 32) (v2282 : IVec S16 32) (k1_hw110 : k1_chk110 v2280 v2282), ∀ a x, ((![v2280, v2282] : Fin 2 → IVec S16 32) a x).toNat < S100x128.size a := fun v2280 v2282 k1_hw110 => k1_hw110

def k1_chk111 (v2278 : IVec S16 32) : Prop :=
  (∀ a x, ((![v2278] : Fin 1 → IVec S16 32) a x).toNat < S100000.size a)
theorem k1_idx111_inb : ∀ (v2278 : IVec S16 32) (k1_hw111 : k1_chk111 v2278), ∀ a x, ((![v2278] : Fin 1 → IVec S16 32) a x).toNat < S100000.size a := fun v2278 k1_hw111 => k1_hw111

def k1_chk112 (v2283 : IVec S16 32) : Prop :=
  (∀ a x, ((![v2283] : Fin 1 → IVec S16 32) a x).toNat < S100000.size a)
theorem k1_idx112_inb : ∀ (v2283 : IVec S16 32) (k1_hw112 : k1_chk112 v2283), ∀ a x, ((![v2283] : Fin 1 → IVec S16 32) a x).toNat < S100000.size a := fun v2283 k1_hw112 => k1_hw112

def k1_chk113 (v2291 : IVec S16 32) (v2293 : IVec S16 32) : Prop :=
  (∀ a x, ((![v2291, v2293] : Fin 2 → IVec S16 32) a x).toNat < S100x128.size a)
theorem k1_idx113_inb : ∀ (v2291 : IVec S16 32) (v2293 : IVec S16 32) (k1_hw113 : k1_chk113 v2291 v2293), ∀ a x, ((![v2291, v2293] : Fin 2 → IVec S16 32) a x).toNat < S100x128.size a := fun v2291 v2293 k1_hw113 => k1_hw113

def k1_chk114 (v2296 : IVec S16 32) (v2298 : IVec S16 32) : Prop :=
  (∀ a x, ((![v2296, v2298] : Fin 2 → IVec S16 32) a x).toNat < S100x128.size a)
theorem k1_idx114_inb : ∀ (v2296 : IVec S16 32) (v2298 : IVec S16 32) (k1_hw114 : k1_chk114 v2296 v2298), ∀ a x, ((![v2296, v2298] : Fin 2 → IVec S16 32) a x).toNat < S100x128.size a := fun v2296 v2298 k1_hw114 => k1_hw114

def k1_chk115 (v2294 : IVec S16 32) : Prop :=
  (∀ a x, ((![v2294] : Fin 1 → IVec S16 32) a x).toNat < S100000.size a)
theorem k1_idx115_inb : ∀ (v2294 : IVec S16 32) (k1_hw115 : k1_chk115 v2294), ∀ a x, ((![v2294] : Fin 1 → IVec S16 32) a x).toNat < S100000.size a := fun v2294 k1_hw115 => k1_hw115

def k1_chk116 (v2299 : IVec S16 32) : Prop :=
  (∀ a x, ((![v2299] : Fin 1 → IVec S16 32) a x).toNat < S100000.size a)
theorem k1_idx116_inb : ∀ (v2299 : IVec S16 32) (k1_hw116 : k1_chk116 v2299), ∀ a x, ((![v2299] : Fin 1 → IVec S16 32) a x).toNat < S100000.size a := fun v2299 k1_hw116 => k1_hw116

def k1_chk117 (v2307 : IVec S16 32) (v2309 : IVec S16 32) : Prop :=
  (∀ a x, ((![v2307, v2309] : Fin 2 → IVec S16 32) a x).toNat < S100x128.size a)
theorem k1_idx117_inb : ∀ (v2307 : IVec S16 32) (v2309 : IVec S16 32) (k1_hw117 : k1_chk117 v2307 v2309), ∀ a x, ((![v2307, v2309] : Fin 2 → IVec S16 32) a x).toNat < S100x128.size a := fun v2307 v2309 k1_hw117 => k1_hw117

def k1_chk118 (v2312 : IVec S16 32) (v2314 : IVec S16 32) : Prop :=
  (∀ a x, ((![v2312, v2314] : Fin 2 → IVec S16 32) a x).toNat < S100x128.size a)
theorem k1_idx118_inb : ∀ (v2312 : IVec S16 32) (v2314 : IVec S16 32) (k1_hw118 : k1_chk118 v2312 v2314), ∀ a x, ((![v2312, v2314] : Fin 2 → IVec S16 32) a x).toNat < S100x128.size a := fun v2312 v2314 k1_hw118 => k1_hw118

def k1_chk119 (v2310 : IVec S16 32) : Prop :=
  (∀ a x, ((![v2310] : Fin 1 → IVec S16 32) a x).toNat < S100000.size a)
theorem k1_idx119_inb : ∀ (v2310 : IVec S16 32) (k1_hw119 : k1_chk119 v2310), ∀ a x, ((![v2310] : Fin 1 → IVec S16 32) a x).toNat < S100000.size a := fun v2310 k1_hw119 => k1_hw119

def k1_chk120 (v2315 : IVec S16 32) : Prop :=
  (∀ a x, ((![v2315] : Fin 1 → IVec S16 32) a x).toNat < S100000.size a)
theorem k1_idx120_inb : ∀ (v2315 : IVec S16 32) (k1_hw120 : k1_chk120 v2315), ∀ a x, ((![v2315] : Fin 1 → IVec S16 32) a x).toNat < S100000.size a := fun v2315 k1_hw120 => k1_hw120

def k1_chk121 (v2323 : IVec S16 32) (v2325 : IVec S16 32) : Prop :=
  (∀ a x, ((![v2323, v2325] : Fin 2 → IVec S16 32) a x).toNat < S100x128.size a)
theorem k1_idx121_inb : ∀ (v2323 : IVec S16 32) (v2325 : IVec S16 32) (k1_hw121 : k1_chk121 v2323 v2325), ∀ a x, ((![v2323, v2325] : Fin 2 → IVec S16 32) a x).toNat < S100x128.size a := fun v2323 v2325 k1_hw121 => k1_hw121

def k1_chk122 (v2328 : IVec S16 32) (v2330 : IVec S16 32) : Prop :=
  (∀ a x, ((![v2328, v2330] : Fin 2 → IVec S16 32) a x).toNat < S100x128.size a)
theorem k1_idx122_inb : ∀ (v2328 : IVec S16 32) (v2330 : IVec S16 32) (k1_hw122 : k1_chk122 v2328 v2330), ∀ a x, ((![v2328, v2330] : Fin 2 → IVec S16 32) a x).toNat < S100x128.size a := fun v2328 v2330 k1_hw122 => k1_hw122

def k1_chk123 (v2326 : IVec S16 32) : Prop :=
  (∀ a x, ((![v2326] : Fin 1 → IVec S16 32) a x).toNat < S100000.size a)
theorem k1_idx123_inb : ∀ (v2326 : IVec S16 32) (k1_hw123 : k1_chk123 v2326), ∀ a x, ((![v2326] : Fin 1 → IVec S16 32) a x).toNat < S100000.size a := fun v2326 k1_hw123 => k1_hw123

def k1_chk124 (v2331 : IVec S16 32) : Prop :=
  (∀ a x, ((![v2331] : Fin 1 → IVec S16 32) a x).toNat < S100000.size a)
theorem k1_idx124_inb : ∀ (v2331 : IVec S16 32) (k1_hw124 : k1_chk124 v2331), ∀ a x, ((![v2331] : Fin 1 → IVec S16 32) a x).toNat < S100000.size a := fun v2331 k1_hw124 => k1_hw124

def k1_chk125 (v2339 : IVec S16 32) (v2341 : IVec S16 32) : Prop :=
  (∀ a x, ((![v2339, v2341] : Fin 2 → IVec S16 32) a x).toNat < S100x128.size a)
theorem k1_idx125_inb : ∀ (v2339 : IVec S16 32) (v2341 : IVec S16 32) (k1_hw125 : k1_chk125 v2339 v2341), ∀ a x, ((![v2339, v2341] : Fin 2 → IVec S16 32) a x).toNat < S100x128.size a := fun v2339 v2341 k1_hw125 => k1_hw125

def k1_chk126 (v2344 : IVec S16 32) (v2346 : IVec S16 32) : Prop :=
  (∀ a x, ((![v2344, v2346] : Fin 2 → IVec S16 32) a x).toNat < S100x128.size a)
theorem k1_idx126_inb : ∀ (v2344 : IVec S16 32) (v2346 : IVec S16 32) (k1_hw126 : k1_chk126 v2344 v2346), ∀ a x, ((![v2344, v2346] : Fin 2 → IVec S16 32) a x).toNat < S100x128.size a := fun v2344 v2346 k1_hw126 => k1_hw126

def k1_chk127 (v2342 : IVec S16 32) : Prop :=
  (∀ a x, ((![v2342] : Fin 1 → IVec S16 32) a x).toNat < S100000.size a)
theorem k1_idx127_inb : ∀ (v2342 : IVec S16 32) (k1_hw127 : k1_chk127 v2342), ∀ a x, ((![v2342] : Fin 1 → IVec S16 32) a x).toNat < S100000.size a := fun v2342 k1_hw127 => k1_hw127

def k1_chk128 (v2347 : IVec S16 32) : Prop :=
  (∀ a x, ((![v2347] : Fin 1 → IVec S16 32) a x).toNat < S100000.size a)
theorem k1_idx128_inb : ∀ (v2347 : IVec S16 32) (k1_hw128 : k1_chk128 v2347), ∀ a x, ((![v2347] : Fin 1 → IVec S16 32) a x).toNat < S100000.size a := fun v2347 k1_hw128 => k1_hw128
@[reducible] def k1_t5_loop : Scf.Loop 32 :=
  let c0_i32_270 : BitVec 32 := 0#32
  let c25_i32_271 : BitVec 32 := 25#32
  let v540 : BitVec 32 := Scalar.addi c0_i32_270 c25_i32_271
  let c1_i32_272 : BitVec 32 := 1#32
  ⟨c0_i32_270, v540, c1_i32_272⟩

def k1_chk129 (v2227 : IVec S16 32) (v2229 : IVec S16 32) : Prop :=
  (∀ a x, ((![v2227, v2229] : Fin 2 → IVec S16 32) a x).toNat < S100x128.size a)
theorem k1_idx129_inb : ∀ (v2227 : IVec S16 32) (v2229 : IVec S16 32) (k1_hw129 : k1_chk129 v2227 v2229), ∀ a x, ((![v2227, v2229] : Fin 2 → IVec S16 32) a x).toNat < S100x128.size a := fun v2227 v2229 k1_hw129 => k1_hw129

def k1_chk130 (v2232 : IVec S16 32) (v2234 : IVec S16 32) : Prop :=
  (∀ a x, ((![v2232, v2234] : Fin 2 → IVec S16 32) a x).toNat < S100x128.size a)
theorem k1_idx130_inb : ∀ (v2232 : IVec S16 32) (v2234 : IVec S16 32) (k1_hw130 : k1_chk130 v2232 v2234), ∀ a x, ((![v2232, v2234] : Fin 2 → IVec S16 32) a x).toNat < S100x128.size a := fun v2232 v2234 k1_hw130 => k1_hw130

def k1_chk131 (v2230 : IVec S16 32) : Prop :=
  (∀ a x, ((![v2230] : Fin 1 → IVec S16 32) a x).toNat < S100000.size a)
theorem k1_idx131_inb : ∀ (v2230 : IVec S16 32) (k1_hw131 : k1_chk131 v2230), ∀ a x, ((![v2230] : Fin 1 → IVec S16 32) a x).toNat < S100000.size a := fun v2230 k1_hw131 => k1_hw131

def k1_chk132 (v2235 : IVec S16 32) : Prop :=
  (∀ a x, ((![v2235] : Fin 1 → IVec S16 32) a x).toNat < S100000.size a)
theorem k1_idx132_inb : ∀ (v2235 : IVec S16 32) (k1_hw132 : k1_chk132 v2235), ∀ a x, ((![v2235] : Fin 1 → IVec S16 32) a x).toNat < S100000.size a := fun v2235 k1_hw132 => k1_hw132

def k1_chk133 (v2243 : IVec S16 32) (v2245 : IVec S16 32) : Prop :=
  (∀ a x, ((![v2243, v2245] : Fin 2 → IVec S16 32) a x).toNat < S100x128.size a)
theorem k1_idx133_inb : ∀ (v2243 : IVec S16 32) (v2245 : IVec S16 32) (k1_hw133 : k1_chk133 v2243 v2245), ∀ a x, ((![v2243, v2245] : Fin 2 → IVec S16 32) a x).toNat < S100x128.size a := fun v2243 v2245 k1_hw133 => k1_hw133

def k1_chk134 (v2248 : IVec S16 32) (v2250 : IVec S16 32) : Prop :=
  (∀ a x, ((![v2248, v2250] : Fin 2 → IVec S16 32) a x).toNat < S100x128.size a)
theorem k1_idx134_inb : ∀ (v2248 : IVec S16 32) (v2250 : IVec S16 32) (k1_hw134 : k1_chk134 v2248 v2250), ∀ a x, ((![v2248, v2250] : Fin 2 → IVec S16 32) a x).toNat < S100x128.size a := fun v2248 v2250 k1_hw134 => k1_hw134

def k1_chk135 (v2246 : IVec S16 32) : Prop :=
  (∀ a x, ((![v2246] : Fin 1 → IVec S16 32) a x).toNat < S100000.size a)
theorem k1_idx135_inb : ∀ (v2246 : IVec S16 32) (k1_hw135 : k1_chk135 v2246), ∀ a x, ((![v2246] : Fin 1 → IVec S16 32) a x).toNat < S100000.size a := fun v2246 k1_hw135 => k1_hw135

def k1_chk136 (v2251 : IVec S16 32) : Prop :=
  (∀ a x, ((![v2251] : Fin 1 → IVec S16 32) a x).toNat < S100000.size a)
theorem k1_idx136_inb : ∀ (v2251 : IVec S16 32) (k1_hw136 : k1_chk136 v2251), ∀ a x, ((![v2251] : Fin 1 → IVec S16 32) a x).toNat < S100000.size a := fun v2251 k1_hw136 => k1_hw136

def k1_chk137 (v2259 : IVec S16 32) (v2261 : IVec S16 32) : Prop :=
  (∀ a x, ((![v2259, v2261] : Fin 2 → IVec S16 32) a x).toNat < S100x128.size a)
theorem k1_idx137_inb : ∀ (v2259 : IVec S16 32) (v2261 : IVec S16 32) (k1_hw137 : k1_chk137 v2259 v2261), ∀ a x, ((![v2259, v2261] : Fin 2 → IVec S16 32) a x).toNat < S100x128.size a := fun v2259 v2261 k1_hw137 => k1_hw137

def k1_chk138 (v2264 : IVec S16 32) (v2266 : IVec S16 32) : Prop :=
  (∀ a x, ((![v2264, v2266] : Fin 2 → IVec S16 32) a x).toNat < S100x128.size a)
theorem k1_idx138_inb : ∀ (v2264 : IVec S16 32) (v2266 : IVec S16 32) (k1_hw138 : k1_chk138 v2264 v2266), ∀ a x, ((![v2264, v2266] : Fin 2 → IVec S16 32) a x).toNat < S100x128.size a := fun v2264 v2266 k1_hw138 => k1_hw138

def k1_chk139 (v2262 : IVec S16 32) : Prop :=
  (∀ a x, ((![v2262] : Fin 1 → IVec S16 32) a x).toNat < S100000.size a)
theorem k1_idx139_inb : ∀ (v2262 : IVec S16 32) (k1_hw139 : k1_chk139 v2262), ∀ a x, ((![v2262] : Fin 1 → IVec S16 32) a x).toNat < S100000.size a := fun v2262 k1_hw139 => k1_hw139

def k1_chk140 (v2267 : IVec S16 32) : Prop :=
  (∀ a x, ((![v2267] : Fin 1 → IVec S16 32) a x).toNat < S100000.size a)
theorem k1_idx140_inb : ∀ (v2267 : IVec S16 32) (k1_hw140 : k1_chk140 v2267), ∀ a x, ((![v2267] : Fin 1 → IVec S16 32) a x).toNat < S100000.size a := fun v2267 k1_hw140 => k1_hw140

def k1_chk141 (v2275 : IVec S16 32) (v2277 : IVec S16 32) : Prop :=
  (∀ a x, ((![v2275, v2277] : Fin 2 → IVec S16 32) a x).toNat < S100x128.size a)
theorem k1_idx141_inb : ∀ (v2275 : IVec S16 32) (v2277 : IVec S16 32) (k1_hw141 : k1_chk141 v2275 v2277), ∀ a x, ((![v2275, v2277] : Fin 2 → IVec S16 32) a x).toNat < S100x128.size a := fun v2275 v2277 k1_hw141 => k1_hw141

def k1_chk142 (v2280 : IVec S16 32) (v2282 : IVec S16 32) : Prop :=
  (∀ a x, ((![v2280, v2282] : Fin 2 → IVec S16 32) a x).toNat < S100x128.size a)
theorem k1_idx142_inb : ∀ (v2280 : IVec S16 32) (v2282 : IVec S16 32) (k1_hw142 : k1_chk142 v2280 v2282), ∀ a x, ((![v2280, v2282] : Fin 2 → IVec S16 32) a x).toNat < S100x128.size a := fun v2280 v2282 k1_hw142 => k1_hw142

def k1_chk143 (v2278 : IVec S16 32) : Prop :=
  (∀ a x, ((![v2278] : Fin 1 → IVec S16 32) a x).toNat < S100000.size a)
theorem k1_idx143_inb : ∀ (v2278 : IVec S16 32) (k1_hw143 : k1_chk143 v2278), ∀ a x, ((![v2278] : Fin 1 → IVec S16 32) a x).toNat < S100000.size a := fun v2278 k1_hw143 => k1_hw143

def k1_chk144 (v2283 : IVec S16 32) : Prop :=
  (∀ a x, ((![v2283] : Fin 1 → IVec S16 32) a x).toNat < S100000.size a)
theorem k1_idx144_inb : ∀ (v2283 : IVec S16 32) (k1_hw144 : k1_chk144 v2283), ∀ a x, ((![v2283] : Fin 1 → IVec S16 32) a x).toNat < S100000.size a := fun v2283 k1_hw144 => k1_hw144

def k1_chk145 (v2291 : IVec S16 32) (v2293 : IVec S16 32) : Prop :=
  (∀ a x, ((![v2291, v2293] : Fin 2 → IVec S16 32) a x).toNat < S100x128.size a)
theorem k1_idx145_inb : ∀ (v2291 : IVec S16 32) (v2293 : IVec S16 32) (k1_hw145 : k1_chk145 v2291 v2293), ∀ a x, ((![v2291, v2293] : Fin 2 → IVec S16 32) a x).toNat < S100x128.size a := fun v2291 v2293 k1_hw145 => k1_hw145

def k1_chk146 (v2296 : IVec S16 32) (v2298 : IVec S16 32) : Prop :=
  (∀ a x, ((![v2296, v2298] : Fin 2 → IVec S16 32) a x).toNat < S100x128.size a)
theorem k1_idx146_inb : ∀ (v2296 : IVec S16 32) (v2298 : IVec S16 32) (k1_hw146 : k1_chk146 v2296 v2298), ∀ a x, ((![v2296, v2298] : Fin 2 → IVec S16 32) a x).toNat < S100x128.size a := fun v2296 v2298 k1_hw146 => k1_hw146

def k1_chk147 (v2294 : IVec S16 32) : Prop :=
  (∀ a x, ((![v2294] : Fin 1 → IVec S16 32) a x).toNat < S100000.size a)
theorem k1_idx147_inb : ∀ (v2294 : IVec S16 32) (k1_hw147 : k1_chk147 v2294), ∀ a x, ((![v2294] : Fin 1 → IVec S16 32) a x).toNat < S100000.size a := fun v2294 k1_hw147 => k1_hw147

def k1_chk148 (v2299 : IVec S16 32) : Prop :=
  (∀ a x, ((![v2299] : Fin 1 → IVec S16 32) a x).toNat < S100000.size a)
theorem k1_idx148_inb : ∀ (v2299 : IVec S16 32) (k1_hw148 : k1_chk148 v2299), ∀ a x, ((![v2299] : Fin 1 → IVec S16 32) a x).toNat < S100000.size a := fun v2299 k1_hw148 => k1_hw148

def k1_chk149 (v2307 : IVec S16 32) (v2309 : IVec S16 32) : Prop :=
  (∀ a x, ((![v2307, v2309] : Fin 2 → IVec S16 32) a x).toNat < S100x128.size a)
theorem k1_idx149_inb : ∀ (v2307 : IVec S16 32) (v2309 : IVec S16 32) (k1_hw149 : k1_chk149 v2307 v2309), ∀ a x, ((![v2307, v2309] : Fin 2 → IVec S16 32) a x).toNat < S100x128.size a := fun v2307 v2309 k1_hw149 => k1_hw149

def k1_chk150 (v2312 : IVec S16 32) (v2314 : IVec S16 32) : Prop :=
  (∀ a x, ((![v2312, v2314] : Fin 2 → IVec S16 32) a x).toNat < S100x128.size a)
theorem k1_idx150_inb : ∀ (v2312 : IVec S16 32) (v2314 : IVec S16 32) (k1_hw150 : k1_chk150 v2312 v2314), ∀ a x, ((![v2312, v2314] : Fin 2 → IVec S16 32) a x).toNat < S100x128.size a := fun v2312 v2314 k1_hw150 => k1_hw150

def k1_chk151 (v2310 : IVec S16 32) : Prop :=
  (∀ a x, ((![v2310] : Fin 1 → IVec S16 32) a x).toNat < S100000.size a)
theorem k1_idx151_inb : ∀ (v2310 : IVec S16 32) (k1_hw151 : k1_chk151 v2310), ∀ a x, ((![v2310] : Fin 1 → IVec S16 32) a x).toNat < S100000.size a := fun v2310 k1_hw151 => k1_hw151

def k1_chk152 (v2315 : IVec S16 32) : Prop :=
  (∀ a x, ((![v2315] : Fin 1 → IVec S16 32) a x).toNat < S100000.size a)
theorem k1_idx152_inb : ∀ (v2315 : IVec S16 32) (k1_hw152 : k1_chk152 v2315), ∀ a x, ((![v2315] : Fin 1 → IVec S16 32) a x).toNat < S100000.size a := fun v2315 k1_hw152 => k1_hw152

def k1_chk153 (v2323 : IVec S16 32) (v2325 : IVec S16 32) : Prop :=
  (∀ a x, ((![v2323, v2325] : Fin 2 → IVec S16 32) a x).toNat < S100x128.size a)
theorem k1_idx153_inb : ∀ (v2323 : IVec S16 32) (v2325 : IVec S16 32) (k1_hw153 : k1_chk153 v2323 v2325), ∀ a x, ((![v2323, v2325] : Fin 2 → IVec S16 32) a x).toNat < S100x128.size a := fun v2323 v2325 k1_hw153 => k1_hw153

def k1_chk154 (v2328 : IVec S16 32) (v2330 : IVec S16 32) : Prop :=
  (∀ a x, ((![v2328, v2330] : Fin 2 → IVec S16 32) a x).toNat < S100x128.size a)
theorem k1_idx154_inb : ∀ (v2328 : IVec S16 32) (v2330 : IVec S16 32) (k1_hw154 : k1_chk154 v2328 v2330), ∀ a x, ((![v2328, v2330] : Fin 2 → IVec S16 32) a x).toNat < S100x128.size a := fun v2328 v2330 k1_hw154 => k1_hw154

def k1_chk155 (v2326 : IVec S16 32) : Prop :=
  (∀ a x, ((![v2326] : Fin 1 → IVec S16 32) a x).toNat < S100000.size a)
theorem k1_idx155_inb : ∀ (v2326 : IVec S16 32) (k1_hw155 : k1_chk155 v2326), ∀ a x, ((![v2326] : Fin 1 → IVec S16 32) a x).toNat < S100000.size a := fun v2326 k1_hw155 => k1_hw155

def k1_chk156 (v2331 : IVec S16 32) : Prop :=
  (∀ a x, ((![v2331] : Fin 1 → IVec S16 32) a x).toNat < S100000.size a)
theorem k1_idx156_inb : ∀ (v2331 : IVec S16 32) (k1_hw156 : k1_chk156 v2331), ∀ a x, ((![v2331] : Fin 1 → IVec S16 32) a x).toNat < S100000.size a := fun v2331 k1_hw156 => k1_hw156

def k1_chk157 (v2339 : IVec S16 32) (v2341 : IVec S16 32) : Prop :=
  (∀ a x, ((![v2339, v2341] : Fin 2 → IVec S16 32) a x).toNat < S100x128.size a)
theorem k1_idx157_inb : ∀ (v2339 : IVec S16 32) (v2341 : IVec S16 32) (k1_hw157 : k1_chk157 v2339 v2341), ∀ a x, ((![v2339, v2341] : Fin 2 → IVec S16 32) a x).toNat < S100x128.size a := fun v2339 v2341 k1_hw157 => k1_hw157

def k1_chk158 (v2344 : IVec S16 32) (v2346 : IVec S16 32) : Prop :=
  (∀ a x, ((![v2344, v2346] : Fin 2 → IVec S16 32) a x).toNat < S100x128.size a)
theorem k1_idx158_inb : ∀ (v2344 : IVec S16 32) (v2346 : IVec S16 32) (k1_hw158 : k1_chk158 v2344 v2346), ∀ a x, ((![v2344, v2346] : Fin 2 → IVec S16 32) a x).toNat < S100x128.size a := fun v2344 v2346 k1_hw158 => k1_hw158

def k1_chk159 (v2342 : IVec S16 32) : Prop :=
  (∀ a x, ((![v2342] : Fin 1 → IVec S16 32) a x).toNat < S100000.size a)
theorem k1_idx159_inb : ∀ (v2342 : IVec S16 32) (k1_hw159 : k1_chk159 v2342), ∀ a x, ((![v2342] : Fin 1 → IVec S16 32) a x).toNat < S100000.size a := fun v2342 k1_hw159 => k1_hw159

def k1_chk160 (v2347 : IVec S16 32) : Prop :=
  (∀ a x, ((![v2347] : Fin 1 → IVec S16 32) a x).toNat < S100000.size a)
theorem k1_idx160_inb : ∀ (v2347 : IVec S16 32) (k1_hw160 : k1_chk160 v2347), ∀ a x, ((![v2347] : Fin 1 → IVec S16 32) a x).toNat < S100000.size a := fun v2347 k1_hw160 => k1_hw160
@[reducible] def k1_t6_loop : Scf.Loop 32 :=
  let c0_i32_323 : BitVec 32 := 0#32
  let c25_i32_324 : BitVec 32 := 25#32
  let v641 : BitVec 32 := Scalar.addi c0_i32_323 c25_i32_324
  let c1_i32_325 : BitVec 32 := 1#32
  ⟨c0_i32_323, v641, c1_i32_325⟩

def k1_chk161 (v2227 : IVec S16 32) (v2229 : IVec S16 32) : Prop :=
  (∀ a x, ((![v2227, v2229] : Fin 2 → IVec S16 32) a x).toNat < S100x128.size a)
theorem k1_idx161_inb : ∀ (v2227 : IVec S16 32) (v2229 : IVec S16 32) (k1_hw161 : k1_chk161 v2227 v2229), ∀ a x, ((![v2227, v2229] : Fin 2 → IVec S16 32) a x).toNat < S100x128.size a := fun v2227 v2229 k1_hw161 => k1_hw161

def k1_chk162 (v2232 : IVec S16 32) (v2234 : IVec S16 32) : Prop :=
  (∀ a x, ((![v2232, v2234] : Fin 2 → IVec S16 32) a x).toNat < S100x128.size a)
theorem k1_idx162_inb : ∀ (v2232 : IVec S16 32) (v2234 : IVec S16 32) (k1_hw162 : k1_chk162 v2232 v2234), ∀ a x, ((![v2232, v2234] : Fin 2 → IVec S16 32) a x).toNat < S100x128.size a := fun v2232 v2234 k1_hw162 => k1_hw162

def k1_chk163 (v2230 : IVec S16 32) : Prop :=
  (∀ a x, ((![v2230] : Fin 1 → IVec S16 32) a x).toNat < S100000.size a)
theorem k1_idx163_inb : ∀ (v2230 : IVec S16 32) (k1_hw163 : k1_chk163 v2230), ∀ a x, ((![v2230] : Fin 1 → IVec S16 32) a x).toNat < S100000.size a := fun v2230 k1_hw163 => k1_hw163

def k1_chk164 (v2235 : IVec S16 32) : Prop :=
  (∀ a x, ((![v2235] : Fin 1 → IVec S16 32) a x).toNat < S100000.size a)
theorem k1_idx164_inb : ∀ (v2235 : IVec S16 32) (k1_hw164 : k1_chk164 v2235), ∀ a x, ((![v2235] : Fin 1 → IVec S16 32) a x).toNat < S100000.size a := fun v2235 k1_hw164 => k1_hw164

def k1_chk165 (v2243 : IVec S16 32) (v2245 : IVec S16 32) : Prop :=
  (∀ a x, ((![v2243, v2245] : Fin 2 → IVec S16 32) a x).toNat < S100x128.size a)
theorem k1_idx165_inb : ∀ (v2243 : IVec S16 32) (v2245 : IVec S16 32) (k1_hw165 : k1_chk165 v2243 v2245), ∀ a x, ((![v2243, v2245] : Fin 2 → IVec S16 32) a x).toNat < S100x128.size a := fun v2243 v2245 k1_hw165 => k1_hw165

def k1_chk166 (v2248 : IVec S16 32) (v2250 : IVec S16 32) : Prop :=
  (∀ a x, ((![v2248, v2250] : Fin 2 → IVec S16 32) a x).toNat < S100x128.size a)
theorem k1_idx166_inb : ∀ (v2248 : IVec S16 32) (v2250 : IVec S16 32) (k1_hw166 : k1_chk166 v2248 v2250), ∀ a x, ((![v2248, v2250] : Fin 2 → IVec S16 32) a x).toNat < S100x128.size a := fun v2248 v2250 k1_hw166 => k1_hw166

def k1_chk167 (v2246 : IVec S16 32) : Prop :=
  (∀ a x, ((![v2246] : Fin 1 → IVec S16 32) a x).toNat < S100000.size a)
theorem k1_idx167_inb : ∀ (v2246 : IVec S16 32) (k1_hw167 : k1_chk167 v2246), ∀ a x, ((![v2246] : Fin 1 → IVec S16 32) a x).toNat < S100000.size a := fun v2246 k1_hw167 => k1_hw167

def k1_chk168 (v2251 : IVec S16 32) : Prop :=
  (∀ a x, ((![v2251] : Fin 1 → IVec S16 32) a x).toNat < S100000.size a)
theorem k1_idx168_inb : ∀ (v2251 : IVec S16 32) (k1_hw168 : k1_chk168 v2251), ∀ a x, ((![v2251] : Fin 1 → IVec S16 32) a x).toNat < S100000.size a := fun v2251 k1_hw168 => k1_hw168

def k1_chk169 (v2259 : IVec S16 32) (v2261 : IVec S16 32) : Prop :=
  (∀ a x, ((![v2259, v2261] : Fin 2 → IVec S16 32) a x).toNat < S100x128.size a)
theorem k1_idx169_inb : ∀ (v2259 : IVec S16 32) (v2261 : IVec S16 32) (k1_hw169 : k1_chk169 v2259 v2261), ∀ a x, ((![v2259, v2261] : Fin 2 → IVec S16 32) a x).toNat < S100x128.size a := fun v2259 v2261 k1_hw169 => k1_hw169

def k1_chk170 (v2264 : IVec S16 32) (v2266 : IVec S16 32) : Prop :=
  (∀ a x, ((![v2264, v2266] : Fin 2 → IVec S16 32) a x).toNat < S100x128.size a)
theorem k1_idx170_inb : ∀ (v2264 : IVec S16 32) (v2266 : IVec S16 32) (k1_hw170 : k1_chk170 v2264 v2266), ∀ a x, ((![v2264, v2266] : Fin 2 → IVec S16 32) a x).toNat < S100x128.size a := fun v2264 v2266 k1_hw170 => k1_hw170

def k1_chk171 (v2262 : IVec S16 32) : Prop :=
  (∀ a x, ((![v2262] : Fin 1 → IVec S16 32) a x).toNat < S100000.size a)
theorem k1_idx171_inb : ∀ (v2262 : IVec S16 32) (k1_hw171 : k1_chk171 v2262), ∀ a x, ((![v2262] : Fin 1 → IVec S16 32) a x).toNat < S100000.size a := fun v2262 k1_hw171 => k1_hw171

def k1_chk172 (v2267 : IVec S16 32) : Prop :=
  (∀ a x, ((![v2267] : Fin 1 → IVec S16 32) a x).toNat < S100000.size a)
theorem k1_idx172_inb : ∀ (v2267 : IVec S16 32) (k1_hw172 : k1_chk172 v2267), ∀ a x, ((![v2267] : Fin 1 → IVec S16 32) a x).toNat < S100000.size a := fun v2267 k1_hw172 => k1_hw172

def k1_chk173 (v2275 : IVec S16 32) (v2277 : IVec S16 32) : Prop :=
  (∀ a x, ((![v2275, v2277] : Fin 2 → IVec S16 32) a x).toNat < S100x128.size a)
theorem k1_idx173_inb : ∀ (v2275 : IVec S16 32) (v2277 : IVec S16 32) (k1_hw173 : k1_chk173 v2275 v2277), ∀ a x, ((![v2275, v2277] : Fin 2 → IVec S16 32) a x).toNat < S100x128.size a := fun v2275 v2277 k1_hw173 => k1_hw173

def k1_chk174 (v2280 : IVec S16 32) (v2282 : IVec S16 32) : Prop :=
  (∀ a x, ((![v2280, v2282] : Fin 2 → IVec S16 32) a x).toNat < S100x128.size a)
theorem k1_idx174_inb : ∀ (v2280 : IVec S16 32) (v2282 : IVec S16 32) (k1_hw174 : k1_chk174 v2280 v2282), ∀ a x, ((![v2280, v2282] : Fin 2 → IVec S16 32) a x).toNat < S100x128.size a := fun v2280 v2282 k1_hw174 => k1_hw174

def k1_chk175 (v2278 : IVec S16 32) : Prop :=
  (∀ a x, ((![v2278] : Fin 1 → IVec S16 32) a x).toNat < S100000.size a)
theorem k1_idx175_inb : ∀ (v2278 : IVec S16 32) (k1_hw175 : k1_chk175 v2278), ∀ a x, ((![v2278] : Fin 1 → IVec S16 32) a x).toNat < S100000.size a := fun v2278 k1_hw175 => k1_hw175

def k1_chk176 (v2283 : IVec S16 32) : Prop :=
  (∀ a x, ((![v2283] : Fin 1 → IVec S16 32) a x).toNat < S100000.size a)
theorem k1_idx176_inb : ∀ (v2283 : IVec S16 32) (k1_hw176 : k1_chk176 v2283), ∀ a x, ((![v2283] : Fin 1 → IVec S16 32) a x).toNat < S100000.size a := fun v2283 k1_hw176 => k1_hw176

def k1_chk177 (v2291 : IVec S16 32) (v2293 : IVec S16 32) : Prop :=
  (∀ a x, ((![v2291, v2293] : Fin 2 → IVec S16 32) a x).toNat < S100x128.size a)
theorem k1_idx177_inb : ∀ (v2291 : IVec S16 32) (v2293 : IVec S16 32) (k1_hw177 : k1_chk177 v2291 v2293), ∀ a x, ((![v2291, v2293] : Fin 2 → IVec S16 32) a x).toNat < S100x128.size a := fun v2291 v2293 k1_hw177 => k1_hw177

def k1_chk178 (v2296 : IVec S16 32) (v2298 : IVec S16 32) : Prop :=
  (∀ a x, ((![v2296, v2298] : Fin 2 → IVec S16 32) a x).toNat < S100x128.size a)
theorem k1_idx178_inb : ∀ (v2296 : IVec S16 32) (v2298 : IVec S16 32) (k1_hw178 : k1_chk178 v2296 v2298), ∀ a x, ((![v2296, v2298] : Fin 2 → IVec S16 32) a x).toNat < S100x128.size a := fun v2296 v2298 k1_hw178 => k1_hw178

def k1_chk179 (v2294 : IVec S16 32) : Prop :=
  (∀ a x, ((![v2294] : Fin 1 → IVec S16 32) a x).toNat < S100000.size a)
theorem k1_idx179_inb : ∀ (v2294 : IVec S16 32) (k1_hw179 : k1_chk179 v2294), ∀ a x, ((![v2294] : Fin 1 → IVec S16 32) a x).toNat < S100000.size a := fun v2294 k1_hw179 => k1_hw179

def k1_chk180 (v2299 : IVec S16 32) : Prop :=
  (∀ a x, ((![v2299] : Fin 1 → IVec S16 32) a x).toNat < S100000.size a)
theorem k1_idx180_inb : ∀ (v2299 : IVec S16 32) (k1_hw180 : k1_chk180 v2299), ∀ a x, ((![v2299] : Fin 1 → IVec S16 32) a x).toNat < S100000.size a := fun v2299 k1_hw180 => k1_hw180

def k1_chk181 (v2307 : IVec S16 32) (v2309 : IVec S16 32) : Prop :=
  (∀ a x, ((![v2307, v2309] : Fin 2 → IVec S16 32) a x).toNat < S100x128.size a)
theorem k1_idx181_inb : ∀ (v2307 : IVec S16 32) (v2309 : IVec S16 32) (k1_hw181 : k1_chk181 v2307 v2309), ∀ a x, ((![v2307, v2309] : Fin 2 → IVec S16 32) a x).toNat < S100x128.size a := fun v2307 v2309 k1_hw181 => k1_hw181

def k1_chk182 (v2312 : IVec S16 32) (v2314 : IVec S16 32) : Prop :=
  (∀ a x, ((![v2312, v2314] : Fin 2 → IVec S16 32) a x).toNat < S100x128.size a)
theorem k1_idx182_inb : ∀ (v2312 : IVec S16 32) (v2314 : IVec S16 32) (k1_hw182 : k1_chk182 v2312 v2314), ∀ a x, ((![v2312, v2314] : Fin 2 → IVec S16 32) a x).toNat < S100x128.size a := fun v2312 v2314 k1_hw182 => k1_hw182

def k1_chk183 (v2310 : IVec S16 32) : Prop :=
  (∀ a x, ((![v2310] : Fin 1 → IVec S16 32) a x).toNat < S100000.size a)
theorem k1_idx183_inb : ∀ (v2310 : IVec S16 32) (k1_hw183 : k1_chk183 v2310), ∀ a x, ((![v2310] : Fin 1 → IVec S16 32) a x).toNat < S100000.size a := fun v2310 k1_hw183 => k1_hw183

def k1_chk184 (v2315 : IVec S16 32) : Prop :=
  (∀ a x, ((![v2315] : Fin 1 → IVec S16 32) a x).toNat < S100000.size a)
theorem k1_idx184_inb : ∀ (v2315 : IVec S16 32) (k1_hw184 : k1_chk184 v2315), ∀ a x, ((![v2315] : Fin 1 → IVec S16 32) a x).toNat < S100000.size a := fun v2315 k1_hw184 => k1_hw184

def k1_chk185 (v2323 : IVec S16 32) (v2325 : IVec S16 32) : Prop :=
  (∀ a x, ((![v2323, v2325] : Fin 2 → IVec S16 32) a x).toNat < S100x128.size a)
theorem k1_idx185_inb : ∀ (v2323 : IVec S16 32) (v2325 : IVec S16 32) (k1_hw185 : k1_chk185 v2323 v2325), ∀ a x, ((![v2323, v2325] : Fin 2 → IVec S16 32) a x).toNat < S100x128.size a := fun v2323 v2325 k1_hw185 => k1_hw185

def k1_chk186 (v2328 : IVec S16 32) (v2330 : IVec S16 32) : Prop :=
  (∀ a x, ((![v2328, v2330] : Fin 2 → IVec S16 32) a x).toNat < S100x128.size a)
theorem k1_idx186_inb : ∀ (v2328 : IVec S16 32) (v2330 : IVec S16 32) (k1_hw186 : k1_chk186 v2328 v2330), ∀ a x, ((![v2328, v2330] : Fin 2 → IVec S16 32) a x).toNat < S100x128.size a := fun v2328 v2330 k1_hw186 => k1_hw186

def k1_chk187 (v2326 : IVec S16 32) : Prop :=
  (∀ a x, ((![v2326] : Fin 1 → IVec S16 32) a x).toNat < S100000.size a)
theorem k1_idx187_inb : ∀ (v2326 : IVec S16 32) (k1_hw187 : k1_chk187 v2326), ∀ a x, ((![v2326] : Fin 1 → IVec S16 32) a x).toNat < S100000.size a := fun v2326 k1_hw187 => k1_hw187

def k1_chk188 (v2331 : IVec S16 32) : Prop :=
  (∀ a x, ((![v2331] : Fin 1 → IVec S16 32) a x).toNat < S100000.size a)
theorem k1_idx188_inb : ∀ (v2331 : IVec S16 32) (k1_hw188 : k1_chk188 v2331), ∀ a x, ((![v2331] : Fin 1 → IVec S16 32) a x).toNat < S100000.size a := fun v2331 k1_hw188 => k1_hw188

def k1_chk189 (v2339 : IVec S16 32) (v2341 : IVec S16 32) : Prop :=
  (∀ a x, ((![v2339, v2341] : Fin 2 → IVec S16 32) a x).toNat < S100x128.size a)
theorem k1_idx189_inb : ∀ (v2339 : IVec S16 32) (v2341 : IVec S16 32) (k1_hw189 : k1_chk189 v2339 v2341), ∀ a x, ((![v2339, v2341] : Fin 2 → IVec S16 32) a x).toNat < S100x128.size a := fun v2339 v2341 k1_hw189 => k1_hw189

def k1_chk190 (v2344 : IVec S16 32) (v2346 : IVec S16 32) : Prop :=
  (∀ a x, ((![v2344, v2346] : Fin 2 → IVec S16 32) a x).toNat < S100x128.size a)
theorem k1_idx190_inb : ∀ (v2344 : IVec S16 32) (v2346 : IVec S16 32) (k1_hw190 : k1_chk190 v2344 v2346), ∀ a x, ((![v2344, v2346] : Fin 2 → IVec S16 32) a x).toNat < S100x128.size a := fun v2344 v2346 k1_hw190 => k1_hw190

def k1_chk191 (v2342 : IVec S16 32) : Prop :=
  (∀ a x, ((![v2342] : Fin 1 → IVec S16 32) a x).toNat < S100000.size a)
theorem k1_idx191_inb : ∀ (v2342 : IVec S16 32) (k1_hw191 : k1_chk191 v2342), ∀ a x, ((![v2342] : Fin 1 → IVec S16 32) a x).toNat < S100000.size a := fun v2342 k1_hw191 => k1_hw191

def k1_chk192 (v2347 : IVec S16 32) : Prop :=
  (∀ a x, ((![v2347] : Fin 1 → IVec S16 32) a x).toNat < S100000.size a)
theorem k1_idx192_inb : ∀ (v2347 : IVec S16 32) (k1_hw192 : k1_chk192 v2347), ∀ a x, ((![v2347] : Fin 1 → IVec S16 32) a x).toNat < S100000.size a := fun v2347 k1_hw192 => k1_hw192
@[reducible] def k1_t7_loop : Scf.Loop 32 :=
  let c0_i32_380 : BitVec 32 := 0#32
  let c25_i32_381 : BitVec 32 := 25#32
  let v747 : BitVec 32 := Scalar.addi c0_i32_380 c25_i32_381
  let c1_i32_382 : BitVec 32 := 1#32
  ⟨c0_i32_380, v747, c1_i32_382⟩

def k1_chk193 (v2227 : IVec S16 32) (v2229 : IVec S16 32) : Prop :=
  (∀ a x, ((![v2227, v2229] : Fin 2 → IVec S16 32) a x).toNat < S100x128.size a)
theorem k1_idx193_inb : ∀ (v2227 : IVec S16 32) (v2229 : IVec S16 32) (k1_hw193 : k1_chk193 v2227 v2229), ∀ a x, ((![v2227, v2229] : Fin 2 → IVec S16 32) a x).toNat < S100x128.size a := fun v2227 v2229 k1_hw193 => k1_hw193

def k1_chk194 (v2232 : IVec S16 32) (v2234 : IVec S16 32) : Prop :=
  (∀ a x, ((![v2232, v2234] : Fin 2 → IVec S16 32) a x).toNat < S100x128.size a)
theorem k1_idx194_inb : ∀ (v2232 : IVec S16 32) (v2234 : IVec S16 32) (k1_hw194 : k1_chk194 v2232 v2234), ∀ a x, ((![v2232, v2234] : Fin 2 → IVec S16 32) a x).toNat < S100x128.size a := fun v2232 v2234 k1_hw194 => k1_hw194

def k1_chk195 (v2230 : IVec S16 32) : Prop :=
  (∀ a x, ((![v2230] : Fin 1 → IVec S16 32) a x).toNat < S100000.size a)
theorem k1_idx195_inb : ∀ (v2230 : IVec S16 32) (k1_hw195 : k1_chk195 v2230), ∀ a x, ((![v2230] : Fin 1 → IVec S16 32) a x).toNat < S100000.size a := fun v2230 k1_hw195 => k1_hw195

def k1_chk196 (v2235 : IVec S16 32) : Prop :=
  (∀ a x, ((![v2235] : Fin 1 → IVec S16 32) a x).toNat < S100000.size a)
theorem k1_idx196_inb : ∀ (v2235 : IVec S16 32) (k1_hw196 : k1_chk196 v2235), ∀ a x, ((![v2235] : Fin 1 → IVec S16 32) a x).toNat < S100000.size a := fun v2235 k1_hw196 => k1_hw196

def k1_chk197 (v2243 : IVec S16 32) (v2245 : IVec S16 32) : Prop :=
  (∀ a x, ((![v2243, v2245] : Fin 2 → IVec S16 32) a x).toNat < S100x128.size a)
theorem k1_idx197_inb : ∀ (v2243 : IVec S16 32) (v2245 : IVec S16 32) (k1_hw197 : k1_chk197 v2243 v2245), ∀ a x, ((![v2243, v2245] : Fin 2 → IVec S16 32) a x).toNat < S100x128.size a := fun v2243 v2245 k1_hw197 => k1_hw197

def k1_chk198 (v2248 : IVec S16 32) (v2250 : IVec S16 32) : Prop :=
  (∀ a x, ((![v2248, v2250] : Fin 2 → IVec S16 32) a x).toNat < S100x128.size a)
theorem k1_idx198_inb : ∀ (v2248 : IVec S16 32) (v2250 : IVec S16 32) (k1_hw198 : k1_chk198 v2248 v2250), ∀ a x, ((![v2248, v2250] : Fin 2 → IVec S16 32) a x).toNat < S100x128.size a := fun v2248 v2250 k1_hw198 => k1_hw198

def k1_chk199 (v2246 : IVec S16 32) : Prop :=
  (∀ a x, ((![v2246] : Fin 1 → IVec S16 32) a x).toNat < S100000.size a)
theorem k1_idx199_inb : ∀ (v2246 : IVec S16 32) (k1_hw199 : k1_chk199 v2246), ∀ a x, ((![v2246] : Fin 1 → IVec S16 32) a x).toNat < S100000.size a := fun v2246 k1_hw199 => k1_hw199

def k1_chk200 (v2251 : IVec S16 32) : Prop :=
  (∀ a x, ((![v2251] : Fin 1 → IVec S16 32) a x).toNat < S100000.size a)
theorem k1_idx200_inb : ∀ (v2251 : IVec S16 32) (k1_hw200 : k1_chk200 v2251), ∀ a x, ((![v2251] : Fin 1 → IVec S16 32) a x).toNat < S100000.size a := fun v2251 k1_hw200 => k1_hw200

def k1_chk201 (v2259 : IVec S16 32) (v2261 : IVec S16 32) : Prop :=
  (∀ a x, ((![v2259, v2261] : Fin 2 → IVec S16 32) a x).toNat < S100x128.size a)
theorem k1_idx201_inb : ∀ (v2259 : IVec S16 32) (v2261 : IVec S16 32) (k1_hw201 : k1_chk201 v2259 v2261), ∀ a x, ((![v2259, v2261] : Fin 2 → IVec S16 32) a x).toNat < S100x128.size a := fun v2259 v2261 k1_hw201 => k1_hw201

def k1_chk202 (v2264 : IVec S16 32) (v2266 : IVec S16 32) : Prop :=
  (∀ a x, ((![v2264, v2266] : Fin 2 → IVec S16 32) a x).toNat < S100x128.size a)
theorem k1_idx202_inb : ∀ (v2264 : IVec S16 32) (v2266 : IVec S16 32) (k1_hw202 : k1_chk202 v2264 v2266), ∀ a x, ((![v2264, v2266] : Fin 2 → IVec S16 32) a x).toNat < S100x128.size a := fun v2264 v2266 k1_hw202 => k1_hw202

def k1_chk203 (v2262 : IVec S16 32) : Prop :=
  (∀ a x, ((![v2262] : Fin 1 → IVec S16 32) a x).toNat < S100000.size a)
theorem k1_idx203_inb : ∀ (v2262 : IVec S16 32) (k1_hw203 : k1_chk203 v2262), ∀ a x, ((![v2262] : Fin 1 → IVec S16 32) a x).toNat < S100000.size a := fun v2262 k1_hw203 => k1_hw203

def k1_chk204 (v2267 : IVec S16 32) : Prop :=
  (∀ a x, ((![v2267] : Fin 1 → IVec S16 32) a x).toNat < S100000.size a)
theorem k1_idx204_inb : ∀ (v2267 : IVec S16 32) (k1_hw204 : k1_chk204 v2267), ∀ a x, ((![v2267] : Fin 1 → IVec S16 32) a x).toNat < S100000.size a := fun v2267 k1_hw204 => k1_hw204

def k1_chk205 (v2275 : IVec S16 32) (v2277 : IVec S16 32) : Prop :=
  (∀ a x, ((![v2275, v2277] : Fin 2 → IVec S16 32) a x).toNat < S100x128.size a)
theorem k1_idx205_inb : ∀ (v2275 : IVec S16 32) (v2277 : IVec S16 32) (k1_hw205 : k1_chk205 v2275 v2277), ∀ a x, ((![v2275, v2277] : Fin 2 → IVec S16 32) a x).toNat < S100x128.size a := fun v2275 v2277 k1_hw205 => k1_hw205

def k1_chk206 (v2280 : IVec S16 32) (v2282 : IVec S16 32) : Prop :=
  (∀ a x, ((![v2280, v2282] : Fin 2 → IVec S16 32) a x).toNat < S100x128.size a)
theorem k1_idx206_inb : ∀ (v2280 : IVec S16 32) (v2282 : IVec S16 32) (k1_hw206 : k1_chk206 v2280 v2282), ∀ a x, ((![v2280, v2282] : Fin 2 → IVec S16 32) a x).toNat < S100x128.size a := fun v2280 v2282 k1_hw206 => k1_hw206

def k1_chk207 (v2278 : IVec S16 32) : Prop :=
  (∀ a x, ((![v2278] : Fin 1 → IVec S16 32) a x).toNat < S100000.size a)
theorem k1_idx207_inb : ∀ (v2278 : IVec S16 32) (k1_hw207 : k1_chk207 v2278), ∀ a x, ((![v2278] : Fin 1 → IVec S16 32) a x).toNat < S100000.size a := fun v2278 k1_hw207 => k1_hw207

def k1_chk208 (v2283 : IVec S16 32) : Prop :=
  (∀ a x, ((![v2283] : Fin 1 → IVec S16 32) a x).toNat < S100000.size a)
theorem k1_idx208_inb : ∀ (v2283 : IVec S16 32) (k1_hw208 : k1_chk208 v2283), ∀ a x, ((![v2283] : Fin 1 → IVec S16 32) a x).toNat < S100000.size a := fun v2283 k1_hw208 => k1_hw208

def k1_chk209 (v2291 : IVec S16 32) (v2293 : IVec S16 32) : Prop :=
  (∀ a x, ((![v2291, v2293] : Fin 2 → IVec S16 32) a x).toNat < S100x128.size a)
theorem k1_idx209_inb : ∀ (v2291 : IVec S16 32) (v2293 : IVec S16 32) (k1_hw209 : k1_chk209 v2291 v2293), ∀ a x, ((![v2291, v2293] : Fin 2 → IVec S16 32) a x).toNat < S100x128.size a := fun v2291 v2293 k1_hw209 => k1_hw209

def k1_chk210 (v2296 : IVec S16 32) (v2298 : IVec S16 32) : Prop :=
  (∀ a x, ((![v2296, v2298] : Fin 2 → IVec S16 32) a x).toNat < S100x128.size a)
theorem k1_idx210_inb : ∀ (v2296 : IVec S16 32) (v2298 : IVec S16 32) (k1_hw210 : k1_chk210 v2296 v2298), ∀ a x, ((![v2296, v2298] : Fin 2 → IVec S16 32) a x).toNat < S100x128.size a := fun v2296 v2298 k1_hw210 => k1_hw210

def k1_chk211 (v2294 : IVec S16 32) : Prop :=
  (∀ a x, ((![v2294] : Fin 1 → IVec S16 32) a x).toNat < S100000.size a)
theorem k1_idx211_inb : ∀ (v2294 : IVec S16 32) (k1_hw211 : k1_chk211 v2294), ∀ a x, ((![v2294] : Fin 1 → IVec S16 32) a x).toNat < S100000.size a := fun v2294 k1_hw211 => k1_hw211

def k1_chk212 (v2299 : IVec S16 32) : Prop :=
  (∀ a x, ((![v2299] : Fin 1 → IVec S16 32) a x).toNat < S100000.size a)
theorem k1_idx212_inb : ∀ (v2299 : IVec S16 32) (k1_hw212 : k1_chk212 v2299), ∀ a x, ((![v2299] : Fin 1 → IVec S16 32) a x).toNat < S100000.size a := fun v2299 k1_hw212 => k1_hw212

def k1_chk213 (v2307 : IVec S16 32) (v2309 : IVec S16 32) : Prop :=
  (∀ a x, ((![v2307, v2309] : Fin 2 → IVec S16 32) a x).toNat < S100x128.size a)
theorem k1_idx213_inb : ∀ (v2307 : IVec S16 32) (v2309 : IVec S16 32) (k1_hw213 : k1_chk213 v2307 v2309), ∀ a x, ((![v2307, v2309] : Fin 2 → IVec S16 32) a x).toNat < S100x128.size a := fun v2307 v2309 k1_hw213 => k1_hw213

def k1_chk214 (v2312 : IVec S16 32) (v2314 : IVec S16 32) : Prop :=
  (∀ a x, ((![v2312, v2314] : Fin 2 → IVec S16 32) a x).toNat < S100x128.size a)
theorem k1_idx214_inb : ∀ (v2312 : IVec S16 32) (v2314 : IVec S16 32) (k1_hw214 : k1_chk214 v2312 v2314), ∀ a x, ((![v2312, v2314] : Fin 2 → IVec S16 32) a x).toNat < S100x128.size a := fun v2312 v2314 k1_hw214 => k1_hw214

def k1_chk215 (v2310 : IVec S16 32) : Prop :=
  (∀ a x, ((![v2310] : Fin 1 → IVec S16 32) a x).toNat < S100000.size a)
theorem k1_idx215_inb : ∀ (v2310 : IVec S16 32) (k1_hw215 : k1_chk215 v2310), ∀ a x, ((![v2310] : Fin 1 → IVec S16 32) a x).toNat < S100000.size a := fun v2310 k1_hw215 => k1_hw215

def k1_chk216 (v2315 : IVec S16 32) : Prop :=
  (∀ a x, ((![v2315] : Fin 1 → IVec S16 32) a x).toNat < S100000.size a)
theorem k1_idx216_inb : ∀ (v2315 : IVec S16 32) (k1_hw216 : k1_chk216 v2315), ∀ a x, ((![v2315] : Fin 1 → IVec S16 32) a x).toNat < S100000.size a := fun v2315 k1_hw216 => k1_hw216

def k1_chk217 (v2323 : IVec S16 32) (v2325 : IVec S16 32) : Prop :=
  (∀ a x, ((![v2323, v2325] : Fin 2 → IVec S16 32) a x).toNat < S100x128.size a)
theorem k1_idx217_inb : ∀ (v2323 : IVec S16 32) (v2325 : IVec S16 32) (k1_hw217 : k1_chk217 v2323 v2325), ∀ a x, ((![v2323, v2325] : Fin 2 → IVec S16 32) a x).toNat < S100x128.size a := fun v2323 v2325 k1_hw217 => k1_hw217

def k1_chk218 (v2328 : IVec S16 32) (v2330 : IVec S16 32) : Prop :=
  (∀ a x, ((![v2328, v2330] : Fin 2 → IVec S16 32) a x).toNat < S100x128.size a)
theorem k1_idx218_inb : ∀ (v2328 : IVec S16 32) (v2330 : IVec S16 32) (k1_hw218 : k1_chk218 v2328 v2330), ∀ a x, ((![v2328, v2330] : Fin 2 → IVec S16 32) a x).toNat < S100x128.size a := fun v2328 v2330 k1_hw218 => k1_hw218

def k1_chk219 (v2326 : IVec S16 32) : Prop :=
  (∀ a x, ((![v2326] : Fin 1 → IVec S16 32) a x).toNat < S100000.size a)
theorem k1_idx219_inb : ∀ (v2326 : IVec S16 32) (k1_hw219 : k1_chk219 v2326), ∀ a x, ((![v2326] : Fin 1 → IVec S16 32) a x).toNat < S100000.size a := fun v2326 k1_hw219 => k1_hw219

def k1_chk220 (v2331 : IVec S16 32) : Prop :=
  (∀ a x, ((![v2331] : Fin 1 → IVec S16 32) a x).toNat < S100000.size a)
theorem k1_idx220_inb : ∀ (v2331 : IVec S16 32) (k1_hw220 : k1_chk220 v2331), ∀ a x, ((![v2331] : Fin 1 → IVec S16 32) a x).toNat < S100000.size a := fun v2331 k1_hw220 => k1_hw220

def k1_chk221 (v2339 : IVec S16 32) (v2341 : IVec S16 32) : Prop :=
  (∀ a x, ((![v2339, v2341] : Fin 2 → IVec S16 32) a x).toNat < S100x128.size a)
theorem k1_idx221_inb : ∀ (v2339 : IVec S16 32) (v2341 : IVec S16 32) (k1_hw221 : k1_chk221 v2339 v2341), ∀ a x, ((![v2339, v2341] : Fin 2 → IVec S16 32) a x).toNat < S100x128.size a := fun v2339 v2341 k1_hw221 => k1_hw221

def k1_chk222 (v2344 : IVec S16 32) (v2346 : IVec S16 32) : Prop :=
  (∀ a x, ((![v2344, v2346] : Fin 2 → IVec S16 32) a x).toNat < S100x128.size a)
theorem k1_idx222_inb : ∀ (v2344 : IVec S16 32) (v2346 : IVec S16 32) (k1_hw222 : k1_chk222 v2344 v2346), ∀ a x, ((![v2344, v2346] : Fin 2 → IVec S16 32) a x).toNat < S100x128.size a := fun v2344 v2346 k1_hw222 => k1_hw222

def k1_chk223 (v2342 : IVec S16 32) : Prop :=
  (∀ a x, ((![v2342] : Fin 1 → IVec S16 32) a x).toNat < S100000.size a)
theorem k1_idx223_inb : ∀ (v2342 : IVec S16 32) (k1_hw223 : k1_chk223 v2342), ∀ a x, ((![v2342] : Fin 1 → IVec S16 32) a x).toNat < S100000.size a := fun v2342 k1_hw223 => k1_hw223

def k1_chk224 (v2347 : IVec S16 32) : Prop :=
  (∀ a x, ((![v2347] : Fin 1 → IVec S16 32) a x).toNat < S100000.size a)
theorem k1_idx224_inb : ∀ (v2347 : IVec S16 32) (k1_hw224 : k1_chk224 v2347), ∀ a x, ((![v2347] : Fin 1 → IVec S16 32) a x).toNat < S100000.size a := fun v2347 k1_hw224 => k1_hw224
@[reducible] def k1_t8_loop : Scf.Loop 32 :=
  let c0_i32_433 : BitVec 32 := 0#32
  let c25_i32_434 : BitVec 32 := 25#32
  let v848 : BitVec 32 := Scalar.addi c0_i32_433 c25_i32_434
  let c1_i32_435 : BitVec 32 := 1#32
  ⟨c0_i32_433, v848, c1_i32_435⟩

def k1_chk225 (v2227 : IVec S16 32) (v2229 : IVec S16 32) : Prop :=
  (∀ a x, ((![v2227, v2229] : Fin 2 → IVec S16 32) a x).toNat < S100x128.size a)
theorem k1_idx225_inb : ∀ (v2227 : IVec S16 32) (v2229 : IVec S16 32) (k1_hw225 : k1_chk225 v2227 v2229), ∀ a x, ((![v2227, v2229] : Fin 2 → IVec S16 32) a x).toNat < S100x128.size a := fun v2227 v2229 k1_hw225 => k1_hw225

def k1_chk226 (v2232 : IVec S16 32) (v2234 : IVec S16 32) : Prop :=
  (∀ a x, ((![v2232, v2234] : Fin 2 → IVec S16 32) a x).toNat < S100x128.size a)
theorem k1_idx226_inb : ∀ (v2232 : IVec S16 32) (v2234 : IVec S16 32) (k1_hw226 : k1_chk226 v2232 v2234), ∀ a x, ((![v2232, v2234] : Fin 2 → IVec S16 32) a x).toNat < S100x128.size a := fun v2232 v2234 k1_hw226 => k1_hw226

def k1_chk227 (v2230 : IVec S16 32) : Prop :=
  (∀ a x, ((![v2230] : Fin 1 → IVec S16 32) a x).toNat < S100000.size a)
theorem k1_idx227_inb : ∀ (v2230 : IVec S16 32) (k1_hw227 : k1_chk227 v2230), ∀ a x, ((![v2230] : Fin 1 → IVec S16 32) a x).toNat < S100000.size a := fun v2230 k1_hw227 => k1_hw227

def k1_chk228 (v2235 : IVec S16 32) : Prop :=
  (∀ a x, ((![v2235] : Fin 1 → IVec S16 32) a x).toNat < S100000.size a)
theorem k1_idx228_inb : ∀ (v2235 : IVec S16 32) (k1_hw228 : k1_chk228 v2235), ∀ a x, ((![v2235] : Fin 1 → IVec S16 32) a x).toNat < S100000.size a := fun v2235 k1_hw228 => k1_hw228

def k1_chk229 (v2243 : IVec S16 32) (v2245 : IVec S16 32) : Prop :=
  (∀ a x, ((![v2243, v2245] : Fin 2 → IVec S16 32) a x).toNat < S100x128.size a)
theorem k1_idx229_inb : ∀ (v2243 : IVec S16 32) (v2245 : IVec S16 32) (k1_hw229 : k1_chk229 v2243 v2245), ∀ a x, ((![v2243, v2245] : Fin 2 → IVec S16 32) a x).toNat < S100x128.size a := fun v2243 v2245 k1_hw229 => k1_hw229

def k1_chk230 (v2248 : IVec S16 32) (v2250 : IVec S16 32) : Prop :=
  (∀ a x, ((![v2248, v2250] : Fin 2 → IVec S16 32) a x).toNat < S100x128.size a)
theorem k1_idx230_inb : ∀ (v2248 : IVec S16 32) (v2250 : IVec S16 32) (k1_hw230 : k1_chk230 v2248 v2250), ∀ a x, ((![v2248, v2250] : Fin 2 → IVec S16 32) a x).toNat < S100x128.size a := fun v2248 v2250 k1_hw230 => k1_hw230

def k1_chk231 (v2246 : IVec S16 32) : Prop :=
  (∀ a x, ((![v2246] : Fin 1 → IVec S16 32) a x).toNat < S100000.size a)
theorem k1_idx231_inb : ∀ (v2246 : IVec S16 32) (k1_hw231 : k1_chk231 v2246), ∀ a x, ((![v2246] : Fin 1 → IVec S16 32) a x).toNat < S100000.size a := fun v2246 k1_hw231 => k1_hw231

def k1_chk232 (v2251 : IVec S16 32) : Prop :=
  (∀ a x, ((![v2251] : Fin 1 → IVec S16 32) a x).toNat < S100000.size a)
theorem k1_idx232_inb : ∀ (v2251 : IVec S16 32) (k1_hw232 : k1_chk232 v2251), ∀ a x, ((![v2251] : Fin 1 → IVec S16 32) a x).toNat < S100000.size a := fun v2251 k1_hw232 => k1_hw232

def k1_chk233 (v2259 : IVec S16 32) (v2261 : IVec S16 32) : Prop :=
  (∀ a x, ((![v2259, v2261] : Fin 2 → IVec S16 32) a x).toNat < S100x128.size a)
theorem k1_idx233_inb : ∀ (v2259 : IVec S16 32) (v2261 : IVec S16 32) (k1_hw233 : k1_chk233 v2259 v2261), ∀ a x, ((![v2259, v2261] : Fin 2 → IVec S16 32) a x).toNat < S100x128.size a := fun v2259 v2261 k1_hw233 => k1_hw233

def k1_chk234 (v2264 : IVec S16 32) (v2266 : IVec S16 32) : Prop :=
  (∀ a x, ((![v2264, v2266] : Fin 2 → IVec S16 32) a x).toNat < S100x128.size a)
theorem k1_idx234_inb : ∀ (v2264 : IVec S16 32) (v2266 : IVec S16 32) (k1_hw234 : k1_chk234 v2264 v2266), ∀ a x, ((![v2264, v2266] : Fin 2 → IVec S16 32) a x).toNat < S100x128.size a := fun v2264 v2266 k1_hw234 => k1_hw234

def k1_chk235 (v2262 : IVec S16 32) : Prop :=
  (∀ a x, ((![v2262] : Fin 1 → IVec S16 32) a x).toNat < S100000.size a)
theorem k1_idx235_inb : ∀ (v2262 : IVec S16 32) (k1_hw235 : k1_chk235 v2262), ∀ a x, ((![v2262] : Fin 1 → IVec S16 32) a x).toNat < S100000.size a := fun v2262 k1_hw235 => k1_hw235

def k1_chk236 (v2267 : IVec S16 32) : Prop :=
  (∀ a x, ((![v2267] : Fin 1 → IVec S16 32) a x).toNat < S100000.size a)
theorem k1_idx236_inb : ∀ (v2267 : IVec S16 32) (k1_hw236 : k1_chk236 v2267), ∀ a x, ((![v2267] : Fin 1 → IVec S16 32) a x).toNat < S100000.size a := fun v2267 k1_hw236 => k1_hw236

def k1_chk237 (v2275 : IVec S16 32) (v2277 : IVec S16 32) : Prop :=
  (∀ a x, ((![v2275, v2277] : Fin 2 → IVec S16 32) a x).toNat < S100x128.size a)
theorem k1_idx237_inb : ∀ (v2275 : IVec S16 32) (v2277 : IVec S16 32) (k1_hw237 : k1_chk237 v2275 v2277), ∀ a x, ((![v2275, v2277] : Fin 2 → IVec S16 32) a x).toNat < S100x128.size a := fun v2275 v2277 k1_hw237 => k1_hw237

def k1_chk238 (v2280 : IVec S16 32) (v2282 : IVec S16 32) : Prop :=
  (∀ a x, ((![v2280, v2282] : Fin 2 → IVec S16 32) a x).toNat < S100x128.size a)
theorem k1_idx238_inb : ∀ (v2280 : IVec S16 32) (v2282 : IVec S16 32) (k1_hw238 : k1_chk238 v2280 v2282), ∀ a x, ((![v2280, v2282] : Fin 2 → IVec S16 32) a x).toNat < S100x128.size a := fun v2280 v2282 k1_hw238 => k1_hw238

def k1_chk239 (v2278 : IVec S16 32) : Prop :=
  (∀ a x, ((![v2278] : Fin 1 → IVec S16 32) a x).toNat < S100000.size a)
theorem k1_idx239_inb : ∀ (v2278 : IVec S16 32) (k1_hw239 : k1_chk239 v2278), ∀ a x, ((![v2278] : Fin 1 → IVec S16 32) a x).toNat < S100000.size a := fun v2278 k1_hw239 => k1_hw239

def k1_chk240 (v2283 : IVec S16 32) : Prop :=
  (∀ a x, ((![v2283] : Fin 1 → IVec S16 32) a x).toNat < S100000.size a)
theorem k1_idx240_inb : ∀ (v2283 : IVec S16 32) (k1_hw240 : k1_chk240 v2283), ∀ a x, ((![v2283] : Fin 1 → IVec S16 32) a x).toNat < S100000.size a := fun v2283 k1_hw240 => k1_hw240

def k1_chk241 (v2291 : IVec S16 32) (v2293 : IVec S16 32) : Prop :=
  (∀ a x, ((![v2291, v2293] : Fin 2 → IVec S16 32) a x).toNat < S100x128.size a)
theorem k1_idx241_inb : ∀ (v2291 : IVec S16 32) (v2293 : IVec S16 32) (k1_hw241 : k1_chk241 v2291 v2293), ∀ a x, ((![v2291, v2293] : Fin 2 → IVec S16 32) a x).toNat < S100x128.size a := fun v2291 v2293 k1_hw241 => k1_hw241

def k1_chk242 (v2296 : IVec S16 32) (v2298 : IVec S16 32) : Prop :=
  (∀ a x, ((![v2296, v2298] : Fin 2 → IVec S16 32) a x).toNat < S100x128.size a)
theorem k1_idx242_inb : ∀ (v2296 : IVec S16 32) (v2298 : IVec S16 32) (k1_hw242 : k1_chk242 v2296 v2298), ∀ a x, ((![v2296, v2298] : Fin 2 → IVec S16 32) a x).toNat < S100x128.size a := fun v2296 v2298 k1_hw242 => k1_hw242

def k1_chk243 (v2294 : IVec S16 32) : Prop :=
  (∀ a x, ((![v2294] : Fin 1 → IVec S16 32) a x).toNat < S100000.size a)
theorem k1_idx243_inb : ∀ (v2294 : IVec S16 32) (k1_hw243 : k1_chk243 v2294), ∀ a x, ((![v2294] : Fin 1 → IVec S16 32) a x).toNat < S100000.size a := fun v2294 k1_hw243 => k1_hw243

def k1_chk244 (v2299 : IVec S16 32) : Prop :=
  (∀ a x, ((![v2299] : Fin 1 → IVec S16 32) a x).toNat < S100000.size a)
theorem k1_idx244_inb : ∀ (v2299 : IVec S16 32) (k1_hw244 : k1_chk244 v2299), ∀ a x, ((![v2299] : Fin 1 → IVec S16 32) a x).toNat < S100000.size a := fun v2299 k1_hw244 => k1_hw244

def k1_chk245 (v2307 : IVec S16 32) (v2309 : IVec S16 32) : Prop :=
  (∀ a x, ((![v2307, v2309] : Fin 2 → IVec S16 32) a x).toNat < S100x128.size a)
theorem k1_idx245_inb : ∀ (v2307 : IVec S16 32) (v2309 : IVec S16 32) (k1_hw245 : k1_chk245 v2307 v2309), ∀ a x, ((![v2307, v2309] : Fin 2 → IVec S16 32) a x).toNat < S100x128.size a := fun v2307 v2309 k1_hw245 => k1_hw245

def k1_chk246 (v2312 : IVec S16 32) (v2314 : IVec S16 32) : Prop :=
  (∀ a x, ((![v2312, v2314] : Fin 2 → IVec S16 32) a x).toNat < S100x128.size a)
theorem k1_idx246_inb : ∀ (v2312 : IVec S16 32) (v2314 : IVec S16 32) (k1_hw246 : k1_chk246 v2312 v2314), ∀ a x, ((![v2312, v2314] : Fin 2 → IVec S16 32) a x).toNat < S100x128.size a := fun v2312 v2314 k1_hw246 => k1_hw246

def k1_chk247 (v2310 : IVec S16 32) : Prop :=
  (∀ a x, ((![v2310] : Fin 1 → IVec S16 32) a x).toNat < S100000.size a)
theorem k1_idx247_inb : ∀ (v2310 : IVec S16 32) (k1_hw247 : k1_chk247 v2310), ∀ a x, ((![v2310] : Fin 1 → IVec S16 32) a x).toNat < S100000.size a := fun v2310 k1_hw247 => k1_hw247

def k1_chk248 (v2315 : IVec S16 32) : Prop :=
  (∀ a x, ((![v2315] : Fin 1 → IVec S16 32) a x).toNat < S100000.size a)
theorem k1_idx248_inb : ∀ (v2315 : IVec S16 32) (k1_hw248 : k1_chk248 v2315), ∀ a x, ((![v2315] : Fin 1 → IVec S16 32) a x).toNat < S100000.size a := fun v2315 k1_hw248 => k1_hw248

def k1_chk249 (v2323 : IVec S16 32) (v2325 : IVec S16 32) : Prop :=
  (∀ a x, ((![v2323, v2325] : Fin 2 → IVec S16 32) a x).toNat < S100x128.size a)
theorem k1_idx249_inb : ∀ (v2323 : IVec S16 32) (v2325 : IVec S16 32) (k1_hw249 : k1_chk249 v2323 v2325), ∀ a x, ((![v2323, v2325] : Fin 2 → IVec S16 32) a x).toNat < S100x128.size a := fun v2323 v2325 k1_hw249 => k1_hw249

def k1_chk250 (v2328 : IVec S16 32) (v2330 : IVec S16 32) : Prop :=
  (∀ a x, ((![v2328, v2330] : Fin 2 → IVec S16 32) a x).toNat < S100x128.size a)
theorem k1_idx250_inb : ∀ (v2328 : IVec S16 32) (v2330 : IVec S16 32) (k1_hw250 : k1_chk250 v2328 v2330), ∀ a x, ((![v2328, v2330] : Fin 2 → IVec S16 32) a x).toNat < S100x128.size a := fun v2328 v2330 k1_hw250 => k1_hw250

def k1_chk251 (v2326 : IVec S16 32) : Prop :=
  (∀ a x, ((![v2326] : Fin 1 → IVec S16 32) a x).toNat < S100000.size a)
theorem k1_idx251_inb : ∀ (v2326 : IVec S16 32) (k1_hw251 : k1_chk251 v2326), ∀ a x, ((![v2326] : Fin 1 → IVec S16 32) a x).toNat < S100000.size a := fun v2326 k1_hw251 => k1_hw251

def k1_chk252 (v2331 : IVec S16 32) : Prop :=
  (∀ a x, ((![v2331] : Fin 1 → IVec S16 32) a x).toNat < S100000.size a)
theorem k1_idx252_inb : ∀ (v2331 : IVec S16 32) (k1_hw252 : k1_chk252 v2331), ∀ a x, ((![v2331] : Fin 1 → IVec S16 32) a x).toNat < S100000.size a := fun v2331 k1_hw252 => k1_hw252

def k1_chk253 (v2339 : IVec S16 32) (v2341 : IVec S16 32) : Prop :=
  (∀ a x, ((![v2339, v2341] : Fin 2 → IVec S16 32) a x).toNat < S100x128.size a)
theorem k1_idx253_inb : ∀ (v2339 : IVec S16 32) (v2341 : IVec S16 32) (k1_hw253 : k1_chk253 v2339 v2341), ∀ a x, ((![v2339, v2341] : Fin 2 → IVec S16 32) a x).toNat < S100x128.size a := fun v2339 v2341 k1_hw253 => k1_hw253

def k1_chk254 (v2344 : IVec S16 32) (v2346 : IVec S16 32) : Prop :=
  (∀ a x, ((![v2344, v2346] : Fin 2 → IVec S16 32) a x).toNat < S100x128.size a)
theorem k1_idx254_inb : ∀ (v2344 : IVec S16 32) (v2346 : IVec S16 32) (k1_hw254 : k1_chk254 v2344 v2346), ∀ a x, ((![v2344, v2346] : Fin 2 → IVec S16 32) a x).toNat < S100x128.size a := fun v2344 v2346 k1_hw254 => k1_hw254

def k1_chk255 (v2342 : IVec S16 32) : Prop :=
  (∀ a x, ((![v2342] : Fin 1 → IVec S16 32) a x).toNat < S100000.size a)
theorem k1_idx255_inb : ∀ (v2342 : IVec S16 32) (k1_hw255 : k1_chk255 v2342), ∀ a x, ((![v2342] : Fin 1 → IVec S16 32) a x).toNat < S100000.size a := fun v2342 k1_hw255 => k1_hw255

def k1_chk256 (v2347 : IVec S16 32) : Prop :=
  (∀ a x, ((![v2347] : Fin 1 → IVec S16 32) a x).toNat < S100000.size a)
theorem k1_idx256_inb : ∀ (v2347 : IVec S16 32) (k1_hw256 : k1_chk256 v2347), ∀ a x, ((![v2347] : Fin 1 → IVec S16 32) a x).toNat < S100000.size a := fun v2347 k1_hw256 => k1_hw256
@[reducible] def k1_t9_loop : Scf.Loop 32 :=
  let c0_i32_490 : BitVec 32 := 0#32
  let c25_i32_491 : BitVec 32 := 25#32
  let v954 : BitVec 32 := Scalar.addi c0_i32_490 c25_i32_491
  let c1_i32_492 : BitVec 32 := 1#32
  ⟨c0_i32_490, v954, c1_i32_492⟩

def k1_chk257 (v2227 : IVec S16 32) (v2229 : IVec S16 32) : Prop :=
  (∀ a x, ((![v2227, v2229] : Fin 2 → IVec S16 32) a x).toNat < S100x128.size a)
theorem k1_idx257_inb : ∀ (v2227 : IVec S16 32) (v2229 : IVec S16 32) (k1_hw257 : k1_chk257 v2227 v2229), ∀ a x, ((![v2227, v2229] : Fin 2 → IVec S16 32) a x).toNat < S100x128.size a := fun v2227 v2229 k1_hw257 => k1_hw257

def k1_chk258 (v2232 : IVec S16 32) (v2234 : IVec S16 32) : Prop :=
  (∀ a x, ((![v2232, v2234] : Fin 2 → IVec S16 32) a x).toNat < S100x128.size a)
theorem k1_idx258_inb : ∀ (v2232 : IVec S16 32) (v2234 : IVec S16 32) (k1_hw258 : k1_chk258 v2232 v2234), ∀ a x, ((![v2232, v2234] : Fin 2 → IVec S16 32) a x).toNat < S100x128.size a := fun v2232 v2234 k1_hw258 => k1_hw258

def k1_chk259 (v2230 : IVec S16 32) : Prop :=
  (∀ a x, ((![v2230] : Fin 1 → IVec S16 32) a x).toNat < S100000.size a)
theorem k1_idx259_inb : ∀ (v2230 : IVec S16 32) (k1_hw259 : k1_chk259 v2230), ∀ a x, ((![v2230] : Fin 1 → IVec S16 32) a x).toNat < S100000.size a := fun v2230 k1_hw259 => k1_hw259

def k1_chk260 (v2235 : IVec S16 32) : Prop :=
  (∀ a x, ((![v2235] : Fin 1 → IVec S16 32) a x).toNat < S100000.size a)
theorem k1_idx260_inb : ∀ (v2235 : IVec S16 32) (k1_hw260 : k1_chk260 v2235), ∀ a x, ((![v2235] : Fin 1 → IVec S16 32) a x).toNat < S100000.size a := fun v2235 k1_hw260 => k1_hw260

def k1_chk261 (v2243 : IVec S16 32) (v2245 : IVec S16 32) : Prop :=
  (∀ a x, ((![v2243, v2245] : Fin 2 → IVec S16 32) a x).toNat < S100x128.size a)
theorem k1_idx261_inb : ∀ (v2243 : IVec S16 32) (v2245 : IVec S16 32) (k1_hw261 : k1_chk261 v2243 v2245), ∀ a x, ((![v2243, v2245] : Fin 2 → IVec S16 32) a x).toNat < S100x128.size a := fun v2243 v2245 k1_hw261 => k1_hw261

def k1_chk262 (v2248 : IVec S16 32) (v2250 : IVec S16 32) : Prop :=
  (∀ a x, ((![v2248, v2250] : Fin 2 → IVec S16 32) a x).toNat < S100x128.size a)
theorem k1_idx262_inb : ∀ (v2248 : IVec S16 32) (v2250 : IVec S16 32) (k1_hw262 : k1_chk262 v2248 v2250), ∀ a x, ((![v2248, v2250] : Fin 2 → IVec S16 32) a x).toNat < S100x128.size a := fun v2248 v2250 k1_hw262 => k1_hw262

def k1_chk263 (v2246 : IVec S16 32) : Prop :=
  (∀ a x, ((![v2246] : Fin 1 → IVec S16 32) a x).toNat < S100000.size a)
theorem k1_idx263_inb : ∀ (v2246 : IVec S16 32) (k1_hw263 : k1_chk263 v2246), ∀ a x, ((![v2246] : Fin 1 → IVec S16 32) a x).toNat < S100000.size a := fun v2246 k1_hw263 => k1_hw263

def k1_chk264 (v2251 : IVec S16 32) : Prop :=
  (∀ a x, ((![v2251] : Fin 1 → IVec S16 32) a x).toNat < S100000.size a)
theorem k1_idx264_inb : ∀ (v2251 : IVec S16 32) (k1_hw264 : k1_chk264 v2251), ∀ a x, ((![v2251] : Fin 1 → IVec S16 32) a x).toNat < S100000.size a := fun v2251 k1_hw264 => k1_hw264

def k1_chk265 (v2259 : IVec S16 32) (v2261 : IVec S16 32) : Prop :=
  (∀ a x, ((![v2259, v2261] : Fin 2 → IVec S16 32) a x).toNat < S100x128.size a)
theorem k1_idx265_inb : ∀ (v2259 : IVec S16 32) (v2261 : IVec S16 32) (k1_hw265 : k1_chk265 v2259 v2261), ∀ a x, ((![v2259, v2261] : Fin 2 → IVec S16 32) a x).toNat < S100x128.size a := fun v2259 v2261 k1_hw265 => k1_hw265

def k1_chk266 (v2264 : IVec S16 32) (v2266 : IVec S16 32) : Prop :=
  (∀ a x, ((![v2264, v2266] : Fin 2 → IVec S16 32) a x).toNat < S100x128.size a)
theorem k1_idx266_inb : ∀ (v2264 : IVec S16 32) (v2266 : IVec S16 32) (k1_hw266 : k1_chk266 v2264 v2266), ∀ a x, ((![v2264, v2266] : Fin 2 → IVec S16 32) a x).toNat < S100x128.size a := fun v2264 v2266 k1_hw266 => k1_hw266

def k1_chk267 (v2262 : IVec S16 32) : Prop :=
  (∀ a x, ((![v2262] : Fin 1 → IVec S16 32) a x).toNat < S100000.size a)
theorem k1_idx267_inb : ∀ (v2262 : IVec S16 32) (k1_hw267 : k1_chk267 v2262), ∀ a x, ((![v2262] : Fin 1 → IVec S16 32) a x).toNat < S100000.size a := fun v2262 k1_hw267 => k1_hw267

def k1_chk268 (v2267 : IVec S16 32) : Prop :=
  (∀ a x, ((![v2267] : Fin 1 → IVec S16 32) a x).toNat < S100000.size a)
theorem k1_idx268_inb : ∀ (v2267 : IVec S16 32) (k1_hw268 : k1_chk268 v2267), ∀ a x, ((![v2267] : Fin 1 → IVec S16 32) a x).toNat < S100000.size a := fun v2267 k1_hw268 => k1_hw268

def k1_chk269 (v2275 : IVec S16 32) (v2277 : IVec S16 32) : Prop :=
  (∀ a x, ((![v2275, v2277] : Fin 2 → IVec S16 32) a x).toNat < S100x128.size a)
theorem k1_idx269_inb : ∀ (v2275 : IVec S16 32) (v2277 : IVec S16 32) (k1_hw269 : k1_chk269 v2275 v2277), ∀ a x, ((![v2275, v2277] : Fin 2 → IVec S16 32) a x).toNat < S100x128.size a := fun v2275 v2277 k1_hw269 => k1_hw269

def k1_chk270 (v2280 : IVec S16 32) (v2282 : IVec S16 32) : Prop :=
  (∀ a x, ((![v2280, v2282] : Fin 2 → IVec S16 32) a x).toNat < S100x128.size a)
theorem k1_idx270_inb : ∀ (v2280 : IVec S16 32) (v2282 : IVec S16 32) (k1_hw270 : k1_chk270 v2280 v2282), ∀ a x, ((![v2280, v2282] : Fin 2 → IVec S16 32) a x).toNat < S100x128.size a := fun v2280 v2282 k1_hw270 => k1_hw270

def k1_chk271 (v2278 : IVec S16 32) : Prop :=
  (∀ a x, ((![v2278] : Fin 1 → IVec S16 32) a x).toNat < S100000.size a)
theorem k1_idx271_inb : ∀ (v2278 : IVec S16 32) (k1_hw271 : k1_chk271 v2278), ∀ a x, ((![v2278] : Fin 1 → IVec S16 32) a x).toNat < S100000.size a := fun v2278 k1_hw271 => k1_hw271

def k1_chk272 (v2283 : IVec S16 32) : Prop :=
  (∀ a x, ((![v2283] : Fin 1 → IVec S16 32) a x).toNat < S100000.size a)
theorem k1_idx272_inb : ∀ (v2283 : IVec S16 32) (k1_hw272 : k1_chk272 v2283), ∀ a x, ((![v2283] : Fin 1 → IVec S16 32) a x).toNat < S100000.size a := fun v2283 k1_hw272 => k1_hw272

def k1_chk273 (v2291 : IVec S16 32) (v2293 : IVec S16 32) : Prop :=
  (∀ a x, ((![v2291, v2293] : Fin 2 → IVec S16 32) a x).toNat < S100x128.size a)
theorem k1_idx273_inb : ∀ (v2291 : IVec S16 32) (v2293 : IVec S16 32) (k1_hw273 : k1_chk273 v2291 v2293), ∀ a x, ((![v2291, v2293] : Fin 2 → IVec S16 32) a x).toNat < S100x128.size a := fun v2291 v2293 k1_hw273 => k1_hw273

def k1_chk274 (v2296 : IVec S16 32) (v2298 : IVec S16 32) : Prop :=
  (∀ a x, ((![v2296, v2298] : Fin 2 → IVec S16 32) a x).toNat < S100x128.size a)
theorem k1_idx274_inb : ∀ (v2296 : IVec S16 32) (v2298 : IVec S16 32) (k1_hw274 : k1_chk274 v2296 v2298), ∀ a x, ((![v2296, v2298] : Fin 2 → IVec S16 32) a x).toNat < S100x128.size a := fun v2296 v2298 k1_hw274 => k1_hw274

def k1_chk275 (v2294 : IVec S16 32) : Prop :=
  (∀ a x, ((![v2294] : Fin 1 → IVec S16 32) a x).toNat < S100000.size a)
theorem k1_idx275_inb : ∀ (v2294 : IVec S16 32) (k1_hw275 : k1_chk275 v2294), ∀ a x, ((![v2294] : Fin 1 → IVec S16 32) a x).toNat < S100000.size a := fun v2294 k1_hw275 => k1_hw275

def k1_chk276 (v2299 : IVec S16 32) : Prop :=
  (∀ a x, ((![v2299] : Fin 1 → IVec S16 32) a x).toNat < S100000.size a)
theorem k1_idx276_inb : ∀ (v2299 : IVec S16 32) (k1_hw276 : k1_chk276 v2299), ∀ a x, ((![v2299] : Fin 1 → IVec S16 32) a x).toNat < S100000.size a := fun v2299 k1_hw276 => k1_hw276

def k1_chk277 (v2307 : IVec S16 32) (v2309 : IVec S16 32) : Prop :=
  (∀ a x, ((![v2307, v2309] : Fin 2 → IVec S16 32) a x).toNat < S100x128.size a)
theorem k1_idx277_inb : ∀ (v2307 : IVec S16 32) (v2309 : IVec S16 32) (k1_hw277 : k1_chk277 v2307 v2309), ∀ a x, ((![v2307, v2309] : Fin 2 → IVec S16 32) a x).toNat < S100x128.size a := fun v2307 v2309 k1_hw277 => k1_hw277

def k1_chk278 (v2312 : IVec S16 32) (v2314 : IVec S16 32) : Prop :=
  (∀ a x, ((![v2312, v2314] : Fin 2 → IVec S16 32) a x).toNat < S100x128.size a)
theorem k1_idx278_inb : ∀ (v2312 : IVec S16 32) (v2314 : IVec S16 32) (k1_hw278 : k1_chk278 v2312 v2314), ∀ a x, ((![v2312, v2314] : Fin 2 → IVec S16 32) a x).toNat < S100x128.size a := fun v2312 v2314 k1_hw278 => k1_hw278

def k1_chk279 (v2310 : IVec S16 32) : Prop :=
  (∀ a x, ((![v2310] : Fin 1 → IVec S16 32) a x).toNat < S100000.size a)
theorem k1_idx279_inb : ∀ (v2310 : IVec S16 32) (k1_hw279 : k1_chk279 v2310), ∀ a x, ((![v2310] : Fin 1 → IVec S16 32) a x).toNat < S100000.size a := fun v2310 k1_hw279 => k1_hw279

def k1_chk280 (v2315 : IVec S16 32) : Prop :=
  (∀ a x, ((![v2315] : Fin 1 → IVec S16 32) a x).toNat < S100000.size a)
theorem k1_idx280_inb : ∀ (v2315 : IVec S16 32) (k1_hw280 : k1_chk280 v2315), ∀ a x, ((![v2315] : Fin 1 → IVec S16 32) a x).toNat < S100000.size a := fun v2315 k1_hw280 => k1_hw280

def k1_chk281 (v2323 : IVec S16 32) (v2325 : IVec S16 32) : Prop :=
  (∀ a x, ((![v2323, v2325] : Fin 2 → IVec S16 32) a x).toNat < S100x128.size a)
theorem k1_idx281_inb : ∀ (v2323 : IVec S16 32) (v2325 : IVec S16 32) (k1_hw281 : k1_chk281 v2323 v2325), ∀ a x, ((![v2323, v2325] : Fin 2 → IVec S16 32) a x).toNat < S100x128.size a := fun v2323 v2325 k1_hw281 => k1_hw281

def k1_chk282 (v2328 : IVec S16 32) (v2330 : IVec S16 32) : Prop :=
  (∀ a x, ((![v2328, v2330] : Fin 2 → IVec S16 32) a x).toNat < S100x128.size a)
theorem k1_idx282_inb : ∀ (v2328 : IVec S16 32) (v2330 : IVec S16 32) (k1_hw282 : k1_chk282 v2328 v2330), ∀ a x, ((![v2328, v2330] : Fin 2 → IVec S16 32) a x).toNat < S100x128.size a := fun v2328 v2330 k1_hw282 => k1_hw282

def k1_chk283 (v2326 : IVec S16 32) : Prop :=
  (∀ a x, ((![v2326] : Fin 1 → IVec S16 32) a x).toNat < S100000.size a)
theorem k1_idx283_inb : ∀ (v2326 : IVec S16 32) (k1_hw283 : k1_chk283 v2326), ∀ a x, ((![v2326] : Fin 1 → IVec S16 32) a x).toNat < S100000.size a := fun v2326 k1_hw283 => k1_hw283

def k1_chk284 (v2331 : IVec S16 32) : Prop :=
  (∀ a x, ((![v2331] : Fin 1 → IVec S16 32) a x).toNat < S100000.size a)
theorem k1_idx284_inb : ∀ (v2331 : IVec S16 32) (k1_hw284 : k1_chk284 v2331), ∀ a x, ((![v2331] : Fin 1 → IVec S16 32) a x).toNat < S100000.size a := fun v2331 k1_hw284 => k1_hw284

def k1_chk285 (v2339 : IVec S16 32) (v2341 : IVec S16 32) : Prop :=
  (∀ a x, ((![v2339, v2341] : Fin 2 → IVec S16 32) a x).toNat < S100x128.size a)
theorem k1_idx285_inb : ∀ (v2339 : IVec S16 32) (v2341 : IVec S16 32) (k1_hw285 : k1_chk285 v2339 v2341), ∀ a x, ((![v2339, v2341] : Fin 2 → IVec S16 32) a x).toNat < S100x128.size a := fun v2339 v2341 k1_hw285 => k1_hw285

def k1_chk286 (v2344 : IVec S16 32) (v2346 : IVec S16 32) : Prop :=
  (∀ a x, ((![v2344, v2346] : Fin 2 → IVec S16 32) a x).toNat < S100x128.size a)
theorem k1_idx286_inb : ∀ (v2344 : IVec S16 32) (v2346 : IVec S16 32) (k1_hw286 : k1_chk286 v2344 v2346), ∀ a x, ((![v2344, v2346] : Fin 2 → IVec S16 32) a x).toNat < S100x128.size a := fun v2344 v2346 k1_hw286 => k1_hw286

def k1_chk287 (v2342 : IVec S16 32) : Prop :=
  (∀ a x, ((![v2342] : Fin 1 → IVec S16 32) a x).toNat < S100000.size a)
theorem k1_idx287_inb : ∀ (v2342 : IVec S16 32) (k1_hw287 : k1_chk287 v2342), ∀ a x, ((![v2342] : Fin 1 → IVec S16 32) a x).toNat < S100000.size a := fun v2342 k1_hw287 => k1_hw287

def k1_chk288 (v2347 : IVec S16 32) : Prop :=
  (∀ a x, ((![v2347] : Fin 1 → IVec S16 32) a x).toNat < S100000.size a)
theorem k1_idx288_inb : ∀ (v2347 : IVec S16 32) (k1_hw288 : k1_chk288 v2347), ∀ a x, ((![v2347] : Fin 1 → IVec S16 32) a x).toNat < S100000.size a := fun v2347 k1_hw288 => k1_hw288
@[reducible] def k1_t10_loop : Scf.Loop 32 :=
  let c0_i32_543 : BitVec 32 := 0#32
  let c25_i32_544 : BitVec 32 := 25#32
  let v1055 : BitVec 32 := Scalar.addi c0_i32_543 c25_i32_544
  let c1_i32_545 : BitVec 32 := 1#32
  ⟨c0_i32_543, v1055, c1_i32_545⟩

def k1_chk289 (v2227 : IVec S16 32) (v2229 : IVec S16 32) : Prop :=
  (∀ a x, ((![v2227, v2229] : Fin 2 → IVec S16 32) a x).toNat < S100x128.size a)
theorem k1_idx289_inb : ∀ (v2227 : IVec S16 32) (v2229 : IVec S16 32) (k1_hw289 : k1_chk289 v2227 v2229), ∀ a x, ((![v2227, v2229] : Fin 2 → IVec S16 32) a x).toNat < S100x128.size a := fun v2227 v2229 k1_hw289 => k1_hw289

def k1_chk290 (v2232 : IVec S16 32) (v2234 : IVec S16 32) : Prop :=
  (∀ a x, ((![v2232, v2234] : Fin 2 → IVec S16 32) a x).toNat < S100x128.size a)
theorem k1_idx290_inb : ∀ (v2232 : IVec S16 32) (v2234 : IVec S16 32) (k1_hw290 : k1_chk290 v2232 v2234), ∀ a x, ((![v2232, v2234] : Fin 2 → IVec S16 32) a x).toNat < S100x128.size a := fun v2232 v2234 k1_hw290 => k1_hw290

def k1_chk291 (v2230 : IVec S16 32) : Prop :=
  (∀ a x, ((![v2230] : Fin 1 → IVec S16 32) a x).toNat < S100000.size a)
theorem k1_idx291_inb : ∀ (v2230 : IVec S16 32) (k1_hw291 : k1_chk291 v2230), ∀ a x, ((![v2230] : Fin 1 → IVec S16 32) a x).toNat < S100000.size a := fun v2230 k1_hw291 => k1_hw291

def k1_chk292 (v2235 : IVec S16 32) : Prop :=
  (∀ a x, ((![v2235] : Fin 1 → IVec S16 32) a x).toNat < S100000.size a)
theorem k1_idx292_inb : ∀ (v2235 : IVec S16 32) (k1_hw292 : k1_chk292 v2235), ∀ a x, ((![v2235] : Fin 1 → IVec S16 32) a x).toNat < S100000.size a := fun v2235 k1_hw292 => k1_hw292

def k1_chk293 (v2243 : IVec S16 32) (v2245 : IVec S16 32) : Prop :=
  (∀ a x, ((![v2243, v2245] : Fin 2 → IVec S16 32) a x).toNat < S100x128.size a)
theorem k1_idx293_inb : ∀ (v2243 : IVec S16 32) (v2245 : IVec S16 32) (k1_hw293 : k1_chk293 v2243 v2245), ∀ a x, ((![v2243, v2245] : Fin 2 → IVec S16 32) a x).toNat < S100x128.size a := fun v2243 v2245 k1_hw293 => k1_hw293

def k1_chk294 (v2248 : IVec S16 32) (v2250 : IVec S16 32) : Prop :=
  (∀ a x, ((![v2248, v2250] : Fin 2 → IVec S16 32) a x).toNat < S100x128.size a)
theorem k1_idx294_inb : ∀ (v2248 : IVec S16 32) (v2250 : IVec S16 32) (k1_hw294 : k1_chk294 v2248 v2250), ∀ a x, ((![v2248, v2250] : Fin 2 → IVec S16 32) a x).toNat < S100x128.size a := fun v2248 v2250 k1_hw294 => k1_hw294

def k1_chk295 (v2246 : IVec S16 32) : Prop :=
  (∀ a x, ((![v2246] : Fin 1 → IVec S16 32) a x).toNat < S100000.size a)
theorem k1_idx295_inb : ∀ (v2246 : IVec S16 32) (k1_hw295 : k1_chk295 v2246), ∀ a x, ((![v2246] : Fin 1 → IVec S16 32) a x).toNat < S100000.size a := fun v2246 k1_hw295 => k1_hw295

def k1_chk296 (v2251 : IVec S16 32) : Prop :=
  (∀ a x, ((![v2251] : Fin 1 → IVec S16 32) a x).toNat < S100000.size a)
theorem k1_idx296_inb : ∀ (v2251 : IVec S16 32) (k1_hw296 : k1_chk296 v2251), ∀ a x, ((![v2251] : Fin 1 → IVec S16 32) a x).toNat < S100000.size a := fun v2251 k1_hw296 => k1_hw296

def k1_chk297 (v2259 : IVec S16 32) (v2261 : IVec S16 32) : Prop :=
  (∀ a x, ((![v2259, v2261] : Fin 2 → IVec S16 32) a x).toNat < S100x128.size a)
theorem k1_idx297_inb : ∀ (v2259 : IVec S16 32) (v2261 : IVec S16 32) (k1_hw297 : k1_chk297 v2259 v2261), ∀ a x, ((![v2259, v2261] : Fin 2 → IVec S16 32) a x).toNat < S100x128.size a := fun v2259 v2261 k1_hw297 => k1_hw297

def k1_chk298 (v2264 : IVec S16 32) (v2266 : IVec S16 32) : Prop :=
  (∀ a x, ((![v2264, v2266] : Fin 2 → IVec S16 32) a x).toNat < S100x128.size a)
theorem k1_idx298_inb : ∀ (v2264 : IVec S16 32) (v2266 : IVec S16 32) (k1_hw298 : k1_chk298 v2264 v2266), ∀ a x, ((![v2264, v2266] : Fin 2 → IVec S16 32) a x).toNat < S100x128.size a := fun v2264 v2266 k1_hw298 => k1_hw298

def k1_chk299 (v2262 : IVec S16 32) : Prop :=
  (∀ a x, ((![v2262] : Fin 1 → IVec S16 32) a x).toNat < S100000.size a)
theorem k1_idx299_inb : ∀ (v2262 : IVec S16 32) (k1_hw299 : k1_chk299 v2262), ∀ a x, ((![v2262] : Fin 1 → IVec S16 32) a x).toNat < S100000.size a := fun v2262 k1_hw299 => k1_hw299

def k1_chk300 (v2267 : IVec S16 32) : Prop :=
  (∀ a x, ((![v2267] : Fin 1 → IVec S16 32) a x).toNat < S100000.size a)
theorem k1_idx300_inb : ∀ (v2267 : IVec S16 32) (k1_hw300 : k1_chk300 v2267), ∀ a x, ((![v2267] : Fin 1 → IVec S16 32) a x).toNat < S100000.size a := fun v2267 k1_hw300 => k1_hw300

def k1_chk301 (v2275 : IVec S16 32) (v2277 : IVec S16 32) : Prop :=
  (∀ a x, ((![v2275, v2277] : Fin 2 → IVec S16 32) a x).toNat < S100x128.size a)
theorem k1_idx301_inb : ∀ (v2275 : IVec S16 32) (v2277 : IVec S16 32) (k1_hw301 : k1_chk301 v2275 v2277), ∀ a x, ((![v2275, v2277] : Fin 2 → IVec S16 32) a x).toNat < S100x128.size a := fun v2275 v2277 k1_hw301 => k1_hw301

def k1_chk302 (v2280 : IVec S16 32) (v2282 : IVec S16 32) : Prop :=
  (∀ a x, ((![v2280, v2282] : Fin 2 → IVec S16 32) a x).toNat < S100x128.size a)
theorem k1_idx302_inb : ∀ (v2280 : IVec S16 32) (v2282 : IVec S16 32) (k1_hw302 : k1_chk302 v2280 v2282), ∀ a x, ((![v2280, v2282] : Fin 2 → IVec S16 32) a x).toNat < S100x128.size a := fun v2280 v2282 k1_hw302 => k1_hw302

def k1_chk303 (v2278 : IVec S16 32) : Prop :=
  (∀ a x, ((![v2278] : Fin 1 → IVec S16 32) a x).toNat < S100000.size a)
theorem k1_idx303_inb : ∀ (v2278 : IVec S16 32) (k1_hw303 : k1_chk303 v2278), ∀ a x, ((![v2278] : Fin 1 → IVec S16 32) a x).toNat < S100000.size a := fun v2278 k1_hw303 => k1_hw303

def k1_chk304 (v2283 : IVec S16 32) : Prop :=
  (∀ a x, ((![v2283] : Fin 1 → IVec S16 32) a x).toNat < S100000.size a)
theorem k1_idx304_inb : ∀ (v2283 : IVec S16 32) (k1_hw304 : k1_chk304 v2283), ∀ a x, ((![v2283] : Fin 1 → IVec S16 32) a x).toNat < S100000.size a := fun v2283 k1_hw304 => k1_hw304

def k1_chk305 (v2291 : IVec S16 32) (v2293 : IVec S16 32) : Prop :=
  (∀ a x, ((![v2291, v2293] : Fin 2 → IVec S16 32) a x).toNat < S100x128.size a)
theorem k1_idx305_inb : ∀ (v2291 : IVec S16 32) (v2293 : IVec S16 32) (k1_hw305 : k1_chk305 v2291 v2293), ∀ a x, ((![v2291, v2293] : Fin 2 → IVec S16 32) a x).toNat < S100x128.size a := fun v2291 v2293 k1_hw305 => k1_hw305

def k1_chk306 (v2296 : IVec S16 32) (v2298 : IVec S16 32) : Prop :=
  (∀ a x, ((![v2296, v2298] : Fin 2 → IVec S16 32) a x).toNat < S100x128.size a)
theorem k1_idx306_inb : ∀ (v2296 : IVec S16 32) (v2298 : IVec S16 32) (k1_hw306 : k1_chk306 v2296 v2298), ∀ a x, ((![v2296, v2298] : Fin 2 → IVec S16 32) a x).toNat < S100x128.size a := fun v2296 v2298 k1_hw306 => k1_hw306

def k1_chk307 (v2294 : IVec S16 32) : Prop :=
  (∀ a x, ((![v2294] : Fin 1 → IVec S16 32) a x).toNat < S100000.size a)
theorem k1_idx307_inb : ∀ (v2294 : IVec S16 32) (k1_hw307 : k1_chk307 v2294), ∀ a x, ((![v2294] : Fin 1 → IVec S16 32) a x).toNat < S100000.size a := fun v2294 k1_hw307 => k1_hw307

def k1_chk308 (v2299 : IVec S16 32) : Prop :=
  (∀ a x, ((![v2299] : Fin 1 → IVec S16 32) a x).toNat < S100000.size a)
theorem k1_idx308_inb : ∀ (v2299 : IVec S16 32) (k1_hw308 : k1_chk308 v2299), ∀ a x, ((![v2299] : Fin 1 → IVec S16 32) a x).toNat < S100000.size a := fun v2299 k1_hw308 => k1_hw308

def k1_chk309 (v2307 : IVec S16 32) (v2309 : IVec S16 32) : Prop :=
  (∀ a x, ((![v2307, v2309] : Fin 2 → IVec S16 32) a x).toNat < S100x128.size a)
theorem k1_idx309_inb : ∀ (v2307 : IVec S16 32) (v2309 : IVec S16 32) (k1_hw309 : k1_chk309 v2307 v2309), ∀ a x, ((![v2307, v2309] : Fin 2 → IVec S16 32) a x).toNat < S100x128.size a := fun v2307 v2309 k1_hw309 => k1_hw309

def k1_chk310 (v2312 : IVec S16 32) (v2314 : IVec S16 32) : Prop :=
  (∀ a x, ((![v2312, v2314] : Fin 2 → IVec S16 32) a x).toNat < S100x128.size a)
theorem k1_idx310_inb : ∀ (v2312 : IVec S16 32) (v2314 : IVec S16 32) (k1_hw310 : k1_chk310 v2312 v2314), ∀ a x, ((![v2312, v2314] : Fin 2 → IVec S16 32) a x).toNat < S100x128.size a := fun v2312 v2314 k1_hw310 => k1_hw310

def k1_chk311 (v2310 : IVec S16 32) : Prop :=
  (∀ a x, ((![v2310] : Fin 1 → IVec S16 32) a x).toNat < S100000.size a)
theorem k1_idx311_inb : ∀ (v2310 : IVec S16 32) (k1_hw311 : k1_chk311 v2310), ∀ a x, ((![v2310] : Fin 1 → IVec S16 32) a x).toNat < S100000.size a := fun v2310 k1_hw311 => k1_hw311

def k1_chk312 (v2315 : IVec S16 32) : Prop :=
  (∀ a x, ((![v2315] : Fin 1 → IVec S16 32) a x).toNat < S100000.size a)
theorem k1_idx312_inb : ∀ (v2315 : IVec S16 32) (k1_hw312 : k1_chk312 v2315), ∀ a x, ((![v2315] : Fin 1 → IVec S16 32) a x).toNat < S100000.size a := fun v2315 k1_hw312 => k1_hw312

def k1_chk313 (v2323 : IVec S16 32) (v2325 : IVec S16 32) : Prop :=
  (∀ a x, ((![v2323, v2325] : Fin 2 → IVec S16 32) a x).toNat < S100x128.size a)
theorem k1_idx313_inb : ∀ (v2323 : IVec S16 32) (v2325 : IVec S16 32) (k1_hw313 : k1_chk313 v2323 v2325), ∀ a x, ((![v2323, v2325] : Fin 2 → IVec S16 32) a x).toNat < S100x128.size a := fun v2323 v2325 k1_hw313 => k1_hw313

def k1_chk314 (v2328 : IVec S16 32) (v2330 : IVec S16 32) : Prop :=
  (∀ a x, ((![v2328, v2330] : Fin 2 → IVec S16 32) a x).toNat < S100x128.size a)
theorem k1_idx314_inb : ∀ (v2328 : IVec S16 32) (v2330 : IVec S16 32) (k1_hw314 : k1_chk314 v2328 v2330), ∀ a x, ((![v2328, v2330] : Fin 2 → IVec S16 32) a x).toNat < S100x128.size a := fun v2328 v2330 k1_hw314 => k1_hw314

def k1_chk315 (v2326 : IVec S16 32) : Prop :=
  (∀ a x, ((![v2326] : Fin 1 → IVec S16 32) a x).toNat < S100000.size a)
theorem k1_idx315_inb : ∀ (v2326 : IVec S16 32) (k1_hw315 : k1_chk315 v2326), ∀ a x, ((![v2326] : Fin 1 → IVec S16 32) a x).toNat < S100000.size a := fun v2326 k1_hw315 => k1_hw315

def k1_chk316 (v2331 : IVec S16 32) : Prop :=
  (∀ a x, ((![v2331] : Fin 1 → IVec S16 32) a x).toNat < S100000.size a)
theorem k1_idx316_inb : ∀ (v2331 : IVec S16 32) (k1_hw316 : k1_chk316 v2331), ∀ a x, ((![v2331] : Fin 1 → IVec S16 32) a x).toNat < S100000.size a := fun v2331 k1_hw316 => k1_hw316

def k1_chk317 (v2339 : IVec S16 32) (v2341 : IVec S16 32) : Prop :=
  (∀ a x, ((![v2339, v2341] : Fin 2 → IVec S16 32) a x).toNat < S100x128.size a)
theorem k1_idx317_inb : ∀ (v2339 : IVec S16 32) (v2341 : IVec S16 32) (k1_hw317 : k1_chk317 v2339 v2341), ∀ a x, ((![v2339, v2341] : Fin 2 → IVec S16 32) a x).toNat < S100x128.size a := fun v2339 v2341 k1_hw317 => k1_hw317

def k1_chk318 (v2344 : IVec S16 32) (v2346 : IVec S16 32) : Prop :=
  (∀ a x, ((![v2344, v2346] : Fin 2 → IVec S16 32) a x).toNat < S100x128.size a)
theorem k1_idx318_inb : ∀ (v2344 : IVec S16 32) (v2346 : IVec S16 32) (k1_hw318 : k1_chk318 v2344 v2346), ∀ a x, ((![v2344, v2346] : Fin 2 → IVec S16 32) a x).toNat < S100x128.size a := fun v2344 v2346 k1_hw318 => k1_hw318

def k1_chk319 (v2342 : IVec S16 32) : Prop :=
  (∀ a x, ((![v2342] : Fin 1 → IVec S16 32) a x).toNat < S100000.size a)
theorem k1_idx319_inb : ∀ (v2342 : IVec S16 32) (k1_hw319 : k1_chk319 v2342), ∀ a x, ((![v2342] : Fin 1 → IVec S16 32) a x).toNat < S100000.size a := fun v2342 k1_hw319 => k1_hw319

def k1_chk320 (v2347 : IVec S16 32) : Prop :=
  (∀ a x, ((![v2347] : Fin 1 → IVec S16 32) a x).toNat < S100000.size a)
theorem k1_idx320_inb : ∀ (v2347 : IVec S16 32) (k1_hw320 : k1_chk320 v2347), ∀ a x, ((![v2347] : Fin 1 → IVec S16 32) a x).toNat < S100000.size a := fun v2347 k1_hw320 => k1_hw320
@[reducible] def k1_t11_loop : Scf.Loop 32 :=
  let c0_i32_600 : BitVec 32 := 0#32
  let c25_i32_601 : BitVec 32 := 25#32
  let v1161 : BitVec 32 := Scalar.addi c0_i32_600 c25_i32_601
  let c1_i32_602 : BitVec 32 := 1#32
  ⟨c0_i32_600, v1161, c1_i32_602⟩

def k1_chk321 (v2227 : IVec S16 32) (v2229 : IVec S16 32) : Prop :=
  (∀ a x, ((![v2227, v2229] : Fin 2 → IVec S16 32) a x).toNat < S100x128.size a)
theorem k1_idx321_inb : ∀ (v2227 : IVec S16 32) (v2229 : IVec S16 32) (k1_hw321 : k1_chk321 v2227 v2229), ∀ a x, ((![v2227, v2229] : Fin 2 → IVec S16 32) a x).toNat < S100x128.size a := fun v2227 v2229 k1_hw321 => k1_hw321

def k1_chk322 (v2232 : IVec S16 32) (v2234 : IVec S16 32) : Prop :=
  (∀ a x, ((![v2232, v2234] : Fin 2 → IVec S16 32) a x).toNat < S100x128.size a)
theorem k1_idx322_inb : ∀ (v2232 : IVec S16 32) (v2234 : IVec S16 32) (k1_hw322 : k1_chk322 v2232 v2234), ∀ a x, ((![v2232, v2234] : Fin 2 → IVec S16 32) a x).toNat < S100x128.size a := fun v2232 v2234 k1_hw322 => k1_hw322

def k1_chk323 (v2230 : IVec S16 32) : Prop :=
  (∀ a x, ((![v2230] : Fin 1 → IVec S16 32) a x).toNat < S100000.size a)
theorem k1_idx323_inb : ∀ (v2230 : IVec S16 32) (k1_hw323 : k1_chk323 v2230), ∀ a x, ((![v2230] : Fin 1 → IVec S16 32) a x).toNat < S100000.size a := fun v2230 k1_hw323 => k1_hw323

def k1_chk324 (v2235 : IVec S16 32) : Prop :=
  (∀ a x, ((![v2235] : Fin 1 → IVec S16 32) a x).toNat < S100000.size a)
theorem k1_idx324_inb : ∀ (v2235 : IVec S16 32) (k1_hw324 : k1_chk324 v2235), ∀ a x, ((![v2235] : Fin 1 → IVec S16 32) a x).toNat < S100000.size a := fun v2235 k1_hw324 => k1_hw324

def k1_chk325 (v2243 : IVec S16 32) (v2245 : IVec S16 32) : Prop :=
  (∀ a x, ((![v2243, v2245] : Fin 2 → IVec S16 32) a x).toNat < S100x128.size a)
theorem k1_idx325_inb : ∀ (v2243 : IVec S16 32) (v2245 : IVec S16 32) (k1_hw325 : k1_chk325 v2243 v2245), ∀ a x, ((![v2243, v2245] : Fin 2 → IVec S16 32) a x).toNat < S100x128.size a := fun v2243 v2245 k1_hw325 => k1_hw325

def k1_chk326 (v2248 : IVec S16 32) (v2250 : IVec S16 32) : Prop :=
  (∀ a x, ((![v2248, v2250] : Fin 2 → IVec S16 32) a x).toNat < S100x128.size a)
theorem k1_idx326_inb : ∀ (v2248 : IVec S16 32) (v2250 : IVec S16 32) (k1_hw326 : k1_chk326 v2248 v2250), ∀ a x, ((![v2248, v2250] : Fin 2 → IVec S16 32) a x).toNat < S100x128.size a := fun v2248 v2250 k1_hw326 => k1_hw326

def k1_chk327 (v2246 : IVec S16 32) : Prop :=
  (∀ a x, ((![v2246] : Fin 1 → IVec S16 32) a x).toNat < S100000.size a)
theorem k1_idx327_inb : ∀ (v2246 : IVec S16 32) (k1_hw327 : k1_chk327 v2246), ∀ a x, ((![v2246] : Fin 1 → IVec S16 32) a x).toNat < S100000.size a := fun v2246 k1_hw327 => k1_hw327

def k1_chk328 (v2251 : IVec S16 32) : Prop :=
  (∀ a x, ((![v2251] : Fin 1 → IVec S16 32) a x).toNat < S100000.size a)
theorem k1_idx328_inb : ∀ (v2251 : IVec S16 32) (k1_hw328 : k1_chk328 v2251), ∀ a x, ((![v2251] : Fin 1 → IVec S16 32) a x).toNat < S100000.size a := fun v2251 k1_hw328 => k1_hw328

def k1_chk329 (v2259 : IVec S16 32) (v2261 : IVec S16 32) : Prop :=
  (∀ a x, ((![v2259, v2261] : Fin 2 → IVec S16 32) a x).toNat < S100x128.size a)
theorem k1_idx329_inb : ∀ (v2259 : IVec S16 32) (v2261 : IVec S16 32) (k1_hw329 : k1_chk329 v2259 v2261), ∀ a x, ((![v2259, v2261] : Fin 2 → IVec S16 32) a x).toNat < S100x128.size a := fun v2259 v2261 k1_hw329 => k1_hw329

def k1_chk330 (v2264 : IVec S16 32) (v2266 : IVec S16 32) : Prop :=
  (∀ a x, ((![v2264, v2266] : Fin 2 → IVec S16 32) a x).toNat < S100x128.size a)
theorem k1_idx330_inb : ∀ (v2264 : IVec S16 32) (v2266 : IVec S16 32) (k1_hw330 : k1_chk330 v2264 v2266), ∀ a x, ((![v2264, v2266] : Fin 2 → IVec S16 32) a x).toNat < S100x128.size a := fun v2264 v2266 k1_hw330 => k1_hw330

def k1_chk331 (v2262 : IVec S16 32) : Prop :=
  (∀ a x, ((![v2262] : Fin 1 → IVec S16 32) a x).toNat < S100000.size a)
theorem k1_idx331_inb : ∀ (v2262 : IVec S16 32) (k1_hw331 : k1_chk331 v2262), ∀ a x, ((![v2262] : Fin 1 → IVec S16 32) a x).toNat < S100000.size a := fun v2262 k1_hw331 => k1_hw331

def k1_chk332 (v2267 : IVec S16 32) : Prop :=
  (∀ a x, ((![v2267] : Fin 1 → IVec S16 32) a x).toNat < S100000.size a)
theorem k1_idx332_inb : ∀ (v2267 : IVec S16 32) (k1_hw332 : k1_chk332 v2267), ∀ a x, ((![v2267] : Fin 1 → IVec S16 32) a x).toNat < S100000.size a := fun v2267 k1_hw332 => k1_hw332

def k1_chk333 (v2275 : IVec S16 32) (v2277 : IVec S16 32) : Prop :=
  (∀ a x, ((![v2275, v2277] : Fin 2 → IVec S16 32) a x).toNat < S100x128.size a)
theorem k1_idx333_inb : ∀ (v2275 : IVec S16 32) (v2277 : IVec S16 32) (k1_hw333 : k1_chk333 v2275 v2277), ∀ a x, ((![v2275, v2277] : Fin 2 → IVec S16 32) a x).toNat < S100x128.size a := fun v2275 v2277 k1_hw333 => k1_hw333

def k1_chk334 (v2280 : IVec S16 32) (v2282 : IVec S16 32) : Prop :=
  (∀ a x, ((![v2280, v2282] : Fin 2 → IVec S16 32) a x).toNat < S100x128.size a)
theorem k1_idx334_inb : ∀ (v2280 : IVec S16 32) (v2282 : IVec S16 32) (k1_hw334 : k1_chk334 v2280 v2282), ∀ a x, ((![v2280, v2282] : Fin 2 → IVec S16 32) a x).toNat < S100x128.size a := fun v2280 v2282 k1_hw334 => k1_hw334

def k1_chk335 (v2278 : IVec S16 32) : Prop :=
  (∀ a x, ((![v2278] : Fin 1 → IVec S16 32) a x).toNat < S100000.size a)
theorem k1_idx335_inb : ∀ (v2278 : IVec S16 32) (k1_hw335 : k1_chk335 v2278), ∀ a x, ((![v2278] : Fin 1 → IVec S16 32) a x).toNat < S100000.size a := fun v2278 k1_hw335 => k1_hw335

def k1_chk336 (v2283 : IVec S16 32) : Prop :=
  (∀ a x, ((![v2283] : Fin 1 → IVec S16 32) a x).toNat < S100000.size a)
theorem k1_idx336_inb : ∀ (v2283 : IVec S16 32) (k1_hw336 : k1_chk336 v2283), ∀ a x, ((![v2283] : Fin 1 → IVec S16 32) a x).toNat < S100000.size a := fun v2283 k1_hw336 => k1_hw336

def k1_chk337 (v2291 : IVec S16 32) (v2293 : IVec S16 32) : Prop :=
  (∀ a x, ((![v2291, v2293] : Fin 2 → IVec S16 32) a x).toNat < S100x128.size a)
theorem k1_idx337_inb : ∀ (v2291 : IVec S16 32) (v2293 : IVec S16 32) (k1_hw337 : k1_chk337 v2291 v2293), ∀ a x, ((![v2291, v2293] : Fin 2 → IVec S16 32) a x).toNat < S100x128.size a := fun v2291 v2293 k1_hw337 => k1_hw337

def k1_chk338 (v2296 : IVec S16 32) (v2298 : IVec S16 32) : Prop :=
  (∀ a x, ((![v2296, v2298] : Fin 2 → IVec S16 32) a x).toNat < S100x128.size a)
theorem k1_idx338_inb : ∀ (v2296 : IVec S16 32) (v2298 : IVec S16 32) (k1_hw338 : k1_chk338 v2296 v2298), ∀ a x, ((![v2296, v2298] : Fin 2 → IVec S16 32) a x).toNat < S100x128.size a := fun v2296 v2298 k1_hw338 => k1_hw338

def k1_chk339 (v2294 : IVec S16 32) : Prop :=
  (∀ a x, ((![v2294] : Fin 1 → IVec S16 32) a x).toNat < S100000.size a)
theorem k1_idx339_inb : ∀ (v2294 : IVec S16 32) (k1_hw339 : k1_chk339 v2294), ∀ a x, ((![v2294] : Fin 1 → IVec S16 32) a x).toNat < S100000.size a := fun v2294 k1_hw339 => k1_hw339

def k1_chk340 (v2299 : IVec S16 32) : Prop :=
  (∀ a x, ((![v2299] : Fin 1 → IVec S16 32) a x).toNat < S100000.size a)
theorem k1_idx340_inb : ∀ (v2299 : IVec S16 32) (k1_hw340 : k1_chk340 v2299), ∀ a x, ((![v2299] : Fin 1 → IVec S16 32) a x).toNat < S100000.size a := fun v2299 k1_hw340 => k1_hw340

def k1_chk341 (v2307 : IVec S16 32) (v2309 : IVec S16 32) : Prop :=
  (∀ a x, ((![v2307, v2309] : Fin 2 → IVec S16 32) a x).toNat < S100x128.size a)
theorem k1_idx341_inb : ∀ (v2307 : IVec S16 32) (v2309 : IVec S16 32) (k1_hw341 : k1_chk341 v2307 v2309), ∀ a x, ((![v2307, v2309] : Fin 2 → IVec S16 32) a x).toNat < S100x128.size a := fun v2307 v2309 k1_hw341 => k1_hw341

def k1_chk342 (v2312 : IVec S16 32) (v2314 : IVec S16 32) : Prop :=
  (∀ a x, ((![v2312, v2314] : Fin 2 → IVec S16 32) a x).toNat < S100x128.size a)
theorem k1_idx342_inb : ∀ (v2312 : IVec S16 32) (v2314 : IVec S16 32) (k1_hw342 : k1_chk342 v2312 v2314), ∀ a x, ((![v2312, v2314] : Fin 2 → IVec S16 32) a x).toNat < S100x128.size a := fun v2312 v2314 k1_hw342 => k1_hw342

def k1_chk343 (v2310 : IVec S16 32) : Prop :=
  (∀ a x, ((![v2310] : Fin 1 → IVec S16 32) a x).toNat < S100000.size a)
theorem k1_idx343_inb : ∀ (v2310 : IVec S16 32) (k1_hw343 : k1_chk343 v2310), ∀ a x, ((![v2310] : Fin 1 → IVec S16 32) a x).toNat < S100000.size a := fun v2310 k1_hw343 => k1_hw343

def k1_chk344 (v2315 : IVec S16 32) : Prop :=
  (∀ a x, ((![v2315] : Fin 1 → IVec S16 32) a x).toNat < S100000.size a)
theorem k1_idx344_inb : ∀ (v2315 : IVec S16 32) (k1_hw344 : k1_chk344 v2315), ∀ a x, ((![v2315] : Fin 1 → IVec S16 32) a x).toNat < S100000.size a := fun v2315 k1_hw344 => k1_hw344

def k1_chk345 (v2323 : IVec S16 32) (v2325 : IVec S16 32) : Prop :=
  (∀ a x, ((![v2323, v2325] : Fin 2 → IVec S16 32) a x).toNat < S100x128.size a)
theorem k1_idx345_inb : ∀ (v2323 : IVec S16 32) (v2325 : IVec S16 32) (k1_hw345 : k1_chk345 v2323 v2325), ∀ a x, ((![v2323, v2325] : Fin 2 → IVec S16 32) a x).toNat < S100x128.size a := fun v2323 v2325 k1_hw345 => k1_hw345

def k1_chk346 (v2328 : IVec S16 32) (v2330 : IVec S16 32) : Prop :=
  (∀ a x, ((![v2328, v2330] : Fin 2 → IVec S16 32) a x).toNat < S100x128.size a)
theorem k1_idx346_inb : ∀ (v2328 : IVec S16 32) (v2330 : IVec S16 32) (k1_hw346 : k1_chk346 v2328 v2330), ∀ a x, ((![v2328, v2330] : Fin 2 → IVec S16 32) a x).toNat < S100x128.size a := fun v2328 v2330 k1_hw346 => k1_hw346

def k1_chk347 (v2326 : IVec S16 32) : Prop :=
  (∀ a x, ((![v2326] : Fin 1 → IVec S16 32) a x).toNat < S100000.size a)
theorem k1_idx347_inb : ∀ (v2326 : IVec S16 32) (k1_hw347 : k1_chk347 v2326), ∀ a x, ((![v2326] : Fin 1 → IVec S16 32) a x).toNat < S100000.size a := fun v2326 k1_hw347 => k1_hw347

def k1_chk348 (v2331 : IVec S16 32) : Prop :=
  (∀ a x, ((![v2331] : Fin 1 → IVec S16 32) a x).toNat < S100000.size a)
theorem k1_idx348_inb : ∀ (v2331 : IVec S16 32) (k1_hw348 : k1_chk348 v2331), ∀ a x, ((![v2331] : Fin 1 → IVec S16 32) a x).toNat < S100000.size a := fun v2331 k1_hw348 => k1_hw348

def k1_chk349 (v2339 : IVec S16 32) (v2341 : IVec S16 32) : Prop :=
  (∀ a x, ((![v2339, v2341] : Fin 2 → IVec S16 32) a x).toNat < S100x128.size a)
theorem k1_idx349_inb : ∀ (v2339 : IVec S16 32) (v2341 : IVec S16 32) (k1_hw349 : k1_chk349 v2339 v2341), ∀ a x, ((![v2339, v2341] : Fin 2 → IVec S16 32) a x).toNat < S100x128.size a := fun v2339 v2341 k1_hw349 => k1_hw349

def k1_chk350 (v2344 : IVec S16 32) (v2346 : IVec S16 32) : Prop :=
  (∀ a x, ((![v2344, v2346] : Fin 2 → IVec S16 32) a x).toNat < S100x128.size a)
theorem k1_idx350_inb : ∀ (v2344 : IVec S16 32) (v2346 : IVec S16 32) (k1_hw350 : k1_chk350 v2344 v2346), ∀ a x, ((![v2344, v2346] : Fin 2 → IVec S16 32) a x).toNat < S100x128.size a := fun v2344 v2346 k1_hw350 => k1_hw350

def k1_chk351 (v2342 : IVec S16 32) : Prop :=
  (∀ a x, ((![v2342] : Fin 1 → IVec S16 32) a x).toNat < S100000.size a)
theorem k1_idx351_inb : ∀ (v2342 : IVec S16 32) (k1_hw351 : k1_chk351 v2342), ∀ a x, ((![v2342] : Fin 1 → IVec S16 32) a x).toNat < S100000.size a := fun v2342 k1_hw351 => k1_hw351

def k1_chk352 (v2347 : IVec S16 32) : Prop :=
  (∀ a x, ((![v2347] : Fin 1 → IVec S16 32) a x).toNat < S100000.size a)
theorem k1_idx352_inb : ∀ (v2347 : IVec S16 32) (k1_hw352 : k1_chk352 v2347), ∀ a x, ((![v2347] : Fin 1 → IVec S16 32) a x).toNat < S100000.size a := fun v2347 k1_hw352 => k1_hw352
@[reducible] def k1_t12_loop : Scf.Loop 32 :=
  let c0_i32_653 : BitVec 32 := 0#32
  let c25_i32_654 : BitVec 32 := 25#32
  let v1262 : BitVec 32 := Scalar.addi c0_i32_653 c25_i32_654
  let c1_i32_655 : BitVec 32 := 1#32
  ⟨c0_i32_653, v1262, c1_i32_655⟩

def k1_chk353 (v2227 : IVec S16 32) (v2229 : IVec S16 32) : Prop :=
  (∀ a x, ((![v2227, v2229] : Fin 2 → IVec S16 32) a x).toNat < S100x128.size a)
theorem k1_idx353_inb : ∀ (v2227 : IVec S16 32) (v2229 : IVec S16 32) (k1_hw353 : k1_chk353 v2227 v2229), ∀ a x, ((![v2227, v2229] : Fin 2 → IVec S16 32) a x).toNat < S100x128.size a := fun v2227 v2229 k1_hw353 => k1_hw353

def k1_chk354 (v2232 : IVec S16 32) (v2234 : IVec S16 32) : Prop :=
  (∀ a x, ((![v2232, v2234] : Fin 2 → IVec S16 32) a x).toNat < S100x128.size a)
theorem k1_idx354_inb : ∀ (v2232 : IVec S16 32) (v2234 : IVec S16 32) (k1_hw354 : k1_chk354 v2232 v2234), ∀ a x, ((![v2232, v2234] : Fin 2 → IVec S16 32) a x).toNat < S100x128.size a := fun v2232 v2234 k1_hw354 => k1_hw354

def k1_chk355 (v2230 : IVec S16 32) : Prop :=
  (∀ a x, ((![v2230] : Fin 1 → IVec S16 32) a x).toNat < S100000.size a)
theorem k1_idx355_inb : ∀ (v2230 : IVec S16 32) (k1_hw355 : k1_chk355 v2230), ∀ a x, ((![v2230] : Fin 1 → IVec S16 32) a x).toNat < S100000.size a := fun v2230 k1_hw355 => k1_hw355

def k1_chk356 (v2235 : IVec S16 32) : Prop :=
  (∀ a x, ((![v2235] : Fin 1 → IVec S16 32) a x).toNat < S100000.size a)
theorem k1_idx356_inb : ∀ (v2235 : IVec S16 32) (k1_hw356 : k1_chk356 v2235), ∀ a x, ((![v2235] : Fin 1 → IVec S16 32) a x).toNat < S100000.size a := fun v2235 k1_hw356 => k1_hw356

def k1_chk357 (v2243 : IVec S16 32) (v2245 : IVec S16 32) : Prop :=
  (∀ a x, ((![v2243, v2245] : Fin 2 → IVec S16 32) a x).toNat < S100x128.size a)
theorem k1_idx357_inb : ∀ (v2243 : IVec S16 32) (v2245 : IVec S16 32) (k1_hw357 : k1_chk357 v2243 v2245), ∀ a x, ((![v2243, v2245] : Fin 2 → IVec S16 32) a x).toNat < S100x128.size a := fun v2243 v2245 k1_hw357 => k1_hw357

def k1_chk358 (v2248 : IVec S16 32) (v2250 : IVec S16 32) : Prop :=
  (∀ a x, ((![v2248, v2250] : Fin 2 → IVec S16 32) a x).toNat < S100x128.size a)
theorem k1_idx358_inb : ∀ (v2248 : IVec S16 32) (v2250 : IVec S16 32) (k1_hw358 : k1_chk358 v2248 v2250), ∀ a x, ((![v2248, v2250] : Fin 2 → IVec S16 32) a x).toNat < S100x128.size a := fun v2248 v2250 k1_hw358 => k1_hw358

def k1_chk359 (v2246 : IVec S16 32) : Prop :=
  (∀ a x, ((![v2246] : Fin 1 → IVec S16 32) a x).toNat < S100000.size a)
theorem k1_idx359_inb : ∀ (v2246 : IVec S16 32) (k1_hw359 : k1_chk359 v2246), ∀ a x, ((![v2246] : Fin 1 → IVec S16 32) a x).toNat < S100000.size a := fun v2246 k1_hw359 => k1_hw359

def k1_chk360 (v2251 : IVec S16 32) : Prop :=
  (∀ a x, ((![v2251] : Fin 1 → IVec S16 32) a x).toNat < S100000.size a)
theorem k1_idx360_inb : ∀ (v2251 : IVec S16 32) (k1_hw360 : k1_chk360 v2251), ∀ a x, ((![v2251] : Fin 1 → IVec S16 32) a x).toNat < S100000.size a := fun v2251 k1_hw360 => k1_hw360

def k1_chk361 (v2259 : IVec S16 32) (v2261 : IVec S16 32) : Prop :=
  (∀ a x, ((![v2259, v2261] : Fin 2 → IVec S16 32) a x).toNat < S100x128.size a)
theorem k1_idx361_inb : ∀ (v2259 : IVec S16 32) (v2261 : IVec S16 32) (k1_hw361 : k1_chk361 v2259 v2261), ∀ a x, ((![v2259, v2261] : Fin 2 → IVec S16 32) a x).toNat < S100x128.size a := fun v2259 v2261 k1_hw361 => k1_hw361

def k1_chk362 (v2264 : IVec S16 32) (v2266 : IVec S16 32) : Prop :=
  (∀ a x, ((![v2264, v2266] : Fin 2 → IVec S16 32) a x).toNat < S100x128.size a)
theorem k1_idx362_inb : ∀ (v2264 : IVec S16 32) (v2266 : IVec S16 32) (k1_hw362 : k1_chk362 v2264 v2266), ∀ a x, ((![v2264, v2266] : Fin 2 → IVec S16 32) a x).toNat < S100x128.size a := fun v2264 v2266 k1_hw362 => k1_hw362

def k1_chk363 (v2262 : IVec S16 32) : Prop :=
  (∀ a x, ((![v2262] : Fin 1 → IVec S16 32) a x).toNat < S100000.size a)
theorem k1_idx363_inb : ∀ (v2262 : IVec S16 32) (k1_hw363 : k1_chk363 v2262), ∀ a x, ((![v2262] : Fin 1 → IVec S16 32) a x).toNat < S100000.size a := fun v2262 k1_hw363 => k1_hw363

def k1_chk364 (v2267 : IVec S16 32) : Prop :=
  (∀ a x, ((![v2267] : Fin 1 → IVec S16 32) a x).toNat < S100000.size a)
theorem k1_idx364_inb : ∀ (v2267 : IVec S16 32) (k1_hw364 : k1_chk364 v2267), ∀ a x, ((![v2267] : Fin 1 → IVec S16 32) a x).toNat < S100000.size a := fun v2267 k1_hw364 => k1_hw364

def k1_chk365 (v2275 : IVec S16 32) (v2277 : IVec S16 32) : Prop :=
  (∀ a x, ((![v2275, v2277] : Fin 2 → IVec S16 32) a x).toNat < S100x128.size a)
theorem k1_idx365_inb : ∀ (v2275 : IVec S16 32) (v2277 : IVec S16 32) (k1_hw365 : k1_chk365 v2275 v2277), ∀ a x, ((![v2275, v2277] : Fin 2 → IVec S16 32) a x).toNat < S100x128.size a := fun v2275 v2277 k1_hw365 => k1_hw365

def k1_chk366 (v2280 : IVec S16 32) (v2282 : IVec S16 32) : Prop :=
  (∀ a x, ((![v2280, v2282] : Fin 2 → IVec S16 32) a x).toNat < S100x128.size a)
theorem k1_idx366_inb : ∀ (v2280 : IVec S16 32) (v2282 : IVec S16 32) (k1_hw366 : k1_chk366 v2280 v2282), ∀ a x, ((![v2280, v2282] : Fin 2 → IVec S16 32) a x).toNat < S100x128.size a := fun v2280 v2282 k1_hw366 => k1_hw366

def k1_chk367 (v2278 : IVec S16 32) : Prop :=
  (∀ a x, ((![v2278] : Fin 1 → IVec S16 32) a x).toNat < S100000.size a)
theorem k1_idx367_inb : ∀ (v2278 : IVec S16 32) (k1_hw367 : k1_chk367 v2278), ∀ a x, ((![v2278] : Fin 1 → IVec S16 32) a x).toNat < S100000.size a := fun v2278 k1_hw367 => k1_hw367

def k1_chk368 (v2283 : IVec S16 32) : Prop :=
  (∀ a x, ((![v2283] : Fin 1 → IVec S16 32) a x).toNat < S100000.size a)
theorem k1_idx368_inb : ∀ (v2283 : IVec S16 32) (k1_hw368 : k1_chk368 v2283), ∀ a x, ((![v2283] : Fin 1 → IVec S16 32) a x).toNat < S100000.size a := fun v2283 k1_hw368 => k1_hw368

def k1_chk369 (v2291 : IVec S16 32) (v2293 : IVec S16 32) : Prop :=
  (∀ a x, ((![v2291, v2293] : Fin 2 → IVec S16 32) a x).toNat < S100x128.size a)
theorem k1_idx369_inb : ∀ (v2291 : IVec S16 32) (v2293 : IVec S16 32) (k1_hw369 : k1_chk369 v2291 v2293), ∀ a x, ((![v2291, v2293] : Fin 2 → IVec S16 32) a x).toNat < S100x128.size a := fun v2291 v2293 k1_hw369 => k1_hw369

def k1_chk370 (v2296 : IVec S16 32) (v2298 : IVec S16 32) : Prop :=
  (∀ a x, ((![v2296, v2298] : Fin 2 → IVec S16 32) a x).toNat < S100x128.size a)
theorem k1_idx370_inb : ∀ (v2296 : IVec S16 32) (v2298 : IVec S16 32) (k1_hw370 : k1_chk370 v2296 v2298), ∀ a x, ((![v2296, v2298] : Fin 2 → IVec S16 32) a x).toNat < S100x128.size a := fun v2296 v2298 k1_hw370 => k1_hw370

def k1_chk371 (v2294 : IVec S16 32) : Prop :=
  (∀ a x, ((![v2294] : Fin 1 → IVec S16 32) a x).toNat < S100000.size a)
theorem k1_idx371_inb : ∀ (v2294 : IVec S16 32) (k1_hw371 : k1_chk371 v2294), ∀ a x, ((![v2294] : Fin 1 → IVec S16 32) a x).toNat < S100000.size a := fun v2294 k1_hw371 => k1_hw371

def k1_chk372 (v2299 : IVec S16 32) : Prop :=
  (∀ a x, ((![v2299] : Fin 1 → IVec S16 32) a x).toNat < S100000.size a)
theorem k1_idx372_inb : ∀ (v2299 : IVec S16 32) (k1_hw372 : k1_chk372 v2299), ∀ a x, ((![v2299] : Fin 1 → IVec S16 32) a x).toNat < S100000.size a := fun v2299 k1_hw372 => k1_hw372

def k1_chk373 (v2307 : IVec S16 32) (v2309 : IVec S16 32) : Prop :=
  (∀ a x, ((![v2307, v2309] : Fin 2 → IVec S16 32) a x).toNat < S100x128.size a)
theorem k1_idx373_inb : ∀ (v2307 : IVec S16 32) (v2309 : IVec S16 32) (k1_hw373 : k1_chk373 v2307 v2309), ∀ a x, ((![v2307, v2309] : Fin 2 → IVec S16 32) a x).toNat < S100x128.size a := fun v2307 v2309 k1_hw373 => k1_hw373

def k1_chk374 (v2312 : IVec S16 32) (v2314 : IVec S16 32) : Prop :=
  (∀ a x, ((![v2312, v2314] : Fin 2 → IVec S16 32) a x).toNat < S100x128.size a)
theorem k1_idx374_inb : ∀ (v2312 : IVec S16 32) (v2314 : IVec S16 32) (k1_hw374 : k1_chk374 v2312 v2314), ∀ a x, ((![v2312, v2314] : Fin 2 → IVec S16 32) a x).toNat < S100x128.size a := fun v2312 v2314 k1_hw374 => k1_hw374

def k1_chk375 (v2310 : IVec S16 32) : Prop :=
  (∀ a x, ((![v2310] : Fin 1 → IVec S16 32) a x).toNat < S100000.size a)
theorem k1_idx375_inb : ∀ (v2310 : IVec S16 32) (k1_hw375 : k1_chk375 v2310), ∀ a x, ((![v2310] : Fin 1 → IVec S16 32) a x).toNat < S100000.size a := fun v2310 k1_hw375 => k1_hw375

def k1_chk376 (v2315 : IVec S16 32) : Prop :=
  (∀ a x, ((![v2315] : Fin 1 → IVec S16 32) a x).toNat < S100000.size a)
theorem k1_idx376_inb : ∀ (v2315 : IVec S16 32) (k1_hw376 : k1_chk376 v2315), ∀ a x, ((![v2315] : Fin 1 → IVec S16 32) a x).toNat < S100000.size a := fun v2315 k1_hw376 => k1_hw376

def k1_chk377 (v2323 : IVec S16 32) (v2325 : IVec S16 32) : Prop :=
  (∀ a x, ((![v2323, v2325] : Fin 2 → IVec S16 32) a x).toNat < S100x128.size a)
theorem k1_idx377_inb : ∀ (v2323 : IVec S16 32) (v2325 : IVec S16 32) (k1_hw377 : k1_chk377 v2323 v2325), ∀ a x, ((![v2323, v2325] : Fin 2 → IVec S16 32) a x).toNat < S100x128.size a := fun v2323 v2325 k1_hw377 => k1_hw377

def k1_chk378 (v2328 : IVec S16 32) (v2330 : IVec S16 32) : Prop :=
  (∀ a x, ((![v2328, v2330] : Fin 2 → IVec S16 32) a x).toNat < S100x128.size a)
theorem k1_idx378_inb : ∀ (v2328 : IVec S16 32) (v2330 : IVec S16 32) (k1_hw378 : k1_chk378 v2328 v2330), ∀ a x, ((![v2328, v2330] : Fin 2 → IVec S16 32) a x).toNat < S100x128.size a := fun v2328 v2330 k1_hw378 => k1_hw378

def k1_chk379 (v2326 : IVec S16 32) : Prop :=
  (∀ a x, ((![v2326] : Fin 1 → IVec S16 32) a x).toNat < S100000.size a)
theorem k1_idx379_inb : ∀ (v2326 : IVec S16 32) (k1_hw379 : k1_chk379 v2326), ∀ a x, ((![v2326] : Fin 1 → IVec S16 32) a x).toNat < S100000.size a := fun v2326 k1_hw379 => k1_hw379

def k1_chk380 (v2331 : IVec S16 32) : Prop :=
  (∀ a x, ((![v2331] : Fin 1 → IVec S16 32) a x).toNat < S100000.size a)
theorem k1_idx380_inb : ∀ (v2331 : IVec S16 32) (k1_hw380 : k1_chk380 v2331), ∀ a x, ((![v2331] : Fin 1 → IVec S16 32) a x).toNat < S100000.size a := fun v2331 k1_hw380 => k1_hw380

def k1_chk381 (v2339 : IVec S16 32) (v2341 : IVec S16 32) : Prop :=
  (∀ a x, ((![v2339, v2341] : Fin 2 → IVec S16 32) a x).toNat < S100x128.size a)
theorem k1_idx381_inb : ∀ (v2339 : IVec S16 32) (v2341 : IVec S16 32) (k1_hw381 : k1_chk381 v2339 v2341), ∀ a x, ((![v2339, v2341] : Fin 2 → IVec S16 32) a x).toNat < S100x128.size a := fun v2339 v2341 k1_hw381 => k1_hw381

def k1_chk382 (v2344 : IVec S16 32) (v2346 : IVec S16 32) : Prop :=
  (∀ a x, ((![v2344, v2346] : Fin 2 → IVec S16 32) a x).toNat < S100x128.size a)
theorem k1_idx382_inb : ∀ (v2344 : IVec S16 32) (v2346 : IVec S16 32) (k1_hw382 : k1_chk382 v2344 v2346), ∀ a x, ((![v2344, v2346] : Fin 2 → IVec S16 32) a x).toNat < S100x128.size a := fun v2344 v2346 k1_hw382 => k1_hw382

def k1_chk383 (v2342 : IVec S16 32) : Prop :=
  (∀ a x, ((![v2342] : Fin 1 → IVec S16 32) a x).toNat < S100000.size a)
theorem k1_idx383_inb : ∀ (v2342 : IVec S16 32) (k1_hw383 : k1_chk383 v2342), ∀ a x, ((![v2342] : Fin 1 → IVec S16 32) a x).toNat < S100000.size a := fun v2342 k1_hw383 => k1_hw383

def k1_chk384 (v2347 : IVec S16 32) : Prop :=
  (∀ a x, ((![v2347] : Fin 1 → IVec S16 32) a x).toNat < S100000.size a)
theorem k1_idx384_inb : ∀ (v2347 : IVec S16 32) (k1_hw384 : k1_chk384 v2347), ∀ a x, ((![v2347] : Fin 1 → IVec S16 32) a x).toNat < S100000.size a := fun v2347 k1_hw384 => k1_hw384
@[reducible] def k1_t13_loop : Scf.Loop 32 :=
  let c0_i32_710 : BitVec 32 := 0#32
  let c25_i32_711 : BitVec 32 := 25#32
  let v1368 : BitVec 32 := Scalar.addi c0_i32_710 c25_i32_711
  let c1_i32_712 : BitVec 32 := 1#32
  ⟨c0_i32_710, v1368, c1_i32_712⟩

def k1_chk385 (v2227 : IVec S16 32) (v2229 : IVec S16 32) : Prop :=
  (∀ a x, ((![v2227, v2229] : Fin 2 → IVec S16 32) a x).toNat < S100x128.size a)
theorem k1_idx385_inb : ∀ (v2227 : IVec S16 32) (v2229 : IVec S16 32) (k1_hw385 : k1_chk385 v2227 v2229), ∀ a x, ((![v2227, v2229] : Fin 2 → IVec S16 32) a x).toNat < S100x128.size a := fun v2227 v2229 k1_hw385 => k1_hw385

def k1_chk386 (v2232 : IVec S16 32) (v2234 : IVec S16 32) : Prop :=
  (∀ a x, ((![v2232, v2234] : Fin 2 → IVec S16 32) a x).toNat < S100x128.size a)
theorem k1_idx386_inb : ∀ (v2232 : IVec S16 32) (v2234 : IVec S16 32) (k1_hw386 : k1_chk386 v2232 v2234), ∀ a x, ((![v2232, v2234] : Fin 2 → IVec S16 32) a x).toNat < S100x128.size a := fun v2232 v2234 k1_hw386 => k1_hw386

def k1_chk387 (v2230 : IVec S16 32) : Prop :=
  (∀ a x, ((![v2230] : Fin 1 → IVec S16 32) a x).toNat < S100000.size a)
theorem k1_idx387_inb : ∀ (v2230 : IVec S16 32) (k1_hw387 : k1_chk387 v2230), ∀ a x, ((![v2230] : Fin 1 → IVec S16 32) a x).toNat < S100000.size a := fun v2230 k1_hw387 => k1_hw387

def k1_chk388 (v2235 : IVec S16 32) : Prop :=
  (∀ a x, ((![v2235] : Fin 1 → IVec S16 32) a x).toNat < S100000.size a)
theorem k1_idx388_inb : ∀ (v2235 : IVec S16 32) (k1_hw388 : k1_chk388 v2235), ∀ a x, ((![v2235] : Fin 1 → IVec S16 32) a x).toNat < S100000.size a := fun v2235 k1_hw388 => k1_hw388

def k1_chk389 (v2243 : IVec S16 32) (v2245 : IVec S16 32) : Prop :=
  (∀ a x, ((![v2243, v2245] : Fin 2 → IVec S16 32) a x).toNat < S100x128.size a)
theorem k1_idx389_inb : ∀ (v2243 : IVec S16 32) (v2245 : IVec S16 32) (k1_hw389 : k1_chk389 v2243 v2245), ∀ a x, ((![v2243, v2245] : Fin 2 → IVec S16 32) a x).toNat < S100x128.size a := fun v2243 v2245 k1_hw389 => k1_hw389

def k1_chk390 (v2248 : IVec S16 32) (v2250 : IVec S16 32) : Prop :=
  (∀ a x, ((![v2248, v2250] : Fin 2 → IVec S16 32) a x).toNat < S100x128.size a)
theorem k1_idx390_inb : ∀ (v2248 : IVec S16 32) (v2250 : IVec S16 32) (k1_hw390 : k1_chk390 v2248 v2250), ∀ a x, ((![v2248, v2250] : Fin 2 → IVec S16 32) a x).toNat < S100x128.size a := fun v2248 v2250 k1_hw390 => k1_hw390

def k1_chk391 (v2246 : IVec S16 32) : Prop :=
  (∀ a x, ((![v2246] : Fin 1 → IVec S16 32) a x).toNat < S100000.size a)
theorem k1_idx391_inb : ∀ (v2246 : IVec S16 32) (k1_hw391 : k1_chk391 v2246), ∀ a x, ((![v2246] : Fin 1 → IVec S16 32) a x).toNat < S100000.size a := fun v2246 k1_hw391 => k1_hw391

def k1_chk392 (v2251 : IVec S16 32) : Prop :=
  (∀ a x, ((![v2251] : Fin 1 → IVec S16 32) a x).toNat < S100000.size a)
theorem k1_idx392_inb : ∀ (v2251 : IVec S16 32) (k1_hw392 : k1_chk392 v2251), ∀ a x, ((![v2251] : Fin 1 → IVec S16 32) a x).toNat < S100000.size a := fun v2251 k1_hw392 => k1_hw392

def k1_chk393 (v2259 : IVec S16 32) (v2261 : IVec S16 32) : Prop :=
  (∀ a x, ((![v2259, v2261] : Fin 2 → IVec S16 32) a x).toNat < S100x128.size a)
theorem k1_idx393_inb : ∀ (v2259 : IVec S16 32) (v2261 : IVec S16 32) (k1_hw393 : k1_chk393 v2259 v2261), ∀ a x, ((![v2259, v2261] : Fin 2 → IVec S16 32) a x).toNat < S100x128.size a := fun v2259 v2261 k1_hw393 => k1_hw393

def k1_chk394 (v2264 : IVec S16 32) (v2266 : IVec S16 32) : Prop :=
  (∀ a x, ((![v2264, v2266] : Fin 2 → IVec S16 32) a x).toNat < S100x128.size a)
theorem k1_idx394_inb : ∀ (v2264 : IVec S16 32) (v2266 : IVec S16 32) (k1_hw394 : k1_chk394 v2264 v2266), ∀ a x, ((![v2264, v2266] : Fin 2 → IVec S16 32) a x).toNat < S100x128.size a := fun v2264 v2266 k1_hw394 => k1_hw394

def k1_chk395 (v2262 : IVec S16 32) : Prop :=
  (∀ a x, ((![v2262] : Fin 1 → IVec S16 32) a x).toNat < S100000.size a)
theorem k1_idx395_inb : ∀ (v2262 : IVec S16 32) (k1_hw395 : k1_chk395 v2262), ∀ a x, ((![v2262] : Fin 1 → IVec S16 32) a x).toNat < S100000.size a := fun v2262 k1_hw395 => k1_hw395

def k1_chk396 (v2267 : IVec S16 32) : Prop :=
  (∀ a x, ((![v2267] : Fin 1 → IVec S16 32) a x).toNat < S100000.size a)
theorem k1_idx396_inb : ∀ (v2267 : IVec S16 32) (k1_hw396 : k1_chk396 v2267), ∀ a x, ((![v2267] : Fin 1 → IVec S16 32) a x).toNat < S100000.size a := fun v2267 k1_hw396 => k1_hw396

def k1_chk397 (v2275 : IVec S16 32) (v2277 : IVec S16 32) : Prop :=
  (∀ a x, ((![v2275, v2277] : Fin 2 → IVec S16 32) a x).toNat < S100x128.size a)
theorem k1_idx397_inb : ∀ (v2275 : IVec S16 32) (v2277 : IVec S16 32) (k1_hw397 : k1_chk397 v2275 v2277), ∀ a x, ((![v2275, v2277] : Fin 2 → IVec S16 32) a x).toNat < S100x128.size a := fun v2275 v2277 k1_hw397 => k1_hw397

def k1_chk398 (v2280 : IVec S16 32) (v2282 : IVec S16 32) : Prop :=
  (∀ a x, ((![v2280, v2282] : Fin 2 → IVec S16 32) a x).toNat < S100x128.size a)
theorem k1_idx398_inb : ∀ (v2280 : IVec S16 32) (v2282 : IVec S16 32) (k1_hw398 : k1_chk398 v2280 v2282), ∀ a x, ((![v2280, v2282] : Fin 2 → IVec S16 32) a x).toNat < S100x128.size a := fun v2280 v2282 k1_hw398 => k1_hw398

def k1_chk399 (v2278 : IVec S16 32) : Prop :=
  (∀ a x, ((![v2278] : Fin 1 → IVec S16 32) a x).toNat < S100000.size a)
theorem k1_idx399_inb : ∀ (v2278 : IVec S16 32) (k1_hw399 : k1_chk399 v2278), ∀ a x, ((![v2278] : Fin 1 → IVec S16 32) a x).toNat < S100000.size a := fun v2278 k1_hw399 => k1_hw399

def k1_chk400 (v2283 : IVec S16 32) : Prop :=
  (∀ a x, ((![v2283] : Fin 1 → IVec S16 32) a x).toNat < S100000.size a)
theorem k1_idx400_inb : ∀ (v2283 : IVec S16 32) (k1_hw400 : k1_chk400 v2283), ∀ a x, ((![v2283] : Fin 1 → IVec S16 32) a x).toNat < S100000.size a := fun v2283 k1_hw400 => k1_hw400

def k1_chk401 (v2291 : IVec S16 32) (v2293 : IVec S16 32) : Prop :=
  (∀ a x, ((![v2291, v2293] : Fin 2 → IVec S16 32) a x).toNat < S100x128.size a)
theorem k1_idx401_inb : ∀ (v2291 : IVec S16 32) (v2293 : IVec S16 32) (k1_hw401 : k1_chk401 v2291 v2293), ∀ a x, ((![v2291, v2293] : Fin 2 → IVec S16 32) a x).toNat < S100x128.size a := fun v2291 v2293 k1_hw401 => k1_hw401

def k1_chk402 (v2296 : IVec S16 32) (v2298 : IVec S16 32) : Prop :=
  (∀ a x, ((![v2296, v2298] : Fin 2 → IVec S16 32) a x).toNat < S100x128.size a)
theorem k1_idx402_inb : ∀ (v2296 : IVec S16 32) (v2298 : IVec S16 32) (k1_hw402 : k1_chk402 v2296 v2298), ∀ a x, ((![v2296, v2298] : Fin 2 → IVec S16 32) a x).toNat < S100x128.size a := fun v2296 v2298 k1_hw402 => k1_hw402

def k1_chk403 (v2294 : IVec S16 32) : Prop :=
  (∀ a x, ((![v2294] : Fin 1 → IVec S16 32) a x).toNat < S100000.size a)
theorem k1_idx403_inb : ∀ (v2294 : IVec S16 32) (k1_hw403 : k1_chk403 v2294), ∀ a x, ((![v2294] : Fin 1 → IVec S16 32) a x).toNat < S100000.size a := fun v2294 k1_hw403 => k1_hw403

def k1_chk404 (v2299 : IVec S16 32) : Prop :=
  (∀ a x, ((![v2299] : Fin 1 → IVec S16 32) a x).toNat < S100000.size a)
theorem k1_idx404_inb : ∀ (v2299 : IVec S16 32) (k1_hw404 : k1_chk404 v2299), ∀ a x, ((![v2299] : Fin 1 → IVec S16 32) a x).toNat < S100000.size a := fun v2299 k1_hw404 => k1_hw404

def k1_chk405 (v2307 : IVec S16 32) (v2309 : IVec S16 32) : Prop :=
  (∀ a x, ((![v2307, v2309] : Fin 2 → IVec S16 32) a x).toNat < S100x128.size a)
theorem k1_idx405_inb : ∀ (v2307 : IVec S16 32) (v2309 : IVec S16 32) (k1_hw405 : k1_chk405 v2307 v2309), ∀ a x, ((![v2307, v2309] : Fin 2 → IVec S16 32) a x).toNat < S100x128.size a := fun v2307 v2309 k1_hw405 => k1_hw405

def k1_chk406 (v2312 : IVec S16 32) (v2314 : IVec S16 32) : Prop :=
  (∀ a x, ((![v2312, v2314] : Fin 2 → IVec S16 32) a x).toNat < S100x128.size a)
theorem k1_idx406_inb : ∀ (v2312 : IVec S16 32) (v2314 : IVec S16 32) (k1_hw406 : k1_chk406 v2312 v2314), ∀ a x, ((![v2312, v2314] : Fin 2 → IVec S16 32) a x).toNat < S100x128.size a := fun v2312 v2314 k1_hw406 => k1_hw406

def k1_chk407 (v2310 : IVec S16 32) : Prop :=
  (∀ a x, ((![v2310] : Fin 1 → IVec S16 32) a x).toNat < S100000.size a)
theorem k1_idx407_inb : ∀ (v2310 : IVec S16 32) (k1_hw407 : k1_chk407 v2310), ∀ a x, ((![v2310] : Fin 1 → IVec S16 32) a x).toNat < S100000.size a := fun v2310 k1_hw407 => k1_hw407

def k1_chk408 (v2315 : IVec S16 32) : Prop :=
  (∀ a x, ((![v2315] : Fin 1 → IVec S16 32) a x).toNat < S100000.size a)
theorem k1_idx408_inb : ∀ (v2315 : IVec S16 32) (k1_hw408 : k1_chk408 v2315), ∀ a x, ((![v2315] : Fin 1 → IVec S16 32) a x).toNat < S100000.size a := fun v2315 k1_hw408 => k1_hw408

def k1_chk409 (v2323 : IVec S16 32) (v2325 : IVec S16 32) : Prop :=
  (∀ a x, ((![v2323, v2325] : Fin 2 → IVec S16 32) a x).toNat < S100x128.size a)
theorem k1_idx409_inb : ∀ (v2323 : IVec S16 32) (v2325 : IVec S16 32) (k1_hw409 : k1_chk409 v2323 v2325), ∀ a x, ((![v2323, v2325] : Fin 2 → IVec S16 32) a x).toNat < S100x128.size a := fun v2323 v2325 k1_hw409 => k1_hw409

def k1_chk410 (v2328 : IVec S16 32) (v2330 : IVec S16 32) : Prop :=
  (∀ a x, ((![v2328, v2330] : Fin 2 → IVec S16 32) a x).toNat < S100x128.size a)
theorem k1_idx410_inb : ∀ (v2328 : IVec S16 32) (v2330 : IVec S16 32) (k1_hw410 : k1_chk410 v2328 v2330), ∀ a x, ((![v2328, v2330] : Fin 2 → IVec S16 32) a x).toNat < S100x128.size a := fun v2328 v2330 k1_hw410 => k1_hw410

def k1_chk411 (v2326 : IVec S16 32) : Prop :=
  (∀ a x, ((![v2326] : Fin 1 → IVec S16 32) a x).toNat < S100000.size a)
theorem k1_idx411_inb : ∀ (v2326 : IVec S16 32) (k1_hw411 : k1_chk411 v2326), ∀ a x, ((![v2326] : Fin 1 → IVec S16 32) a x).toNat < S100000.size a := fun v2326 k1_hw411 => k1_hw411

def k1_chk412 (v2331 : IVec S16 32) : Prop :=
  (∀ a x, ((![v2331] : Fin 1 → IVec S16 32) a x).toNat < S100000.size a)
theorem k1_idx412_inb : ∀ (v2331 : IVec S16 32) (k1_hw412 : k1_chk412 v2331), ∀ a x, ((![v2331] : Fin 1 → IVec S16 32) a x).toNat < S100000.size a := fun v2331 k1_hw412 => k1_hw412

def k1_chk413 (v2339 : IVec S16 32) (v2341 : IVec S16 32) : Prop :=
  (∀ a x, ((![v2339, v2341] : Fin 2 → IVec S16 32) a x).toNat < S100x128.size a)
theorem k1_idx413_inb : ∀ (v2339 : IVec S16 32) (v2341 : IVec S16 32) (k1_hw413 : k1_chk413 v2339 v2341), ∀ a x, ((![v2339, v2341] : Fin 2 → IVec S16 32) a x).toNat < S100x128.size a := fun v2339 v2341 k1_hw413 => k1_hw413

def k1_chk414 (v2344 : IVec S16 32) (v2346 : IVec S16 32) : Prop :=
  (∀ a x, ((![v2344, v2346] : Fin 2 → IVec S16 32) a x).toNat < S100x128.size a)
theorem k1_idx414_inb : ∀ (v2344 : IVec S16 32) (v2346 : IVec S16 32) (k1_hw414 : k1_chk414 v2344 v2346), ∀ a x, ((![v2344, v2346] : Fin 2 → IVec S16 32) a x).toNat < S100x128.size a := fun v2344 v2346 k1_hw414 => k1_hw414

def k1_chk415 (v2342 : IVec S16 32) : Prop :=
  (∀ a x, ((![v2342] : Fin 1 → IVec S16 32) a x).toNat < S100000.size a)
theorem k1_idx415_inb : ∀ (v2342 : IVec S16 32) (k1_hw415 : k1_chk415 v2342), ∀ a x, ((![v2342] : Fin 1 → IVec S16 32) a x).toNat < S100000.size a := fun v2342 k1_hw415 => k1_hw415

def k1_chk416 (v2347 : IVec S16 32) : Prop :=
  (∀ a x, ((![v2347] : Fin 1 → IVec S16 32) a x).toNat < S100000.size a)
theorem k1_idx416_inb : ∀ (v2347 : IVec S16 32) (k1_hw416 : k1_chk416 v2347), ∀ a x, ((![v2347] : Fin 1 → IVec S16 32) a x).toNat < S100000.size a := fun v2347 k1_hw416 => k1_hw416
@[reducible] def k1_t14_loop : Scf.Loop 32 :=
  let c0_i32_763 : BitVec 32 := 0#32
  let c25_i32_764 : BitVec 32 := 25#32
  let v1469 : BitVec 32 := Scalar.addi c0_i32_763 c25_i32_764
  let c1_i32_765 : BitVec 32 := 1#32
  ⟨c0_i32_763, v1469, c1_i32_765⟩

def k1_chk417 (v2227 : IVec S16 32) (v2229 : IVec S16 32) : Prop :=
  (∀ a x, ((![v2227, v2229] : Fin 2 → IVec S16 32) a x).toNat < S100x128.size a)
theorem k1_idx417_inb : ∀ (v2227 : IVec S16 32) (v2229 : IVec S16 32) (k1_hw417 : k1_chk417 v2227 v2229), ∀ a x, ((![v2227, v2229] : Fin 2 → IVec S16 32) a x).toNat < S100x128.size a := fun v2227 v2229 k1_hw417 => k1_hw417

def k1_chk418 (v2232 : IVec S16 32) (v2234 : IVec S16 32) : Prop :=
  (∀ a x, ((![v2232, v2234] : Fin 2 → IVec S16 32) a x).toNat < S100x128.size a)
theorem k1_idx418_inb : ∀ (v2232 : IVec S16 32) (v2234 : IVec S16 32) (k1_hw418 : k1_chk418 v2232 v2234), ∀ a x, ((![v2232, v2234] : Fin 2 → IVec S16 32) a x).toNat < S100x128.size a := fun v2232 v2234 k1_hw418 => k1_hw418

def k1_chk419 (v2230 : IVec S16 32) : Prop :=
  (∀ a x, ((![v2230] : Fin 1 → IVec S16 32) a x).toNat < S100000.size a)
theorem k1_idx419_inb : ∀ (v2230 : IVec S16 32) (k1_hw419 : k1_chk419 v2230), ∀ a x, ((![v2230] : Fin 1 → IVec S16 32) a x).toNat < S100000.size a := fun v2230 k1_hw419 => k1_hw419

def k1_chk420 (v2235 : IVec S16 32) : Prop :=
  (∀ a x, ((![v2235] : Fin 1 → IVec S16 32) a x).toNat < S100000.size a)
theorem k1_idx420_inb : ∀ (v2235 : IVec S16 32) (k1_hw420 : k1_chk420 v2235), ∀ a x, ((![v2235] : Fin 1 → IVec S16 32) a x).toNat < S100000.size a := fun v2235 k1_hw420 => k1_hw420

def k1_chk421 (v2243 : IVec S16 32) (v2245 : IVec S16 32) : Prop :=
  (∀ a x, ((![v2243, v2245] : Fin 2 → IVec S16 32) a x).toNat < S100x128.size a)
theorem k1_idx421_inb : ∀ (v2243 : IVec S16 32) (v2245 : IVec S16 32) (k1_hw421 : k1_chk421 v2243 v2245), ∀ a x, ((![v2243, v2245] : Fin 2 → IVec S16 32) a x).toNat < S100x128.size a := fun v2243 v2245 k1_hw421 => k1_hw421

def k1_chk422 (v2248 : IVec S16 32) (v2250 : IVec S16 32) : Prop :=
  (∀ a x, ((![v2248, v2250] : Fin 2 → IVec S16 32) a x).toNat < S100x128.size a)
theorem k1_idx422_inb : ∀ (v2248 : IVec S16 32) (v2250 : IVec S16 32) (k1_hw422 : k1_chk422 v2248 v2250), ∀ a x, ((![v2248, v2250] : Fin 2 → IVec S16 32) a x).toNat < S100x128.size a := fun v2248 v2250 k1_hw422 => k1_hw422

def k1_chk423 (v2246 : IVec S16 32) : Prop :=
  (∀ a x, ((![v2246] : Fin 1 → IVec S16 32) a x).toNat < S100000.size a)
theorem k1_idx423_inb : ∀ (v2246 : IVec S16 32) (k1_hw423 : k1_chk423 v2246), ∀ a x, ((![v2246] : Fin 1 → IVec S16 32) a x).toNat < S100000.size a := fun v2246 k1_hw423 => k1_hw423

def k1_chk424 (v2251 : IVec S16 32) : Prop :=
  (∀ a x, ((![v2251] : Fin 1 → IVec S16 32) a x).toNat < S100000.size a)
theorem k1_idx424_inb : ∀ (v2251 : IVec S16 32) (k1_hw424 : k1_chk424 v2251), ∀ a x, ((![v2251] : Fin 1 → IVec S16 32) a x).toNat < S100000.size a := fun v2251 k1_hw424 => k1_hw424

def k1_chk425 (v2259 : IVec S16 32) (v2261 : IVec S16 32) : Prop :=
  (∀ a x, ((![v2259, v2261] : Fin 2 → IVec S16 32) a x).toNat < S100x128.size a)
theorem k1_idx425_inb : ∀ (v2259 : IVec S16 32) (v2261 : IVec S16 32) (k1_hw425 : k1_chk425 v2259 v2261), ∀ a x, ((![v2259, v2261] : Fin 2 → IVec S16 32) a x).toNat < S100x128.size a := fun v2259 v2261 k1_hw425 => k1_hw425

def k1_chk426 (v2264 : IVec S16 32) (v2266 : IVec S16 32) : Prop :=
  (∀ a x, ((![v2264, v2266] : Fin 2 → IVec S16 32) a x).toNat < S100x128.size a)
theorem k1_idx426_inb : ∀ (v2264 : IVec S16 32) (v2266 : IVec S16 32) (k1_hw426 : k1_chk426 v2264 v2266), ∀ a x, ((![v2264, v2266] : Fin 2 → IVec S16 32) a x).toNat < S100x128.size a := fun v2264 v2266 k1_hw426 => k1_hw426

def k1_chk427 (v2262 : IVec S16 32) : Prop :=
  (∀ a x, ((![v2262] : Fin 1 → IVec S16 32) a x).toNat < S100000.size a)
theorem k1_idx427_inb : ∀ (v2262 : IVec S16 32) (k1_hw427 : k1_chk427 v2262), ∀ a x, ((![v2262] : Fin 1 → IVec S16 32) a x).toNat < S100000.size a := fun v2262 k1_hw427 => k1_hw427

def k1_chk428 (v2267 : IVec S16 32) : Prop :=
  (∀ a x, ((![v2267] : Fin 1 → IVec S16 32) a x).toNat < S100000.size a)
theorem k1_idx428_inb : ∀ (v2267 : IVec S16 32) (k1_hw428 : k1_chk428 v2267), ∀ a x, ((![v2267] : Fin 1 → IVec S16 32) a x).toNat < S100000.size a := fun v2267 k1_hw428 => k1_hw428

def k1_chk429 (v2275 : IVec S16 32) (v2277 : IVec S16 32) : Prop :=
  (∀ a x, ((![v2275, v2277] : Fin 2 → IVec S16 32) a x).toNat < S100x128.size a)
theorem k1_idx429_inb : ∀ (v2275 : IVec S16 32) (v2277 : IVec S16 32) (k1_hw429 : k1_chk429 v2275 v2277), ∀ a x, ((![v2275, v2277] : Fin 2 → IVec S16 32) a x).toNat < S100x128.size a := fun v2275 v2277 k1_hw429 => k1_hw429

def k1_chk430 (v2280 : IVec S16 32) (v2282 : IVec S16 32) : Prop :=
  (∀ a x, ((![v2280, v2282] : Fin 2 → IVec S16 32) a x).toNat < S100x128.size a)
theorem k1_idx430_inb : ∀ (v2280 : IVec S16 32) (v2282 : IVec S16 32) (k1_hw430 : k1_chk430 v2280 v2282), ∀ a x, ((![v2280, v2282] : Fin 2 → IVec S16 32) a x).toNat < S100x128.size a := fun v2280 v2282 k1_hw430 => k1_hw430

def k1_chk431 (v2278 : IVec S16 32) : Prop :=
  (∀ a x, ((![v2278] : Fin 1 → IVec S16 32) a x).toNat < S100000.size a)
theorem k1_idx431_inb : ∀ (v2278 : IVec S16 32) (k1_hw431 : k1_chk431 v2278), ∀ a x, ((![v2278] : Fin 1 → IVec S16 32) a x).toNat < S100000.size a := fun v2278 k1_hw431 => k1_hw431

def k1_chk432 (v2283 : IVec S16 32) : Prop :=
  (∀ a x, ((![v2283] : Fin 1 → IVec S16 32) a x).toNat < S100000.size a)
theorem k1_idx432_inb : ∀ (v2283 : IVec S16 32) (k1_hw432 : k1_chk432 v2283), ∀ a x, ((![v2283] : Fin 1 → IVec S16 32) a x).toNat < S100000.size a := fun v2283 k1_hw432 => k1_hw432

def k1_chk433 (v2291 : IVec S16 32) (v2293 : IVec S16 32) : Prop :=
  (∀ a x, ((![v2291, v2293] : Fin 2 → IVec S16 32) a x).toNat < S100x128.size a)
theorem k1_idx433_inb : ∀ (v2291 : IVec S16 32) (v2293 : IVec S16 32) (k1_hw433 : k1_chk433 v2291 v2293), ∀ a x, ((![v2291, v2293] : Fin 2 → IVec S16 32) a x).toNat < S100x128.size a := fun v2291 v2293 k1_hw433 => k1_hw433

def k1_chk434 (v2296 : IVec S16 32) (v2298 : IVec S16 32) : Prop :=
  (∀ a x, ((![v2296, v2298] : Fin 2 → IVec S16 32) a x).toNat < S100x128.size a)
theorem k1_idx434_inb : ∀ (v2296 : IVec S16 32) (v2298 : IVec S16 32) (k1_hw434 : k1_chk434 v2296 v2298), ∀ a x, ((![v2296, v2298] : Fin 2 → IVec S16 32) a x).toNat < S100x128.size a := fun v2296 v2298 k1_hw434 => k1_hw434

def k1_chk435 (v2294 : IVec S16 32) : Prop :=
  (∀ a x, ((![v2294] : Fin 1 → IVec S16 32) a x).toNat < S100000.size a)
theorem k1_idx435_inb : ∀ (v2294 : IVec S16 32) (k1_hw435 : k1_chk435 v2294), ∀ a x, ((![v2294] : Fin 1 → IVec S16 32) a x).toNat < S100000.size a := fun v2294 k1_hw435 => k1_hw435

def k1_chk436 (v2299 : IVec S16 32) : Prop :=
  (∀ a x, ((![v2299] : Fin 1 → IVec S16 32) a x).toNat < S100000.size a)
theorem k1_idx436_inb : ∀ (v2299 : IVec S16 32) (k1_hw436 : k1_chk436 v2299), ∀ a x, ((![v2299] : Fin 1 → IVec S16 32) a x).toNat < S100000.size a := fun v2299 k1_hw436 => k1_hw436

def k1_chk437 (v2307 : IVec S16 32) (v2309 : IVec S16 32) : Prop :=
  (∀ a x, ((![v2307, v2309] : Fin 2 → IVec S16 32) a x).toNat < S100x128.size a)
theorem k1_idx437_inb : ∀ (v2307 : IVec S16 32) (v2309 : IVec S16 32) (k1_hw437 : k1_chk437 v2307 v2309), ∀ a x, ((![v2307, v2309] : Fin 2 → IVec S16 32) a x).toNat < S100x128.size a := fun v2307 v2309 k1_hw437 => k1_hw437

def k1_chk438 (v2312 : IVec S16 32) (v2314 : IVec S16 32) : Prop :=
  (∀ a x, ((![v2312, v2314] : Fin 2 → IVec S16 32) a x).toNat < S100x128.size a)
theorem k1_idx438_inb : ∀ (v2312 : IVec S16 32) (v2314 : IVec S16 32) (k1_hw438 : k1_chk438 v2312 v2314), ∀ a x, ((![v2312, v2314] : Fin 2 → IVec S16 32) a x).toNat < S100x128.size a := fun v2312 v2314 k1_hw438 => k1_hw438

def k1_chk439 (v2310 : IVec S16 32) : Prop :=
  (∀ a x, ((![v2310] : Fin 1 → IVec S16 32) a x).toNat < S100000.size a)
theorem k1_idx439_inb : ∀ (v2310 : IVec S16 32) (k1_hw439 : k1_chk439 v2310), ∀ a x, ((![v2310] : Fin 1 → IVec S16 32) a x).toNat < S100000.size a := fun v2310 k1_hw439 => k1_hw439

def k1_chk440 (v2315 : IVec S16 32) : Prop :=
  (∀ a x, ((![v2315] : Fin 1 → IVec S16 32) a x).toNat < S100000.size a)
theorem k1_idx440_inb : ∀ (v2315 : IVec S16 32) (k1_hw440 : k1_chk440 v2315), ∀ a x, ((![v2315] : Fin 1 → IVec S16 32) a x).toNat < S100000.size a := fun v2315 k1_hw440 => k1_hw440

def k1_chk441 (v2323 : IVec S16 32) (v2325 : IVec S16 32) : Prop :=
  (∀ a x, ((![v2323, v2325] : Fin 2 → IVec S16 32) a x).toNat < S100x128.size a)
theorem k1_idx441_inb : ∀ (v2323 : IVec S16 32) (v2325 : IVec S16 32) (k1_hw441 : k1_chk441 v2323 v2325), ∀ a x, ((![v2323, v2325] : Fin 2 → IVec S16 32) a x).toNat < S100x128.size a := fun v2323 v2325 k1_hw441 => k1_hw441

def k1_chk442 (v2328 : IVec S16 32) (v2330 : IVec S16 32) : Prop :=
  (∀ a x, ((![v2328, v2330] : Fin 2 → IVec S16 32) a x).toNat < S100x128.size a)
theorem k1_idx442_inb : ∀ (v2328 : IVec S16 32) (v2330 : IVec S16 32) (k1_hw442 : k1_chk442 v2328 v2330), ∀ a x, ((![v2328, v2330] : Fin 2 → IVec S16 32) a x).toNat < S100x128.size a := fun v2328 v2330 k1_hw442 => k1_hw442

def k1_chk443 (v2326 : IVec S16 32) : Prop :=
  (∀ a x, ((![v2326] : Fin 1 → IVec S16 32) a x).toNat < S100000.size a)
theorem k1_idx443_inb : ∀ (v2326 : IVec S16 32) (k1_hw443 : k1_chk443 v2326), ∀ a x, ((![v2326] : Fin 1 → IVec S16 32) a x).toNat < S100000.size a := fun v2326 k1_hw443 => k1_hw443

def k1_chk444 (v2331 : IVec S16 32) : Prop :=
  (∀ a x, ((![v2331] : Fin 1 → IVec S16 32) a x).toNat < S100000.size a)
theorem k1_idx444_inb : ∀ (v2331 : IVec S16 32) (k1_hw444 : k1_chk444 v2331), ∀ a x, ((![v2331] : Fin 1 → IVec S16 32) a x).toNat < S100000.size a := fun v2331 k1_hw444 => k1_hw444

def k1_chk445 (v2339 : IVec S16 32) (v2341 : IVec S16 32) : Prop :=
  (∀ a x, ((![v2339, v2341] : Fin 2 → IVec S16 32) a x).toNat < S100x128.size a)
theorem k1_idx445_inb : ∀ (v2339 : IVec S16 32) (v2341 : IVec S16 32) (k1_hw445 : k1_chk445 v2339 v2341), ∀ a x, ((![v2339, v2341] : Fin 2 → IVec S16 32) a x).toNat < S100x128.size a := fun v2339 v2341 k1_hw445 => k1_hw445

def k1_chk446 (v2344 : IVec S16 32) (v2346 : IVec S16 32) : Prop :=
  (∀ a x, ((![v2344, v2346] : Fin 2 → IVec S16 32) a x).toNat < S100x128.size a)
theorem k1_idx446_inb : ∀ (v2344 : IVec S16 32) (v2346 : IVec S16 32) (k1_hw446 : k1_chk446 v2344 v2346), ∀ a x, ((![v2344, v2346] : Fin 2 → IVec S16 32) a x).toNat < S100x128.size a := fun v2344 v2346 k1_hw446 => k1_hw446

def k1_chk447 (v2342 : IVec S16 32) : Prop :=
  (∀ a x, ((![v2342] : Fin 1 → IVec S16 32) a x).toNat < S100000.size a)
theorem k1_idx447_inb : ∀ (v2342 : IVec S16 32) (k1_hw447 : k1_chk447 v2342), ∀ a x, ((![v2342] : Fin 1 → IVec S16 32) a x).toNat < S100000.size a := fun v2342 k1_hw447 => k1_hw447

def k1_chk448 (v2347 : IVec S16 32) : Prop :=
  (∀ a x, ((![v2347] : Fin 1 → IVec S16 32) a x).toNat < S100000.size a)
theorem k1_idx448_inb : ∀ (v2347 : IVec S16 32) (k1_hw448 : k1_chk448 v2347), ∀ a x, ((![v2347] : Fin 1 → IVec S16 32) a x).toNat < S100000.size a := fun v2347 k1_hw448 => k1_hw448
@[reducible] def k1_t15_loop : Scf.Loop 32 :=
  let c0_i32_818 : BitVec 32 := 0#32
  let c25_i32_819 : BitVec 32 := 25#32
  let v1572 : BitVec 32 := Scalar.addi c0_i32_818 c25_i32_819
  let c1_i32_820 : BitVec 32 := 1#32
  ⟨c0_i32_818, v1572, c1_i32_820⟩

def k1_chk449 (v2227 : IVec S16 32) (v2229 : IVec S16 32) : Prop :=
  (∀ a x, ((![v2227, v2229] : Fin 2 → IVec S16 32) a x).toNat < S100x128.size a)
theorem k1_idx449_inb : ∀ (v2227 : IVec S16 32) (v2229 : IVec S16 32) (k1_hw449 : k1_chk449 v2227 v2229), ∀ a x, ((![v2227, v2229] : Fin 2 → IVec S16 32) a x).toNat < S100x128.size a := fun v2227 v2229 k1_hw449 => k1_hw449

def k1_chk450 (v2232 : IVec S16 32) (v2234 : IVec S16 32) : Prop :=
  (∀ a x, ((![v2232, v2234] : Fin 2 → IVec S16 32) a x).toNat < S100x128.size a)
theorem k1_idx450_inb : ∀ (v2232 : IVec S16 32) (v2234 : IVec S16 32) (k1_hw450 : k1_chk450 v2232 v2234), ∀ a x, ((![v2232, v2234] : Fin 2 → IVec S16 32) a x).toNat < S100x128.size a := fun v2232 v2234 k1_hw450 => k1_hw450

def k1_chk451 (v2230 : IVec S16 32) : Prop :=
  (∀ a x, ((![v2230] : Fin 1 → IVec S16 32) a x).toNat < S100000.size a)
theorem k1_idx451_inb : ∀ (v2230 : IVec S16 32) (k1_hw451 : k1_chk451 v2230), ∀ a x, ((![v2230] : Fin 1 → IVec S16 32) a x).toNat < S100000.size a := fun v2230 k1_hw451 => k1_hw451

def k1_chk452 (v2235 : IVec S16 32) : Prop :=
  (∀ a x, ((![v2235] : Fin 1 → IVec S16 32) a x).toNat < S100000.size a)
theorem k1_idx452_inb : ∀ (v2235 : IVec S16 32) (k1_hw452 : k1_chk452 v2235), ∀ a x, ((![v2235] : Fin 1 → IVec S16 32) a x).toNat < S100000.size a := fun v2235 k1_hw452 => k1_hw452

def k1_chk453 (v2243 : IVec S16 32) (v2245 : IVec S16 32) : Prop :=
  (∀ a x, ((![v2243, v2245] : Fin 2 → IVec S16 32) a x).toNat < S100x128.size a)
theorem k1_idx453_inb : ∀ (v2243 : IVec S16 32) (v2245 : IVec S16 32) (k1_hw453 : k1_chk453 v2243 v2245), ∀ a x, ((![v2243, v2245] : Fin 2 → IVec S16 32) a x).toNat < S100x128.size a := fun v2243 v2245 k1_hw453 => k1_hw453

def k1_chk454 (v2248 : IVec S16 32) (v2250 : IVec S16 32) : Prop :=
  (∀ a x, ((![v2248, v2250] : Fin 2 → IVec S16 32) a x).toNat < S100x128.size a)
theorem k1_idx454_inb : ∀ (v2248 : IVec S16 32) (v2250 : IVec S16 32) (k1_hw454 : k1_chk454 v2248 v2250), ∀ a x, ((![v2248, v2250] : Fin 2 → IVec S16 32) a x).toNat < S100x128.size a := fun v2248 v2250 k1_hw454 => k1_hw454

def k1_chk455 (v2246 : IVec S16 32) : Prop :=
  (∀ a x, ((![v2246] : Fin 1 → IVec S16 32) a x).toNat < S100000.size a)
theorem k1_idx455_inb : ∀ (v2246 : IVec S16 32) (k1_hw455 : k1_chk455 v2246), ∀ a x, ((![v2246] : Fin 1 → IVec S16 32) a x).toNat < S100000.size a := fun v2246 k1_hw455 => k1_hw455

def k1_chk456 (v2251 : IVec S16 32) : Prop :=
  (∀ a x, ((![v2251] : Fin 1 → IVec S16 32) a x).toNat < S100000.size a)
theorem k1_idx456_inb : ∀ (v2251 : IVec S16 32) (k1_hw456 : k1_chk456 v2251), ∀ a x, ((![v2251] : Fin 1 → IVec S16 32) a x).toNat < S100000.size a := fun v2251 k1_hw456 => k1_hw456

def k1_chk457 (v2259 : IVec S16 32) (v2261 : IVec S16 32) : Prop :=
  (∀ a x, ((![v2259, v2261] : Fin 2 → IVec S16 32) a x).toNat < S100x128.size a)
theorem k1_idx457_inb : ∀ (v2259 : IVec S16 32) (v2261 : IVec S16 32) (k1_hw457 : k1_chk457 v2259 v2261), ∀ a x, ((![v2259, v2261] : Fin 2 → IVec S16 32) a x).toNat < S100x128.size a := fun v2259 v2261 k1_hw457 => k1_hw457

def k1_chk458 (v2264 : IVec S16 32) (v2266 : IVec S16 32) : Prop :=
  (∀ a x, ((![v2264, v2266] : Fin 2 → IVec S16 32) a x).toNat < S100x128.size a)
theorem k1_idx458_inb : ∀ (v2264 : IVec S16 32) (v2266 : IVec S16 32) (k1_hw458 : k1_chk458 v2264 v2266), ∀ a x, ((![v2264, v2266] : Fin 2 → IVec S16 32) a x).toNat < S100x128.size a := fun v2264 v2266 k1_hw458 => k1_hw458

def k1_chk459 (v2262 : IVec S16 32) : Prop :=
  (∀ a x, ((![v2262] : Fin 1 → IVec S16 32) a x).toNat < S100000.size a)
theorem k1_idx459_inb : ∀ (v2262 : IVec S16 32) (k1_hw459 : k1_chk459 v2262), ∀ a x, ((![v2262] : Fin 1 → IVec S16 32) a x).toNat < S100000.size a := fun v2262 k1_hw459 => k1_hw459

def k1_chk460 (v2267 : IVec S16 32) : Prop :=
  (∀ a x, ((![v2267] : Fin 1 → IVec S16 32) a x).toNat < S100000.size a)
theorem k1_idx460_inb : ∀ (v2267 : IVec S16 32) (k1_hw460 : k1_chk460 v2267), ∀ a x, ((![v2267] : Fin 1 → IVec S16 32) a x).toNat < S100000.size a := fun v2267 k1_hw460 => k1_hw460

def k1_chk461 (v2275 : IVec S16 32) (v2277 : IVec S16 32) : Prop :=
  (∀ a x, ((![v2275, v2277] : Fin 2 → IVec S16 32) a x).toNat < S100x128.size a)
theorem k1_idx461_inb : ∀ (v2275 : IVec S16 32) (v2277 : IVec S16 32) (k1_hw461 : k1_chk461 v2275 v2277), ∀ a x, ((![v2275, v2277] : Fin 2 → IVec S16 32) a x).toNat < S100x128.size a := fun v2275 v2277 k1_hw461 => k1_hw461

def k1_chk462 (v2280 : IVec S16 32) (v2282 : IVec S16 32) : Prop :=
  (∀ a x, ((![v2280, v2282] : Fin 2 → IVec S16 32) a x).toNat < S100x128.size a)
theorem k1_idx462_inb : ∀ (v2280 : IVec S16 32) (v2282 : IVec S16 32) (k1_hw462 : k1_chk462 v2280 v2282), ∀ a x, ((![v2280, v2282] : Fin 2 → IVec S16 32) a x).toNat < S100x128.size a := fun v2280 v2282 k1_hw462 => k1_hw462

def k1_chk463 (v2278 : IVec S16 32) : Prop :=
  (∀ a x, ((![v2278] : Fin 1 → IVec S16 32) a x).toNat < S100000.size a)
theorem k1_idx463_inb : ∀ (v2278 : IVec S16 32) (k1_hw463 : k1_chk463 v2278), ∀ a x, ((![v2278] : Fin 1 → IVec S16 32) a x).toNat < S100000.size a := fun v2278 k1_hw463 => k1_hw463

def k1_chk464 (v2283 : IVec S16 32) : Prop :=
  (∀ a x, ((![v2283] : Fin 1 → IVec S16 32) a x).toNat < S100000.size a)
theorem k1_idx464_inb : ∀ (v2283 : IVec S16 32) (k1_hw464 : k1_chk464 v2283), ∀ a x, ((![v2283] : Fin 1 → IVec S16 32) a x).toNat < S100000.size a := fun v2283 k1_hw464 => k1_hw464

def k1_chk465 (v2291 : IVec S16 32) (v2293 : IVec S16 32) : Prop :=
  (∀ a x, ((![v2291, v2293] : Fin 2 → IVec S16 32) a x).toNat < S100x128.size a)
theorem k1_idx465_inb : ∀ (v2291 : IVec S16 32) (v2293 : IVec S16 32) (k1_hw465 : k1_chk465 v2291 v2293), ∀ a x, ((![v2291, v2293] : Fin 2 → IVec S16 32) a x).toNat < S100x128.size a := fun v2291 v2293 k1_hw465 => k1_hw465

def k1_chk466 (v2296 : IVec S16 32) (v2298 : IVec S16 32) : Prop :=
  (∀ a x, ((![v2296, v2298] : Fin 2 → IVec S16 32) a x).toNat < S100x128.size a)
theorem k1_idx466_inb : ∀ (v2296 : IVec S16 32) (v2298 : IVec S16 32) (k1_hw466 : k1_chk466 v2296 v2298), ∀ a x, ((![v2296, v2298] : Fin 2 → IVec S16 32) a x).toNat < S100x128.size a := fun v2296 v2298 k1_hw466 => k1_hw466

def k1_chk467 (v2294 : IVec S16 32) : Prop :=
  (∀ a x, ((![v2294] : Fin 1 → IVec S16 32) a x).toNat < S100000.size a)
theorem k1_idx467_inb : ∀ (v2294 : IVec S16 32) (k1_hw467 : k1_chk467 v2294), ∀ a x, ((![v2294] : Fin 1 → IVec S16 32) a x).toNat < S100000.size a := fun v2294 k1_hw467 => k1_hw467

def k1_chk468 (v2299 : IVec S16 32) : Prop :=
  (∀ a x, ((![v2299] : Fin 1 → IVec S16 32) a x).toNat < S100000.size a)
theorem k1_idx468_inb : ∀ (v2299 : IVec S16 32) (k1_hw468 : k1_chk468 v2299), ∀ a x, ((![v2299] : Fin 1 → IVec S16 32) a x).toNat < S100000.size a := fun v2299 k1_hw468 => k1_hw468

def k1_chk469 (v2307 : IVec S16 32) (v2309 : IVec S16 32) : Prop :=
  (∀ a x, ((![v2307, v2309] : Fin 2 → IVec S16 32) a x).toNat < S100x128.size a)
theorem k1_idx469_inb : ∀ (v2307 : IVec S16 32) (v2309 : IVec S16 32) (k1_hw469 : k1_chk469 v2307 v2309), ∀ a x, ((![v2307, v2309] : Fin 2 → IVec S16 32) a x).toNat < S100x128.size a := fun v2307 v2309 k1_hw469 => k1_hw469

def k1_chk470 (v2312 : IVec S16 32) (v2314 : IVec S16 32) : Prop :=
  (∀ a x, ((![v2312, v2314] : Fin 2 → IVec S16 32) a x).toNat < S100x128.size a)
theorem k1_idx470_inb : ∀ (v2312 : IVec S16 32) (v2314 : IVec S16 32) (k1_hw470 : k1_chk470 v2312 v2314), ∀ a x, ((![v2312, v2314] : Fin 2 → IVec S16 32) a x).toNat < S100x128.size a := fun v2312 v2314 k1_hw470 => k1_hw470

def k1_chk471 (v2310 : IVec S16 32) : Prop :=
  (∀ a x, ((![v2310] : Fin 1 → IVec S16 32) a x).toNat < S100000.size a)
theorem k1_idx471_inb : ∀ (v2310 : IVec S16 32) (k1_hw471 : k1_chk471 v2310), ∀ a x, ((![v2310] : Fin 1 → IVec S16 32) a x).toNat < S100000.size a := fun v2310 k1_hw471 => k1_hw471

def k1_chk472 (v2315 : IVec S16 32) : Prop :=
  (∀ a x, ((![v2315] : Fin 1 → IVec S16 32) a x).toNat < S100000.size a)
theorem k1_idx472_inb : ∀ (v2315 : IVec S16 32) (k1_hw472 : k1_chk472 v2315), ∀ a x, ((![v2315] : Fin 1 → IVec S16 32) a x).toNat < S100000.size a := fun v2315 k1_hw472 => k1_hw472

def k1_chk473 (v2323 : IVec S16 32) (v2325 : IVec S16 32) : Prop :=
  (∀ a x, ((![v2323, v2325] : Fin 2 → IVec S16 32) a x).toNat < S100x128.size a)
theorem k1_idx473_inb : ∀ (v2323 : IVec S16 32) (v2325 : IVec S16 32) (k1_hw473 : k1_chk473 v2323 v2325), ∀ a x, ((![v2323, v2325] : Fin 2 → IVec S16 32) a x).toNat < S100x128.size a := fun v2323 v2325 k1_hw473 => k1_hw473

def k1_chk474 (v2328 : IVec S16 32) (v2330 : IVec S16 32) : Prop :=
  (∀ a x, ((![v2328, v2330] : Fin 2 → IVec S16 32) a x).toNat < S100x128.size a)
theorem k1_idx474_inb : ∀ (v2328 : IVec S16 32) (v2330 : IVec S16 32) (k1_hw474 : k1_chk474 v2328 v2330), ∀ a x, ((![v2328, v2330] : Fin 2 → IVec S16 32) a x).toNat < S100x128.size a := fun v2328 v2330 k1_hw474 => k1_hw474

def k1_chk475 (v2326 : IVec S16 32) : Prop :=
  (∀ a x, ((![v2326] : Fin 1 → IVec S16 32) a x).toNat < S100000.size a)
theorem k1_idx475_inb : ∀ (v2326 : IVec S16 32) (k1_hw475 : k1_chk475 v2326), ∀ a x, ((![v2326] : Fin 1 → IVec S16 32) a x).toNat < S100000.size a := fun v2326 k1_hw475 => k1_hw475

def k1_chk476 (v2331 : IVec S16 32) : Prop :=
  (∀ a x, ((![v2331] : Fin 1 → IVec S16 32) a x).toNat < S100000.size a)
theorem k1_idx476_inb : ∀ (v2331 : IVec S16 32) (k1_hw476 : k1_chk476 v2331), ∀ a x, ((![v2331] : Fin 1 → IVec S16 32) a x).toNat < S100000.size a := fun v2331 k1_hw476 => k1_hw476

def k1_chk477 (v2339 : IVec S16 32) (v2341 : IVec S16 32) : Prop :=
  (∀ a x, ((![v2339, v2341] : Fin 2 → IVec S16 32) a x).toNat < S100x128.size a)
theorem k1_idx477_inb : ∀ (v2339 : IVec S16 32) (v2341 : IVec S16 32) (k1_hw477 : k1_chk477 v2339 v2341), ∀ a x, ((![v2339, v2341] : Fin 2 → IVec S16 32) a x).toNat < S100x128.size a := fun v2339 v2341 k1_hw477 => k1_hw477

def k1_chk478 (v2344 : IVec S16 32) (v2346 : IVec S16 32) : Prop :=
  (∀ a x, ((![v2344, v2346] : Fin 2 → IVec S16 32) a x).toNat < S100x128.size a)
theorem k1_idx478_inb : ∀ (v2344 : IVec S16 32) (v2346 : IVec S16 32) (k1_hw478 : k1_chk478 v2344 v2346), ∀ a x, ((![v2344, v2346] : Fin 2 → IVec S16 32) a x).toNat < S100x128.size a := fun v2344 v2346 k1_hw478 => k1_hw478

def k1_chk479 (v2342 : IVec S16 32) : Prop :=
  (∀ a x, ((![v2342] : Fin 1 → IVec S16 32) a x).toNat < S100000.size a)
theorem k1_idx479_inb : ∀ (v2342 : IVec S16 32) (k1_hw479 : k1_chk479 v2342), ∀ a x, ((![v2342] : Fin 1 → IVec S16 32) a x).toNat < S100000.size a := fun v2342 k1_hw479 => k1_hw479

def k1_chk480 (v2347 : IVec S16 32) : Prop :=
  (∀ a x, ((![v2347] : Fin 1 → IVec S16 32) a x).toNat < S100000.size a)
theorem k1_idx480_inb : ∀ (v2347 : IVec S16 32) (k1_hw480 : k1_chk480 v2347), ∀ a x, ((![v2347] : Fin 1 → IVec S16 32) a x).toNat < S100000.size a := fun v2347 k1_hw480 => k1_hw480
@[reducible] def k1_t16_loop : Scf.Loop 32 :=
  let c0_i32_871 : BitVec 32 := 0#32
  let c25_i32_872 : BitVec 32 := 25#32
  let v1673 : BitVec 32 := Scalar.addi c0_i32_871 c25_i32_872
  let c1_i32_873 : BitVec 32 := 1#32
  ⟨c0_i32_871, v1673, c1_i32_873⟩

def k1_chk481 (v2227 : IVec S16 32) (v2229 : IVec S16 32) : Prop :=
  (∀ a x, ((![v2227, v2229] : Fin 2 → IVec S16 32) a x).toNat < S100x128.size a)
theorem k1_idx481_inb : ∀ (v2227 : IVec S16 32) (v2229 : IVec S16 32) (k1_hw481 : k1_chk481 v2227 v2229), ∀ a x, ((![v2227, v2229] : Fin 2 → IVec S16 32) a x).toNat < S100x128.size a := fun v2227 v2229 k1_hw481 => k1_hw481

def k1_chk482 (v2232 : IVec S16 32) (v2234 : IVec S16 32) : Prop :=
  (∀ a x, ((![v2232, v2234] : Fin 2 → IVec S16 32) a x).toNat < S100x128.size a)
theorem k1_idx482_inb : ∀ (v2232 : IVec S16 32) (v2234 : IVec S16 32) (k1_hw482 : k1_chk482 v2232 v2234), ∀ a x, ((![v2232, v2234] : Fin 2 → IVec S16 32) a x).toNat < S100x128.size a := fun v2232 v2234 k1_hw482 => k1_hw482

def k1_chk483 (v2230 : IVec S16 32) : Prop :=
  (∀ a x, ((![v2230] : Fin 1 → IVec S16 32) a x).toNat < S100000.size a)
theorem k1_idx483_inb : ∀ (v2230 : IVec S16 32) (k1_hw483 : k1_chk483 v2230), ∀ a x, ((![v2230] : Fin 1 → IVec S16 32) a x).toNat < S100000.size a := fun v2230 k1_hw483 => k1_hw483

def k1_chk484 (v2235 : IVec S16 32) : Prop :=
  (∀ a x, ((![v2235] : Fin 1 → IVec S16 32) a x).toNat < S100000.size a)
theorem k1_idx484_inb : ∀ (v2235 : IVec S16 32) (k1_hw484 : k1_chk484 v2235), ∀ a x, ((![v2235] : Fin 1 → IVec S16 32) a x).toNat < S100000.size a := fun v2235 k1_hw484 => k1_hw484

def k1_chk485 (v2243 : IVec S16 32) (v2245 : IVec S16 32) : Prop :=
  (∀ a x, ((![v2243, v2245] : Fin 2 → IVec S16 32) a x).toNat < S100x128.size a)
theorem k1_idx485_inb : ∀ (v2243 : IVec S16 32) (v2245 : IVec S16 32) (k1_hw485 : k1_chk485 v2243 v2245), ∀ a x, ((![v2243, v2245] : Fin 2 → IVec S16 32) a x).toNat < S100x128.size a := fun v2243 v2245 k1_hw485 => k1_hw485

def k1_chk486 (v2248 : IVec S16 32) (v2250 : IVec S16 32) : Prop :=
  (∀ a x, ((![v2248, v2250] : Fin 2 → IVec S16 32) a x).toNat < S100x128.size a)
theorem k1_idx486_inb : ∀ (v2248 : IVec S16 32) (v2250 : IVec S16 32) (k1_hw486 : k1_chk486 v2248 v2250), ∀ a x, ((![v2248, v2250] : Fin 2 → IVec S16 32) a x).toNat < S100x128.size a := fun v2248 v2250 k1_hw486 => k1_hw486

def k1_chk487 (v2246 : IVec S16 32) : Prop :=
  (∀ a x, ((![v2246] : Fin 1 → IVec S16 32) a x).toNat < S100000.size a)
theorem k1_idx487_inb : ∀ (v2246 : IVec S16 32) (k1_hw487 : k1_chk487 v2246), ∀ a x, ((![v2246] : Fin 1 → IVec S16 32) a x).toNat < S100000.size a := fun v2246 k1_hw487 => k1_hw487

def k1_chk488 (v2251 : IVec S16 32) : Prop :=
  (∀ a x, ((![v2251] : Fin 1 → IVec S16 32) a x).toNat < S100000.size a)
theorem k1_idx488_inb : ∀ (v2251 : IVec S16 32) (k1_hw488 : k1_chk488 v2251), ∀ a x, ((![v2251] : Fin 1 → IVec S16 32) a x).toNat < S100000.size a := fun v2251 k1_hw488 => k1_hw488

def k1_chk489 (v2259 : IVec S16 32) (v2261 : IVec S16 32) : Prop :=
  (∀ a x, ((![v2259, v2261] : Fin 2 → IVec S16 32) a x).toNat < S100x128.size a)
theorem k1_idx489_inb : ∀ (v2259 : IVec S16 32) (v2261 : IVec S16 32) (k1_hw489 : k1_chk489 v2259 v2261), ∀ a x, ((![v2259, v2261] : Fin 2 → IVec S16 32) a x).toNat < S100x128.size a := fun v2259 v2261 k1_hw489 => k1_hw489

def k1_chk490 (v2264 : IVec S16 32) (v2266 : IVec S16 32) : Prop :=
  (∀ a x, ((![v2264, v2266] : Fin 2 → IVec S16 32) a x).toNat < S100x128.size a)
theorem k1_idx490_inb : ∀ (v2264 : IVec S16 32) (v2266 : IVec S16 32) (k1_hw490 : k1_chk490 v2264 v2266), ∀ a x, ((![v2264, v2266] : Fin 2 → IVec S16 32) a x).toNat < S100x128.size a := fun v2264 v2266 k1_hw490 => k1_hw490

def k1_chk491 (v2262 : IVec S16 32) : Prop :=
  (∀ a x, ((![v2262] : Fin 1 → IVec S16 32) a x).toNat < S100000.size a)
theorem k1_idx491_inb : ∀ (v2262 : IVec S16 32) (k1_hw491 : k1_chk491 v2262), ∀ a x, ((![v2262] : Fin 1 → IVec S16 32) a x).toNat < S100000.size a := fun v2262 k1_hw491 => k1_hw491

def k1_chk492 (v2267 : IVec S16 32) : Prop :=
  (∀ a x, ((![v2267] : Fin 1 → IVec S16 32) a x).toNat < S100000.size a)
theorem k1_idx492_inb : ∀ (v2267 : IVec S16 32) (k1_hw492 : k1_chk492 v2267), ∀ a x, ((![v2267] : Fin 1 → IVec S16 32) a x).toNat < S100000.size a := fun v2267 k1_hw492 => k1_hw492

def k1_chk493 (v2275 : IVec S16 32) (v2277 : IVec S16 32) : Prop :=
  (∀ a x, ((![v2275, v2277] : Fin 2 → IVec S16 32) a x).toNat < S100x128.size a)
theorem k1_idx493_inb : ∀ (v2275 : IVec S16 32) (v2277 : IVec S16 32) (k1_hw493 : k1_chk493 v2275 v2277), ∀ a x, ((![v2275, v2277] : Fin 2 → IVec S16 32) a x).toNat < S100x128.size a := fun v2275 v2277 k1_hw493 => k1_hw493

def k1_chk494 (v2280 : IVec S16 32) (v2282 : IVec S16 32) : Prop :=
  (∀ a x, ((![v2280, v2282] : Fin 2 → IVec S16 32) a x).toNat < S100x128.size a)
theorem k1_idx494_inb : ∀ (v2280 : IVec S16 32) (v2282 : IVec S16 32) (k1_hw494 : k1_chk494 v2280 v2282), ∀ a x, ((![v2280, v2282] : Fin 2 → IVec S16 32) a x).toNat < S100x128.size a := fun v2280 v2282 k1_hw494 => k1_hw494

def k1_chk495 (v2278 : IVec S16 32) : Prop :=
  (∀ a x, ((![v2278] : Fin 1 → IVec S16 32) a x).toNat < S100000.size a)
theorem k1_idx495_inb : ∀ (v2278 : IVec S16 32) (k1_hw495 : k1_chk495 v2278), ∀ a x, ((![v2278] : Fin 1 → IVec S16 32) a x).toNat < S100000.size a := fun v2278 k1_hw495 => k1_hw495

def k1_chk496 (v2283 : IVec S16 32) : Prop :=
  (∀ a x, ((![v2283] : Fin 1 → IVec S16 32) a x).toNat < S100000.size a)
theorem k1_idx496_inb : ∀ (v2283 : IVec S16 32) (k1_hw496 : k1_chk496 v2283), ∀ a x, ((![v2283] : Fin 1 → IVec S16 32) a x).toNat < S100000.size a := fun v2283 k1_hw496 => k1_hw496

def k1_chk497 (v2291 : IVec S16 32) (v2293 : IVec S16 32) : Prop :=
  (∀ a x, ((![v2291, v2293] : Fin 2 → IVec S16 32) a x).toNat < S100x128.size a)
theorem k1_idx497_inb : ∀ (v2291 : IVec S16 32) (v2293 : IVec S16 32) (k1_hw497 : k1_chk497 v2291 v2293), ∀ a x, ((![v2291, v2293] : Fin 2 → IVec S16 32) a x).toNat < S100x128.size a := fun v2291 v2293 k1_hw497 => k1_hw497

def k1_chk498 (v2296 : IVec S16 32) (v2298 : IVec S16 32) : Prop :=
  (∀ a x, ((![v2296, v2298] : Fin 2 → IVec S16 32) a x).toNat < S100x128.size a)
theorem k1_idx498_inb : ∀ (v2296 : IVec S16 32) (v2298 : IVec S16 32) (k1_hw498 : k1_chk498 v2296 v2298), ∀ a x, ((![v2296, v2298] : Fin 2 → IVec S16 32) a x).toNat < S100x128.size a := fun v2296 v2298 k1_hw498 => k1_hw498

def k1_chk499 (v2294 : IVec S16 32) : Prop :=
  (∀ a x, ((![v2294] : Fin 1 → IVec S16 32) a x).toNat < S100000.size a)
theorem k1_idx499_inb : ∀ (v2294 : IVec S16 32) (k1_hw499 : k1_chk499 v2294), ∀ a x, ((![v2294] : Fin 1 → IVec S16 32) a x).toNat < S100000.size a := fun v2294 k1_hw499 => k1_hw499

def k1_chk500 (v2299 : IVec S16 32) : Prop :=
  (∀ a x, ((![v2299] : Fin 1 → IVec S16 32) a x).toNat < S100000.size a)
theorem k1_idx500_inb : ∀ (v2299 : IVec S16 32) (k1_hw500 : k1_chk500 v2299), ∀ a x, ((![v2299] : Fin 1 → IVec S16 32) a x).toNat < S100000.size a := fun v2299 k1_hw500 => k1_hw500

def k1_chk501 (v2307 : IVec S16 32) (v2309 : IVec S16 32) : Prop :=
  (∀ a x, ((![v2307, v2309] : Fin 2 → IVec S16 32) a x).toNat < S100x128.size a)
theorem k1_idx501_inb : ∀ (v2307 : IVec S16 32) (v2309 : IVec S16 32) (k1_hw501 : k1_chk501 v2307 v2309), ∀ a x, ((![v2307, v2309] : Fin 2 → IVec S16 32) a x).toNat < S100x128.size a := fun v2307 v2309 k1_hw501 => k1_hw501

def k1_chk502 (v2312 : IVec S16 32) (v2314 : IVec S16 32) : Prop :=
  (∀ a x, ((![v2312, v2314] : Fin 2 → IVec S16 32) a x).toNat < S100x128.size a)
theorem k1_idx502_inb : ∀ (v2312 : IVec S16 32) (v2314 : IVec S16 32) (k1_hw502 : k1_chk502 v2312 v2314), ∀ a x, ((![v2312, v2314] : Fin 2 → IVec S16 32) a x).toNat < S100x128.size a := fun v2312 v2314 k1_hw502 => k1_hw502

def k1_chk503 (v2310 : IVec S16 32) : Prop :=
  (∀ a x, ((![v2310] : Fin 1 → IVec S16 32) a x).toNat < S100000.size a)
theorem k1_idx503_inb : ∀ (v2310 : IVec S16 32) (k1_hw503 : k1_chk503 v2310), ∀ a x, ((![v2310] : Fin 1 → IVec S16 32) a x).toNat < S100000.size a := fun v2310 k1_hw503 => k1_hw503

def k1_chk504 (v2315 : IVec S16 32) : Prop :=
  (∀ a x, ((![v2315] : Fin 1 → IVec S16 32) a x).toNat < S100000.size a)
theorem k1_idx504_inb : ∀ (v2315 : IVec S16 32) (k1_hw504 : k1_chk504 v2315), ∀ a x, ((![v2315] : Fin 1 → IVec S16 32) a x).toNat < S100000.size a := fun v2315 k1_hw504 => k1_hw504

def k1_chk505 (v2323 : IVec S16 32) (v2325 : IVec S16 32) : Prop :=
  (∀ a x, ((![v2323, v2325] : Fin 2 → IVec S16 32) a x).toNat < S100x128.size a)
theorem k1_idx505_inb : ∀ (v2323 : IVec S16 32) (v2325 : IVec S16 32) (k1_hw505 : k1_chk505 v2323 v2325), ∀ a x, ((![v2323, v2325] : Fin 2 → IVec S16 32) a x).toNat < S100x128.size a := fun v2323 v2325 k1_hw505 => k1_hw505

def k1_chk506 (v2328 : IVec S16 32) (v2330 : IVec S16 32) : Prop :=
  (∀ a x, ((![v2328, v2330] : Fin 2 → IVec S16 32) a x).toNat < S100x128.size a)
theorem k1_idx506_inb : ∀ (v2328 : IVec S16 32) (v2330 : IVec S16 32) (k1_hw506 : k1_chk506 v2328 v2330), ∀ a x, ((![v2328, v2330] : Fin 2 → IVec S16 32) a x).toNat < S100x128.size a := fun v2328 v2330 k1_hw506 => k1_hw506

def k1_chk507 (v2326 : IVec S16 32) : Prop :=
  (∀ a x, ((![v2326] : Fin 1 → IVec S16 32) a x).toNat < S100000.size a)
theorem k1_idx507_inb : ∀ (v2326 : IVec S16 32) (k1_hw507 : k1_chk507 v2326), ∀ a x, ((![v2326] : Fin 1 → IVec S16 32) a x).toNat < S100000.size a := fun v2326 k1_hw507 => k1_hw507

def k1_chk508 (v2331 : IVec S16 32) : Prop :=
  (∀ a x, ((![v2331] : Fin 1 → IVec S16 32) a x).toNat < S100000.size a)
theorem k1_idx508_inb : ∀ (v2331 : IVec S16 32) (k1_hw508 : k1_chk508 v2331), ∀ a x, ((![v2331] : Fin 1 → IVec S16 32) a x).toNat < S100000.size a := fun v2331 k1_hw508 => k1_hw508

def k1_chk509 (v2339 : IVec S16 32) (v2341 : IVec S16 32) : Prop :=
  (∀ a x, ((![v2339, v2341] : Fin 2 → IVec S16 32) a x).toNat < S100x128.size a)
theorem k1_idx509_inb : ∀ (v2339 : IVec S16 32) (v2341 : IVec S16 32) (k1_hw509 : k1_chk509 v2339 v2341), ∀ a x, ((![v2339, v2341] : Fin 2 → IVec S16 32) a x).toNat < S100x128.size a := fun v2339 v2341 k1_hw509 => k1_hw509

def k1_chk510 (v2344 : IVec S16 32) (v2346 : IVec S16 32) : Prop :=
  (∀ a x, ((![v2344, v2346] : Fin 2 → IVec S16 32) a x).toNat < S100x128.size a)
theorem k1_idx510_inb : ∀ (v2344 : IVec S16 32) (v2346 : IVec S16 32) (k1_hw510 : k1_chk510 v2344 v2346), ∀ a x, ((![v2344, v2346] : Fin 2 → IVec S16 32) a x).toNat < S100x128.size a := fun v2344 v2346 k1_hw510 => k1_hw510

def k1_chk511 (v2342 : IVec S16 32) : Prop :=
  (∀ a x, ((![v2342] : Fin 1 → IVec S16 32) a x).toNat < S100000.size a)
theorem k1_idx511_inb : ∀ (v2342 : IVec S16 32) (k1_hw511 : k1_chk511 v2342), ∀ a x, ((![v2342] : Fin 1 → IVec S16 32) a x).toNat < S100000.size a := fun v2342 k1_hw511 => k1_hw511

def k1_chk512 (v2347 : IVec S16 32) : Prop :=
  (∀ a x, ((![v2347] : Fin 1 → IVec S16 32) a x).toNat < S100000.size a)
theorem k1_idx512_inb : ∀ (v2347 : IVec S16 32) (k1_hw512 : k1_chk512 v2347), ∀ a x, ((![v2347] : Fin 1 → IVec S16 32) a x).toNat < S100000.size a := fun v2347 k1_hw512 => k1_hw512
def k1_off3 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_scale" => some ((1 / 10000 : ℝ) : EReal)
  | "neg_inv_hist" => some ((-1 / 200 : ℝ) : EReal)
  | _ => none
-- ==== ReferenceIdeal.lean ====
abbrev S16384x200 : Shape := ⟨2, ![16384, 200]⟩
abbrev S100000x16 : Shape := ⟨2, ![100000, 16]⟩
abbrev S16x1 : Shape := ⟨2, ![16, 1]⟩
abbrev S1 : Shape := ⟨1, ![1]⟩
abbrev S_ : Shape := ⟨0, ![]⟩
abbrev S16384x200x1 : Shape := ⟨3, ![16384, 200, 1]⟩
abbrev S1x1x1 : Shape := ⟨3, ![1, 1, 1]⟩
abbrev S16384x200x16 : Shape := ⟨3, ![16384, 200, 16]⟩
abbrev S16384x16 : Shape := ⟨2, ![16384, 16]⟩
abbrev S16384x1 : Shape := ⟨2, ![16384, 1]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S100000x16, .f32⟩
  | .hbm, ⟨2, _⟩ => ⟨S16x1, .f32⟩
  | .hbm, ⟨3, _⟩ => ⟨S1, .f32⟩
  | .hbm, ⟨4, _⟩ => ⟨S_, .i32⟩
  | .hbm, ⟨5, _⟩ => ⟨S16384x200, .i32⟩
  | .hbm, ⟨6, _⟩ => ⟨S16384x200, .i1⟩
  | .hbm, ⟨7, _⟩ => ⟨S_, .i32⟩
  | .hbm, ⟨8, _⟩ => ⟨S16384x200, .i32⟩
  | .hbm, ⟨9, _⟩ => ⟨S16384x200, .i32⟩
  | .hbm, ⟨10, _⟩ => ⟨S16384x200, .i32⟩
  | .hbm, ⟨11, _⟩ => ⟨S16384x200x1, .i32⟩
  | .hbm, ⟨12, _⟩ => ⟨S1, .i32⟩
  | .hbm, ⟨13, _⟩ => ⟨S_, .i32⟩
  | .hbm, ⟨14, _⟩ => ⟨S16384x200x1, .i32⟩
  | .hbm, ⟨15, _⟩ => ⟨S16384x200x1, .i1⟩
  | .hbm, ⟨16, _⟩ => ⟨S1x1x1, .i32⟩
  | .hbm, ⟨17, _⟩ => ⟨S16384x200x1, .i32⟩
  | .hbm, ⟨18, _⟩ => ⟨S16384x200x1, .i1⟩
  | .hbm, ⟨19, _⟩ => ⟨S16384x200x1, .i1⟩
  | .hbm, ⟨20, _⟩ => ⟨S_, .i1⟩
  | .hbm, ⟨21, _⟩ => ⟨S16384x200, .i1⟩
  | .hbm, ⟨22, _⟩ => ⟨S16384x200x16, .f32⟩
  | .hbm, ⟨23, _⟩ => ⟨S16384x200x16, .i1⟩
  | .hbm, ⟨24, _⟩ => ⟨S_, .f32⟩
  | .hbm, ⟨25, _⟩ => ⟨S16384x200x16, .f32⟩
  | .hbm, ⟨26, _⟩ => ⟨S16384x200x16, .f32⟩
  | .hbm, ⟨27, _⟩ => ⟨S_, .f32⟩
  | .hbm, ⟨28, _⟩ => ⟨S16384x16, .f32⟩
  | .hbm, ⟨29, _⟩ => ⟨S_, .f32⟩
  | .hbm, ⟨30, _⟩ => ⟨S16384x16, .f32⟩
  | .hbm, ⟨31, _⟩ => ⟨S16384x16, .f32⟩
  | .hbm, ⟨32, _⟩ => ⟨S16384x1, .f32⟩
  | .hbm, ⟨33, _⟩ => ⟨S1x1, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_cst_2 : Ref sig .tc := ⟨.hbm, 41, rfl⟩
abbrev main_v12 : Ref sig .tc := ⟨.hbm, 42, rfl⟩
abbrev main_v13 : Ref sig .tc := ⟨.hbm, 43, rfl⟩
abbrev main_cst_3 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_4 : Ref sig .tc := ⟨.hbm, 48, rfl⟩
abbrev main_v17 : Ref sig .tc := ⟨.hbm, 49, rfl⟩
abbrev main_v18 : Ref sig .tc := ⟨.hbm, 50, rfl⟩

abbrev nD : Nat := 1
abbrev τ : Topo := Topo.v7x

variable {F : FTy → Type} [FloatOps F]
-- ==== Proof.TileProg.lean ====
/-
The SparseCore task of one vector subcore, written once as a short program over any buffers of the
right shapes: the table of per-word scores is copied into the tile's memory, the tile's 512 rows of
word numbers arrive in eight pieces of 64 rows through two alternating buffers, each group of 32 rows
is summed by one loop of 25 trips, and at the end the sums are turned into rounded probabilities and
copied out.
-/
module

public import Idealize.ShloMosaic.Lib.Pipeline
public import Idealize.ShloMosaic.Lib.Scf
public import Idealize.ShloMosaic.Lib.Sig
public import Idealize.ShloMosaic.Lib.SparseCore
public import Idealize.ShloMosaic.Lib.StableHlo
public import Idealize.ShloMosaic.PureOps
public import Idealize.ShloMosaic.PureOps.Ideal

@[expose] public section

noncomputable section

namespace Cert.Pool

open Idealize.ShloMosaic Idealize.SL.Sem

/-- One vector register: sixteen lanes. -/
abbrev L16 : Shape := ⟨1, ![16]⟩
/-- A tile's results: 512 numbers. -/
abbrev L512 : Shape := ⟨1, ![512]⟩
/-- The scores, one for each word of the vocabulary. -/
abbrev LTab : Shape := ⟨1, ![100000]⟩
/-- A piece of the word numbers: 64 rows of 200, laid out as 100 lines of 128. -/
abbrev LIdx : Shape := ⟨2, ![100, 128]⟩

variable {F : FTy → Type} [FloatOps F] [Named F]

/-- A register has a lane. -/
theorem numel_L16 : 0 < L16.numel := by decide

/-- The sixteen lane numbers. -/
def lanes : IVec L16 32 := iota .scVector L16 32 [0] (by decide +kernel)

/-- Where, inside a piece, rows `g … g+15` have their word `k`: `(lane + g) · 200 + k`. -/
def offs (g k : BitVec 32) : IVec L16 32 :=
  addi (muli (addi lanes (broadcast L16 g)) (broadcast L16 200#32)) (broadcast L16 k)

/-- The line of a position inside a piece. -/
def lineOf (p : IVec L16 32) : IVec L16 32 := shrsi p (broadcast L16 7#32)
/-- The column of a position inside a piece. -/
def colOf (p : IVec L16 32) : IVec L16 32 := andi p (broadcast L16 127#32)

/-- The lines and columns lie inside a piece. -/
def InPiece (v w : IVec L16 32) : Prop := ∀ a x, ((![v, w] : Fin 2 → IVec L16 32) a x).toNat < LIdx.size a
instance InPiece.dec (v w : IVec L16 32) : Decidable (InPiece v w) := decidable_of_iff' _ (Iff.of_eq (InPiece.eq_1 v w))

/-- The word numbers lie inside the vocabulary. -/
def InVocab (v : IVec L16 32) : Prop := ∀ a x, ((![v] : Fin 1 → IVec L16 32) a x).toNat < LTab.size a
instance InVocab.dec (v : IVec L16 32) : Decidable (InVocab v) := decidable_of_iff' _ (Iff.of_eq (InVocab.eq_1 v))

/-- The sixteen results number `16 g …` of a tile. -/
abbrev win (g : Nat) (hg : ∀ a, (![g] : Fin 1 → Nat) a + L16.size a ≤ L512.size a) : Rect L512 :=
  Rect.unit (s := L512) ![g] L16.size hg

/-- From a row's sum of scores to the stored probability: `nh` is minus one over the row length, `sc`
    one ten-thousandth. -/
def finish (nh sc : F .f32) (v : FVec F L16 .f32) : FVec F L16 .f32 :=
  mulf (sitofp .f32 (fptosi 32 (addf (mulf (divf (broadcast L16 (Scalar.ofBits .f32 0x3F800000#32))
    (addf (broadcast L16 (Scalar.ofBits .f32 0x3F800000#32)) (exp (mulf v (broadcast L16 nh)))))
    (broadcast L16 (Scalar.ofBits .f32 0x461C4000#32))) (broadcast L16 (Scalar.ofBits .f32 0x3F000000#32))))) (broadcast L16 sc)

/-- The zero a sum starts from. -/
def zeros : FVec F L16 .f32 := broadcast L16 (Scalar.ofBits .f32 0x00000000#32)

variable {nD : Nat} {τ : Topo} {sig : RefSig} {Λ : Labels} {pa : Fin τ.nSC} {pb : Fin τ.nSub}

local notation "TProg" => Prog (TpuEff nD τ sig (Elt F) Λ (Proc.scVector (τ := τ) pa pb))

/-- For two groups of sixteen rows at once: fetch their next word numbers and look their scores up. -/
def look (xv : Memref sig .scVector .vmem LIdx .i32) (tv : Memref sig .scVector .vmem LTab .f32)
    (p q : IVec L16 32) : TProg (FVec F L16 .f32 × FVec F L16 .f32) := do
  have h1 : InPiece (lineOf p) (colOf p) := (← Prog.lift (TpuEff.assume _ (InPiece.dec (lineOf p) (colOf p)))).down
  let ia : Vec F L16 .i32 ← SparseCore.vectorLoadIdx xv ![lineOf p, colOf p] h1 (View.loads_vmem (by decide))
  have h2 : InVocab ia := (← Prog.lift (TpuEff.assume _ (InVocab.dec ia))).down
  have h3 : InPiece (lineOf q) (colOf q) := (← Prog.lift (TpuEff.assume _ (InPiece.dec (lineOf q) (colOf q)))).down
  let ib : Vec F L16 .i32 ← SparseCore.vectorLoadIdx xv ![lineOf q, colOf q] h3 (View.loads_vmem (by decide))
  have h4 : InVocab ib := (← Prog.lift (TpuEff.assume _ (InVocab.dec ib))).down
  let ta : Vec F L16 .f32 ← SparseCore.vectorLoadIdx tv ![ia] h2 (View.loads_vmem (by decide))
  let tb : Vec F L16 .f32 ← SparseCore.vectorLoadIdx tv ![ib] h4 (View.loads_vmem (by decide))
  pure (ta, tb)

/-- The loop of 25 trips. -/
abbrev theLoop : Scf.Loop 32 := ⟨0#32, Scalar.addi 0#32 25#32, 1#32⟩

/-- Where rows `g … g+15` have word `8 · trip + k`. -/
def posn (g k : BitVec 32) (t : Fin theLoop.trips) : IVec L16 32 :=
  addi (offs g k) (broadcast L16 (Scalar.muli (Scf.iv 0#32 1#32 t) 8#32))

/-- Eight scores added pairwise. -/
def add8 (t0 t1 t2 t3 t4 t5 t6 t7 : FVec F L16 .f32) : FVec F L16 .f32 :=
  addf (addf (addf t0 t1) (addf t2 t3)) (addf (addf t4 t5) (addf t6 t7))

/-- One trip: eight words of rows `g … g+15` and of rows `h … h+15`. -/
def trip (xv : Memref sig .scVector .vmem LIdx .i32) (tv : Memref sig .scVector .vmem LTab .f32) (g h : BitVec 32)
    (t : Fin theLoop.trips) (acc : FVec F L16 .f32 × FVec F L16 .f32) : TProg (FVec F L16 .f32 × FVec F L16 .f32) := do
  let r0 ← look xv tv (posn g 0#32 t) (posn h 0#32 t)
  let r1 ← look xv tv (posn g 1#32 t) (posn h 1#32 t)
  let r2 ← look xv tv (posn g 2#32 t) (posn h 2#32 t)
  let r3 ← look xv tv (posn g 3#32 t) (posn h 3#32 t)
  let r4 ← look xv tv (posn g 4#32 t) (posn h 4#32 t)
  let r5 ← look xv tv (posn g 5#32 t) (posn h 5#32 t)
  let r6 ← look xv tv (posn g 6#32 t) (posn h 6#32 t)
  let r7 ← look xv tv (posn g 7#32 t) (posn h 7#32 t)
  pure (addf acc.1 (add8 r0.1 r1.1 r2.1 r3.1 r4.1 r5.1 r6.1 r7.1), addf acc.2 (add8 r0.2 r1.2 r2.2 r3.2 r4.2 r5.2 r6.2 r7.2))

/-- Where window `w` of a tile's results lies. -/
theorem win_inb {w : Nat} (hw : w < 32) : ∀ a, (![16 * w] : Fin 1 → Nat) a + L16.size a ≤ L512.size a := by
  intro a
  obtain rfl : a = 0 := Subsingleton.elim _ _
  show 16 * w + 16 ≤ 512
  omega

variable {β : Type}

/-- Read window `w` (the value is not used), then write `v` there. -/
def put (ov : Memref sig .scVector .vmem L512 .f32) (w : Nat) (hw : w < 32) (v : FVec F L16 .f32) (k : TProg β) : TProg β :=
  .op (.load ov (win (16 * w) (win_inb hw)).toLoadRect (View.loadsAt_vmem numel_L16)) fun _ =>
  .op (.store ov (win (16 * w) (win_inb hw)) v Finset.univ (View.stores_vmem_bits_univ numel_L16 rfl) (.inl rfl)) fun _ => k

/-- The 64 rows of one piece: two loops, each summing two groups of sixteen rows. -/
def rows64 (xv : Memref sig .scVector .vmem LIdx .i32) (tv : Memref sig .scVector .vmem LTab .f32)
    (ov : Memref sig .scVector .vmem L512 .f32) (hok : theLoop.OK) (c : Nat) (hc : c < 8) (k : TProg β) : TProg β :=
  Scf.Loop.for theLoop hok (zeros, zeros) (trip xv tv 0#32 16#32) >>= fun s =>
  put ov (4 * c) (by omega) s.1 <| put ov (4 * c + 1) (by omega) s.2 <|
  Scf.Loop.for theLoop hok (zeros, zeros) (trip xv tv 32#32 48#32) >>= fun s =>
  put ov (4 * c + 2) (by omega) s.1 <| put ov (4 * c + 3) (by omega) s.2 k

/-- Windows `w …` turned from sums into rounded probabilities, in place. -/
def settle (ov : Memref sig .scVector .vmem L512 .f32) (nh sc : F .f32) : (r w : Nat) → w + r = 32 → TProg β → TProg β
  | 0, _, _, k => k
  | r + 1, w, h, k =>
    .op (.load ov (win (16 * w) (win_inb (w := w) (by omega))).toLoadRect (View.loadsAt_vmem numel_L16)) fun (v : FVec F L16 .f32) =>
    put ov w (by omega) (finish nh sc v) <| settle ov nh sc r (w + 1) (by omega) k

/-- Start fetching piece `x` into `xv`. -/
def fetch (x : Memref sig .scVector .hbm LIdx .i32) (xv : Memref sig .scVector .vmem LIdx .i32) (hxv : xv.IsWhole)
    (s : DmaSem sig) (k : TProg β) : TProg β :=
  .op (.enqueueDma x (.here xv) (.dma s) (View.wordExact_bits rfl) hxv.wordExact ⟨Or.inl rfl, trivial⟩) fun _ => k

/-- Wait for a piece to have arrived in `xv`. -/
def arrive (x : Memref sig .scVector .hbm LIdx .i32) (xv : Memref sig .scVector .vmem LIdx .i32) (hxv : xv.IsWhole)
    (s : DmaSem sig) (k : TProg β) : TProg β :=
  .op (.waitDma2 s x xv (View.wordExact_bits rfl) hxv.wordExact) fun _ => k

/-- Pieces `c` and `c+1`, with the fetch of piece `c+2` started in between. -/
def pair (xs : Nat → Memref sig .scVector .hbm LIdx .i32) (tv : Memref sig .scVector .vmem LTab .f32)
    (xa : Memref sig .scVector .vmem LIdx .i32) (ha : xa.IsWhole) (xb : Memref sig .scVector .vmem LIdx .i32) (hb : xb.IsWhole)
    (ov : Memref sig .scVector .vmem L512 .f32) (sa sb : DmaSem sig) (hok : theLoop.OK) (c : Nat) (hc : c + 2 < 8) (k : TProg β) : TProg β :=
  fetch (xs (c + 1)) xb hb sb <| arrive (xs c) xa ha sa <| rows64 xa tv ov hok c (by omega) <|
  fetch (xs (c + 2)) xa ha sa <| arrive (xs (c + 1)) xb hb sb <| rows64 xb tv ov hok (c + 1) (by omega) k

/-- The last two pieces. -/
def lastPair (xs : Nat → Memref sig .scVector .hbm LIdx .i32) (tv : Memref sig .scVector .vmem LTab .f32)
    (xa : Memref sig .scVector .vmem LIdx .i32) (ha : xa.IsWhole) (xb : Memref sig .scVector .vmem LIdx .i32) (hb : xb.IsWhole)
    (ov : Memref sig .scVector .vmem L512 .f32) (sa sb : DmaSem sig) (hok : theLoop.OK) (k : TProg β) : TProg β :=
  fetch (xs 7) xb hb sb <| arrive (xs 6) xa ha sa <| rows64 xa tv ov hok 6 (by omega) <|
  arrive (xs 7) xb hb sb <| rows64 xb tv ov hok 7 (by omega) k

/-- A tile's whole task. -/
def task (tin : Memref sig .scVector .hbm LTab .f32) (htin : tin.IsWhole) (xs : Nat → Memref sig .scVector .hbm LIdx .i32)
    (out : Memref sig .scVector .hbm L512 .f32)
    (tv : Memref sig .scVector .vmem LTab .f32) (htv : tv.IsWhole)
    (xa : Memref sig .scVector .vmem LIdx .i32) (ha : xa.IsWhole) (xb : Memref sig .scVector .vmem LIdx .i32) (hb : xb.IsWhole)
    (ov : Memref sig .scVector .vmem L512 .f32) (hov : ov.IsWhole) (st sa sb so : DmaSem sig) (hok : theLoop.OK) (nh sc : F .f32) : TProg PUnit :=
  .op (.enqueueDma tin (.here tv) (.dma st) htin.wordExact htv.wordExact ⟨Or.inl rfl, trivial⟩) fun _ =>
  fetch (xs 0) xa ha sa <|
  .op (.waitDma2 st tin tv htin.wordExact htv.wordExact) fun _ =>
  pair xs tv xa ha xb hb ov sa sb hok 0 (by omega) <|
  pair xs tv xa ha xb hb ov sa sb hok 2 (by omega) <|
  pair xs tv xa ha xb hb ov sa sb hok 4 (by omega) <|
  lastPair xs tv xa ha xb hb ov sa sb hok <|
  settle ov nh sc 32 0 rfl <|
  .op (.enqueueDma ov (.here out) (.dma so) hov.wordExact (View.wordExact_bits rfl) ⟨Or.inl rfl, trivial⟩) fun _ =>
  .op (.waitDma2 so ov out hov.wordExact (View.wordExact_bits rfl)) fun _ => .ret ⟨⟩

end Cert.Pool
-- ==== Proof.TileSum.lean ====
/-
What one vector subcore computes: the sums a tile's loops leave, stated over the table of scores and
the word numbers alone, and the arithmetic of the positions the loops address.
-/
module

public import proofs.«01_k».proof.Proof.TileProg

@[expose] public section

noncomputable section

namespace Cert.Pool

open Idealize.ShloMosaic Idealize.SL.Sem

variable {F : FTy → Type} [FloatOps F]

/-- Word number `n` of a piece. -/
def wordAt (X : LIdx.Idx → BitVec 32) (n : Nat) : BitVec 32 :=
  X fun | ⟨0, _⟩ => ⟨n / 128 % 100, Nat.mod_lt _ (by decide)⟩ | ⟨1, _⟩ => ⟨n % 128, Nat.mod_lt _ (by decide)⟩

/-- The score of word `v`. -/
def scoreOf (T : LTab.Idx → F .f32) (v : BitVec 32) : F .f32 := T fun | ⟨0, _⟩ => ⟨v.toNat % 100000, Nat.mod_lt _ (by decide)⟩

/-- The score of word `n` of a piece. -/
abbrev scoreAt (X : LIdx.Idx → BitVec 32) (T : LTab.Idx → F .f32) (n : Nat) : F .f32 := scoreOf T (wordAt X n)

/-- Eight numbers added pairwise. -/
def sum8 (s : Nat → F .f32) : F .f32 :=
  FloatOps.addf (FloatOps.addf (FloatOps.addf (s 0) (s 1)) (FloatOps.addf (s 2) (s 3)))
    (FloatOps.addf (FloatOps.addf (s 4) (s 5)) (FloatOps.addf (s 6) (s 7)))

/-- The sum a row has after `k` trips, eight words a trip. -/
def partialSum (s : Nat → F .f32) : Nat → F .f32
  | 0 => Scalar.ofBits .f32 0x00000000#32
  | k + 1 => FloatOps.addf (partialSum s k) (sum8 fun j => s (8 * k + j))

/-- The sums of sixteen rows of a piece, from row `g` on, after `k` trips. -/
def rowSums (X : LIdx.Idx → BitVec 32) (T : LTab.Idx → F .f32) (g k : Nat) : FVec F L16 .f32 :=
  fun x => partialSum (fun l => scoreAt X T (200 * (g + (x 0).val) + l)) k

/-- The scores sixteen rows of a piece have at their word `l`. -/
def rowScores (X : LIdx.Idx → BitVec 32) (T : LTab.Idx → F .f32) (g l : Nat) : FVec F L16 .f32 :=
  fun x => scoreAt X T (200 * (g + (x 0).val) + l)

/-- One trip adds eight words of every row. -/
theorem rowSums_succ (X : LIdx.Idx → BitVec 32) (T : LTab.Idx → F .f32) (g k : Nat) :
    addf (rowSums X T g k) (add8 (rowScores X T g (8 * k + 0)) (rowScores X T g (8 * k + 1)) (rowScores X T g (8 * k + 2))
      (rowScores X T g (8 * k + 3)) (rowScores X T g (8 * k + 4)) (rowScores X T g (8 * k + 5)) (rowScores X T g (8 * k + 6))
      (rowScores X T g (8 * k + 7))) = rowSums X T g (k + 1) := rfl

/-- Before the first trip every sum is zero. -/
theorem rowSums_zero (X : LIdx.Idx → BitVec 32) (T : LTab.Idx → F .f32) (g : Nat) : rowSums X T g 0 = zeros := rfl

/-! ## The positions -/

theorem trips_eq : theLoop.trips = 25 := by decide

/-- The position of word `8 t + k` of row `g + lane`, as a number. -/
theorem posn_toNat {g k : Nat} (hg : g ≤ 48) (hk : k < 8) (t : Fin theLoop.trips) (x : L16.Idx) :
    (posn (BitVec.ofNat 32 g) (BitVec.ofNat 32 k) t x).toNat = 200 * (g + (x 0).val) + (8 * t.val + k) := by
  have ht : t.val < 25 := trips_eq ▸ t.isLt
  have hx : (x 0).val < 16 := (x 0).isLt
  have h : posn (BitVec.ofNat 32 g) (BitVec.ofNat 32 k) t x
      = (BitVec.ofNat 32 (0 * 16 + (x 0).val) + BitVec.ofNat 32 g) * 200#32 + BitVec.ofNat 32 k
        + (0#32 + BitVec.ofNat 32 t.val * 1#32) * 8#32 := rfl
  rw [h]
  simp only [BitVec.toNat_add, BitVec.toNat_mul, BitVec.toNat_ofNat]
  omega

/-- Shifting a small word right by seven divides it by 128. -/
theorem lineOf_toNat (p : IVec L16 32) (x : L16.Idx) (h : (p x).toNat < 12800) : (lineOf p x).toNat = (p x).toNat / 128 := by
  have h1 : lineOf p x = (p x).sshiftRight 7 := rfl
  rw [h1, BitVec.sshiftRight_eq_of_msb_false (by rw [BitVec.msb_eq_false_iff_two_mul_lt]; omega), BitVec.toNat_ushiftRight,
    Nat.shiftRight_eq_div_pow]

/-- Its low seven bits are the remainder. -/
theorem colOf_toNat (p : IVec L16 32) (x : L16.Idx) : (colOf p x).toNat = (p x).toNat % 128 := by
  have h1 : colOf p x = (p x) &&& 127#32 := rfl
  rw [h1, BitVec.toNat_and]
  exact Nat.and_two_pow_sub_one_eq_mod _ 7

/-- The positions the loops address lie inside a piece. -/
theorem inPiece_of (p : IVec L16 32) (h : ∀ x, (p x).toNat < 12800) : InPiece (lineOf p) (colOf p) := by
  intro a x
  match a with
  | ⟨0, _⟩ => show (lineOf p x).toNat < 100; rw [lineOf_toNat p x (h x)]; have := h x; omega
  | ⟨1, _⟩ => show (colOf p x).toNat < 128; rw [colOf_toNat]; omega

/-- What the word fetch reads. -/
theorem fetch_words (X : LIdx.Idx → BitVec 32) (p : IVec L16 32) (h : ∀ x, (p x).toNat < 12800) (hp : InPiece (lineOf p) (colOf p)) :
    (loadIdx (F := F) (e := .i32) X ![lineOf p, colOf p] hp) = fun x => wordAt X (p x).toNat := by
  funext x
  show X _ = X _
  congr 1
  funext a
  apply Fin.ext
  match a with
  | ⟨0, _⟩ =>
    show (lineOf p x).toNat = (p x).toNat / 128 % 100
    rw [lineOf_toNat p x (h x)]; have := h x; omega
  | ⟨1, _⟩ => exact colOf_toNat p x

/-- What the score lookup reads. -/
theorem fetch_scores (T : LTab.Idx → F .f32) (v : IVec L16 32) (hv : InVocab v) :
    (loadIdx (F := F) (e := .f32) T ![v] hv) = fun x => scoreOf T (v x) := by
  funext x
  show T _ = T _
  congr 1
  funext a
  apply Fin.ext
  obtain rfl : a = 0 := Subsingleton.elim _ _
  have := hv 0 x
  exact (Nat.mod_eq_of_lt this).symm

/-- Word numbers inside the vocabulary stay so when looked up. -/
theorem inVocab_of (X : LIdx.Idx → BitVec 32) (hX : ∀ j, (X j).toNat < 100000) (p : IVec L16 32) :
    InVocab (fun x => wordAt X (p x).toNat) := by
  intro a x
  obtain rfl : a = 0 := Subsingleton.elim _ _
  exact hX _

/-! ## The results, window by window -/

/-- The lane position `y` has inside its window. -/
def laneIn (y : L512.Idx) : L16.Idx := fun | ⟨0, _⟩ => ⟨(y 0).val % 16, Nat.mod_lt _ (by decide)⟩

/-- The results `O` with window `w` replaced by `v`. -/
def setWin (O : L512.Idx → F .f32) (w : Nat) (v : FVec F L16 .f32) : L512.Idx → F .f32 :=
  fun y => if (y 0).val / 16 = w then v (laneIn y) else O y

/-- Position `16 w + lane` of the results. -/
def inWin (w : Nat) (hw : w < 32) (x : L16.Idx) : L512.Idx :=
  fun | ⟨0, _⟩ => ⟨16 * w + (x 0).val, by have : (x 0).val < 16 := (x 0).isLt; show _ < 512; omega⟩

theorem setWin_upto {O : L512.Idx → F .f32} {w : Nat} {v : FVec F L16 .f32} {S : Nat → F .f32}
    (hO : ∀ y, (y 0).val / 16 < w → O y = S (y 0).val) (hv : ∀ x, v x = S (16 * w + (x 0).val)) :
    ∀ y, (y 0).val / 16 < w + 1 → setWin O w v y = S (y 0).val := by
  intro y hy
  unfold setWin
  split
  · rename_i h
    rw [hv]; congr 1
    show 16 * w + (y 0).val % 16 = (y 0).val
    omega
  · exact hO y (by omega)

/-- The finishing step on one number. -/
def finish1 (nh sc s : F .f32) : F .f32 :=
  FloatOps.mulf (FloatOps.sitofp .f32 (FloatOps.fptosi 32 (FloatOps.addf (FloatOps.mulf (FloatOps.divf (Scalar.ofBits .f32 0x3F800000#32)
    (FloatOps.addf (Scalar.ofBits .f32 0x3F800000#32) (FloatOps.exp (FloatOps.mulf s nh)))) (Scalar.ofBits .f32 0x461C4000#32))
    (Scalar.ofBits .f32 0x3F000000#32)))) sc

theorem finish_apply (nh sc : F .f32) (v : FVec F L16 .f32) (x : L16.Idx) : finish nh sc v x = finish1 nh sc (v x) := rfl

/-- The sum of row `r` of a tile whose pieces are `Xs`. -/
def tileSum (Xs : Nat → LIdx.Idx → BitVec 32) (T : LTab.Idx → F .f32) (r : Nat) : F .f32 :=
  partialSum (fun l => scoreAt (Xs (r / 64)) T (200 * (r % 64) + l)) 25

/-- Window `4 c + j` of a tile's results holds the sums of rows `16 j …` of piece `c`. -/
theorem rowSums_window (Xs : Nat → LIdx.Idx → BitVec 32) (T : LTab.Idx → F .f32) {c j : Nat} (hj : j < 4) (x : L16.Idx) :
    rowSums (Xs c) T (16 * j) 25 x = tileSum Xs T (16 * (4 * c + j) + (x 0).val) := by
  have hx : (x 0).val < 16 := (x 0).isLt
  unfold rowSums tileSum
  rw [show (16 * (4 * c + j) + (x 0).val) / 64 = c by omega, show (16 * (4 * c + j) + (x 0).val) % 64 = 16 * j + (x 0).val by omega]

end Cert.Pool
-- ==== Proof.TileSpec.lean ====
/-
The task of one vector subcore meets its specification: from the table of scores and the eight pieces
of word numbers, it leaves in its part of the result the finished sum of every one of its 512 rows.
-/
module

public import proofs.«01_k».proof.Proof.TileSum
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Pool

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {nD : Nat} {τ : Topo} {sig : RefSig} {Λ : Labels} {d : Dev nD} {pa : Fin τ.nSC} {pb : Fin τ.nSub}
variable {Ix : Type} [DecidableEq Ix] {Name : Type} [DecidableEq Name] [Infinite Name] {U : Type} [URA U] {Lvl : Type} [Preorder Lvl]

local notation "𝕄" => MT nD τ sig Ix (Elt F) Name U Lvl

/-- The subcore holds the elements of `m`, at share `q`, and they read `X`. -/
def Holds {sp : Space} {s : Shape} {e : EltTy} (m : Memref sig .scVector sp s e) (q : PosShare TreeShare) (X : s.Idx → Elt F e) : sProp 𝕄 :=
  iprop(∃ f : Buf (Elt F) (m.view.loc (V d pa pb : Thread nD τ)), ⌜m.view.read (Elt F) f = X⌝ ∗ (m.view.loc (V d pa pb : Thread nD τ) ↦[m.view.set]{q} f))

variable {defs : Defs nD τ sig (Elt F) Λ} (𝒱 : Variants) (bd : Option 𝒱.V) {α : Type} {Q : α → sProp (MT nD τ sig Ix (Elt F) Name U Lvl)}

/-- Reading a window of a memref and going on. -/
theorem wp_read {m : Memref sig .scVector .vmem L512 .f32} {r : Rect L512} {hl : m.view.LoadsAt r.toLoadRect}
    {k : (r.shape.Idx → Elt F .f32) → Prog (TpuEff nD τ sig (Elt F) Λ (Proc.scVector pa pb)) α} {q : PosShare TreeShare} {X : L512.Idx → F .f32} :
    Holds (d := d) (pa := pa) (pb := pb) m q X ⊢ iprop((Holds (d := d) (pa := pa) (pb := pb) m q X -∗ wp frame (wpE defs 𝒱 (V d pa pb) bd) Set.univ (k fun x => X (r.emb x)) Q) -∗ wp frame (wpE defs 𝒱 (V d pa pb) bd) Set.univ (.op (.load m r.toLoadRect hl) k) Q) := by
  unfold Holds
  iintro ⟨%f, %hf, H⟩ Hk
  iapply (wp_load_rect 𝒱 (V d pa pb) bd Set.univ (m := m) (r := r) (hl := hl) (S := m.view.set) (View.set_slice_subset _ _)) $$ H
  iintro H
  rw [show (m.access r).read (Elt F) f = fun x => X (r.emb x) by subst hf; rfl]
  iapply Hk
  iexists f
  isplitr; · ipureintro; exact hf
  iexact H

/-- Window `w` of `X`. -/
def winOf (X : L512.Idx → F .f32) (w : Nat) (hw : w < 32) : FVec F L16 .f32 := fun x => X (inWin w hw x)

/-- Reading window `w` and going on. -/
theorem wp_readWin {m : Memref sig .scVector .vmem L512 .f32} {w : Nat} (hw : w < 32)
    {hl : m.view.LoadsAt (win (16 * w) (win_inb hw)).toLoadRect}
    {k : FVec F L16 .f32 → Prog (TpuEff nD τ sig (Elt F) Λ (Proc.scVector pa pb)) α} {q : PosShare TreeShare} {X : L512.Idx → F .f32} :
    Holds (d := d) (pa := pa) (pb := pb) m q X ⊢ iprop((Holds (d := d) (pa := pa) (pb := pb) m q X -∗ wp frame (wpE defs 𝒱 (V d pa pb) bd) Set.univ (k (winOf X w hw)) Q) -∗ wp frame (wpE defs 𝒱 (V d pa pb) bd) Set.univ (.op (.load m (win (16 * w) (win_inb hw)).toLoadRect hl) k) Q) := by
  rw [show winOf X w hw = fun x => X ((win (16 * w) (win_inb hw)).emb x) from by
    funext x
    unfold winOf
    congr 1
    funext a
    apply Fin.ext
    match a with
    | ⟨0, _⟩ =>
      show 16 * w + (x 0).val = 16 * w + 1 * (x 0).val
      omega]
  exact wp_read 𝒱 bd

/-- Writing window `w`. -/
theorem wp_put {m : Memref sig .scVector .vmem L512 .f32} {w : Nat} (hw : w < 32) {v : FVec F L16 .f32} {k : Prog (TpuEff nD τ sig (Elt F) Λ (Proc.scVector pa pb)) α}
    {X : L512.Idx → F .f32} :
    Holds (d := d) (pa := pa) (pb := pb) m fullShare X ⊢ iprop((Holds (d := d) (pa := pa) (pb := pb) m fullShare (setWin X w v) -∗ wp frame (wpE defs 𝒱 (V d pa pb) bd) Set.univ k Q) -∗ wp frame (wpE defs 𝒱 (V d pa pb) bd) Set.univ (put m w hw v k) Q) := by
  iintro H Hk
  unfold put
  iapply (wp_read 𝒱 bd) $$ H
  iintro H
  unfold Holds
  icases H with ⟨%f, %hf, H⟩
  iapply (wp_store 𝒱 (V d pa pb) bd Set.univ (m := m) (r := win (16 * w) (win_inb hw)) (S := m.view.set) (View.set_slice_subset _ _)) $$ H
  iintro H
  iapply Hk
  iexists _
  isplitr
  swap; · iexact H
  ipureintro
  funext y
  unfold setWin
  have hy : (y 0).val < 512 := (y 0).isLt
  split
  · rename_i h
    have e : y = (win (16 * w) (win_inb hw)).emb (laneIn y) := by
      funext a
      apply Fin.ext
      match a with
      | ⟨0, _⟩ =>
        show (y 0).val = 16 * w + 1 * ((y 0).val % 16)
        omega
    have key : ∀ z : L16.Idx, m.view.read (Elt F) ((m.access (win (16 * w) (win_inb hw))).write (Elt F) f v Finset.univ)
        ((win (16 * w) (win_inb hw)).emb z) = v z := fun z =>
      View.read_slice_write_emb (v := m.view) (Val := Elt F) (win (16 * w) (win_inb hw)) f v (Finset.mem_univ _)
    conv_lhs => rw [e]
    exact key _
  · rename_i h
    rw [← hf]
    refine View.read_slice_write_of_not_mem (v := m.view) (Val := Elt F) (win (16 * w) (win_inb hw)) f v Finset.univ ?_
    rw [Rect.map_emb_univ, Rect.mem_set_unit]
    intro hm
    have h0 := hm 0
    have h1 : 16 * w ≤ (y 0).val := h0.1
    have h2 : (y 0).val < 16 * w + 16 := h0.2
    omega

/-- Turning windows `w …` from sums into rounded probabilities. -/
theorem wp_settle {m : Memref sig .scVector .vmem L512 .f32} (nh sc : F .f32) {k : Prog (TpuEff nD τ sig (Elt F) Λ (Proc.scVector pa pb)) α} (Sm : Nat → F .f32) :
    (r w : Nat) → (h : w + r = 32) → (X : L512.Idx → F .f32) →
    (∀ y, w ≤ (y 0).val / 16 → X y = Sm (y 0).val) → (∀ y, (y 0).val / 16 < w → X y = finish1 nh sc (Sm (y 0).val)) →
    Holds (d := d) (pa := pa) (pb := pb) m fullShare X ⊢ iprop((Holds (d := d) (pa := pa) (pb := pb) m fullShare (fun y => finish1 nh sc (Sm (y 0).val)) -∗ wp frame (wpE defs 𝒱 (V d pa pb) bd) Set.univ k Q) -∗ wp frame (wpE defs 𝒱 (V d pa pb) bd) Set.univ (settle m nh sc r w h k) Q)
  | 0, w, h, X, _, h2 => by
    have e : X = fun y => finish1 nh sc (Sm (y 0).val) := funext fun y => h2 y (by have : (y 0).val < 512 := (y 0).isLt; omega)
    rw [e]
    iintro H Hk
    iapply Hk; iexact H
  | r + 1, w, h, X, h1, h2 => by
    have hw : w < 32 := by omega
    iintro H Hk
    unfold settle
    iapply (wp_readWin 𝒱 bd hw) $$ H
    iintro H
    iapply (wp_put 𝒱 bd hw) $$ H
    iintro H
    have hv : ∀ x : L16.Idx, finish nh sc (winOf X w hw) x = finish1 nh sc (Sm (16 * w + (x 0).val)) := by
      intro x
      have hx : (x 0).val < 16 := (x 0).isLt
      have e : ((inWin w hw x) 0).val = 16 * w + (x 0).val := rfl
      rw [finish_apply, winOf, h1 _ (by rw [e]; omega)]; rfl
    iapply (wp_settle (m := m) nh sc Sm r (w + 1) _ _ (fun y hy => ?_) (setWin_upto (S := fun n => finish1 nh sc (Sm n)) h2 hv)) $$ H
    · unfold setWin
      rw [if_neg (by omega)]
      exact h1 y (by omega)
    iexact Hk

/-! ## The loop -/

variable {xv : Memref sig .scVector .vmem LIdx .i32} {tv : Memref sig .scVector .vmem LTab .f32}
variable {X : LIdx.Idx → BitVec 32} {Tb : LTab.Idx → F .f32}

/-- A read through the whole rectangle is a read of the memref. -/
theorem read_access_whole' {s : Shape} {e : EltTy} (m : Memref sig .scVector .vmem s e) (f) :
    (m.access (Rect.whole s)).read (Elt F) f = m.view.read (Elt F) f := by
  funext x
  show m.view.read (Elt F) f ((Rect.whole s).emb x) = _
  congr 1
  funext a
  apply Fin.ext
  show 0 + 1 * (x a).val = (x a).val
  omega

/-- Reading a memref at the index vectors' positions and going on. -/
theorem wp_gather {s : Shape} {e : EltTy} {m : Memref sig .scVector .vmem s e} {idxs : Fin s.rank → IVec L16 32}
    {h : ∀ a x, (idxs a x).toNat < s.size a} {hl : m.view.Loads} {k : Vec F L16 e → Prog (TpuEff nD τ sig (Elt F) Λ (Proc.scVector pa pb)) α}
    {q : PosShare TreeShare} {Y : s.Idx → Elt F e} :
    Holds (d := d) (pa := pa) (pb := pb) m q Y ⊢ iprop((Holds (d := d) (pa := pa) (pb := pb) m q Y -∗ wp frame (wpE defs 𝒱 (V d pa pb) bd) Set.univ (k (loadIdx Y idxs h)) Q) -∗ wp frame (wpE defs 𝒱 (V d pa pb) bd) Set.univ (SparseCore.vectorLoadIdx m idxs h hl >>= k) Q) := by
  unfold Holds
  iintro ⟨%f, %hf, H⟩ Hk
  subst hf
  iapply (SparseCore.wp_vectorLoadIdx 𝒱 (V d pa pb) bd Set.univ (base := m) (S := m.view.set) (View.set_slice_subset _ _)) $$ H
  iintro H
  rw [read_access_whole']
  iapply Hk
  iexists f
  isplitr; · ipureintro; rfl
  iexact H

/-- Looking up the scores of two groups of sixteen rows. -/
theorem wp_look {p q : IVec L16 32} (hX : ∀ j, (X j).toNat < 100000) (hp : ∀ x, (p x).toNat < 12800) (hq : ∀ x, (q x).toNat < 12800)
    {Φ : FVec F L16 .f32 × FVec F L16 .f32 → sProp 𝕄} :
    iprop(Holds (d := d) (pa := pa) (pb := pb) xv fullShare X ∗ Holds (d := d) (pa := pa) (pb := pb) tv fullShare Tb)
      ⊢ iprop((iprop(Holds (d := d) (pa := pa) (pb := pb) xv fullShare X ∗ Holds (d := d) (pa := pa) (pb := pb) tv fullShare Tb)
          -∗ Φ (fun x => scoreAt X Tb (p x).toNat, fun x => scoreAt X Tb (q x).toNat)) -∗ wp frame (wpE defs 𝒱 (V d pa pb) bd) Set.univ (look (Λ := Λ) xv tv p q) Φ) := by
  iintro ⟨Hx, Ht⟩ Hk
  unfold look
  simp only [Prog.bind_lift]
  iapply (wp_assume 𝒱 (V d pa pb) bd Set.univ (inPiece_of p hp))
  iapply (wp_gather 𝒱 bd) $$ Hx
  iintro Hx
  rw [fetch_words X p hp]
  iapply (wp_assume 𝒱 (V d pa pb) bd Set.univ (inVocab_of X hX p))
  iapply (wp_assume 𝒱 (V d pa pb) bd Set.univ (inPiece_of q hq))
  iapply (wp_gather 𝒱 bd) $$ Hx
  iintro Hx
  rw [fetch_words X q hq]
  iapply (wp_assume 𝒱 (V d pa pb) bd Set.univ (inVocab_of X hX q))
  iapply (wp_gather 𝒱 bd) $$ Ht
  iintro Ht
  iapply (wp_gather 𝒱 bd) $$ Ht
  iintro Ht
  rw [fetch_scores, fetch_scores]
  rw [wp_pure]
  imodintro
  iapply Hk
  isplitl [Hx] <;> iassumption

/-- Looking up word `8 t + k` of rows `g …` and of rows `h …` at the head of a program. -/
theorem wp_lookAt {g h k : Nat} (hX : ∀ j, (X j).toNat < 100000) (hg : g ≤ 48) (hh : h ≤ 48) (hk : k < 8) (t : Fin theLoop.trips)
    {kk : FVec F L16 .f32 × FVec F L16 .f32 → Prog (TpuEff nD τ sig (Elt F) Λ (Proc.scVector pa pb)) α} :
    iprop(Holds (d := d) (pa := pa) (pb := pb) xv fullShare X ∗ Holds (d := d) (pa := pa) (pb := pb) tv fullShare Tb)
      ⊢ iprop((iprop(Holds (d := d) (pa := pa) (pb := pb) xv fullShare X ∗ Holds (d := d) (pa := pa) (pb := pb) tv fullShare Tb)
          -∗ wp frame (wpE defs 𝒱 (V d pa pb) bd) Set.univ (kk (rowScores X Tb g (8 * t.val + k), rowScores X Tb h (8 * t.val + k))) Q)
        -∗ wp frame (wpE defs 𝒱 (V d pa pb) bd) Set.univ (look (Λ := Λ) xv tv (posn (BitVec.ofNat 32 g) (BitVec.ofNat 32 k) t) (posn (BitVec.ofNat 32 h) (BitVec.ofNat 32 k) t) >>= kk) Q) := by
  have ht : t.val < 25 := trips_eq ▸ t.isLt
  have e : ∀ (g : Nat), g ≤ 48 → (fun x => scoreAt X Tb (posn (BitVec.ofNat 32 g) (BitVec.ofNat 32 k) t x).toNat) = rowScores X Tb g (8 * t.val + k) := by
    intro g hg
    funext x
    rw [posn_toNat hg hk]
    rfl
  have b : ∀ (g : Nat), g ≤ 48 → ∀ x, (posn (BitVec.ofNat 32 g) (BitVec.ofNat 32 k) t x).toNat < 12800 := by
    intro g hg x
    have hx : (x 0).val < 16 := (x 0).isLt
    rw [posn_toNat hg hk]; omega
  rw [← e g hg, ← e h hh, wp_bind]
  iintro H Hk
  iapply (wp_look 𝒱 bd hX (b g hg) (b h hh)) $$ H
  iexact Hk

/-- One trip adds eight words to every row's sum. -/
theorem wp_trip {g h : Nat} (hX : ∀ j, (X j).toNat < 100000) (hg : g ≤ 48) (hh : h ≤ 48) (t : Fin theLoop.trips)
    {Φ : FVec F L16 .f32 × FVec F L16 .f32 → sProp 𝕄} :
    iprop(Holds (d := d) (pa := pa) (pb := pb) xv fullShare X ∗ Holds (d := d) (pa := pa) (pb := pb) tv fullShare Tb)
      ⊢ iprop((iprop(Holds (d := d) (pa := pa) (pb := pb) xv fullShare X ∗ Holds (d := d) (pa := pa) (pb := pb) tv fullShare Tb) -∗ Φ (rowSums X Tb g (t.val + 1), rowSums X Tb h (t.val + 1)))
        -∗ wp frame (wpE defs 𝒱 (V d pa pb) bd) Set.univ (trip (Λ := Λ) xv tv (BitVec.ofNat 32 g) (BitVec.ofNat 32 h) t (rowSums X Tb g t.val, rowSums X Tb h t.val)) Φ) := by
  iintro H Hk
  unfold trip
  iapply (wp_lookAt 𝒱 bd hX hg hh (k := 0) (by decide) t) $$ H; iintro H
  iapply (wp_lookAt 𝒱 bd hX hg hh (k := 1) (by decide) t) $$ H; iintro H
  iapply (wp_lookAt 𝒱 bd hX hg hh (k := 2) (by decide) t) $$ H; iintro H
  iapply (wp_lookAt 𝒱 bd hX hg hh (k := 3) (by decide) t) $$ H; iintro H
  iapply (wp_lookAt 𝒱 bd hX hg hh (k := 4) (by decide) t) $$ H; iintro H
  iapply (wp_lookAt 𝒱 bd hX hg hh (k := 5) (by decide) t) $$ H; iintro H
  iapply (wp_lookAt 𝒱 bd hX hg hh (k := 6) (by decide) t) $$ H; iintro H
  iapply (wp_lookAt 𝒱 bd hX hg hh (k := 7) (by decide) t) $$ H; iintro H
  rw [wp_pure]
  imodintro
  rw [rowSums_succ, rowSums_succ]
  iapply Hk
  iexact H

/-- A loop at the head of a program leaves the whole sums of its two groups of rows. -/
theorem wp_loop {g h : Nat} (hX : ∀ j, (X j).toNat < 100000) (hg : g ≤ 48) (hh : h ≤ 48) (hok : theLoop.OK)
    {kk : FVec F L16 .f32 × FVec F L16 .f32 → Prog (TpuEff nD τ sig (Elt F) Λ (Proc.scVector pa pb)) α} :
    iprop(Holds (d := d) (pa := pa) (pb := pb) xv fullShare X ∗ Holds (d := d) (pa := pa) (pb := pb) tv fullShare Tb)
      ⊢ iprop((iprop(Holds (d := d) (pa := pa) (pb := pb) xv fullShare X ∗ Holds (d := d) (pa := pa) (pb := pb) tv fullShare Tb) -∗ wp frame (wpE defs 𝒱 (V d pa pb) bd) Set.univ (kk (rowSums X Tb g 25, rowSums X Tb h 25)) Q)
        -∗ wp frame (wpE defs 𝒱 (V d pa pb) bd) Set.univ (Scf.Loop.for theLoop hok (zeros, zeros) (trip (Λ := Λ) xv tv (BitVec.ofNat 32 g) (BitVec.ofNat 32 h)) >>= kk) Q) := by
  iintro H Hk
  iapply (Scf.wp_for_bind frame (wpE defs 𝒱 (V d pa pb) bd) Set.univ theLoop.lb theLoop.ub theLoop.st hok (zeros, zeros)
    (trip (Λ := Λ) xv tv (BitVec.ofNat 32 g) (BitVec.ofNat 32 h))
    (fun n acc => iprop(⌜acc = (rowSums X Tb g n, rowSums X Tb h n)⌝ ∗ Holds (d := d) (pa := pa) (pb := pb) xv fullShare X ∗ Holds (d := d) (pa := pa) (pb := pb) tv fullShare Tb)) (by
      intro k acc
      iintro ⟨%e, H⟩
      subst e
      iapply (wp_trip 𝒱 bd hX hg hh k) $$ H
      iintro H
      isplitr; · ipureintro; rfl
      iexact H)) $$ [H]
  · isplitr; · ipureintro; rw [rowSums_zero, rowSums_zero]
    iexact H
  iintro %acc ⟨%e, H⟩
  rw [show Scf.trips theLoop.lb theLoop.ub theLoop.st = 25 from trips_eq] at e
  subst e
  iapply Hk
  iexact H

/-- One piece's 64 rows: the four windows of the results that belong to it receive the sums. -/
theorem wp_rows64 (hX : ∀ j, (X j).toNat < 100000) (hok : theLoop.OK) (ov : Memref sig .scVector .vmem L512 .f32) {O : L512.Idx → F .f32}
    (Xs : Nat → LIdx.Idx → BitVec 32) {c : Nat} (hc : c < 8) (hXc : X = Xs c) (hO : ∀ y, (y 0).val / 16 < 4 * c → O y = tileSum Xs Tb (y 0).val)
    {k : Prog (TpuEff nD τ sig (Elt F) Λ (Proc.scVector pa pb)) α} :
    iprop(Holds (d := d) (pa := pa) (pb := pb) xv fullShare X ∗ Holds (d := d) (pa := pa) (pb := pb) tv fullShare Tb ∗ Holds (d := d) (pa := pa) (pb := pb) ov fullShare O)
      ⊢ iprop((∀ O', iprop(⌜∀ y : L512.Idx, (y 0).val / 16 < 4 * (c + 1) → O' y = tileSum Xs Tb (y 0).val⌝
            ∗ Holds (d := d) (pa := pa) (pb := pb) xv fullShare X ∗ Holds (d := d) (pa := pa) (pb := pb) tv fullShare Tb ∗ Holds (d := d) (pa := pa) (pb := pb) ov fullShare O') -∗ wp frame (wpE defs 𝒱 (V d pa pb) bd) Set.univ k Q)
        -∗ wp frame (wpE defs 𝒱 (V d pa pb) bd) Set.univ (rows64 (Λ := Λ) xv tv ov hok c hc k) Q) := by
  subst hXc
  iintro ⟨Hx, Ht, Ho⟩ Hk
  unfold rows64
  iapply (wp_loop 𝒱 bd hX (g := 0) (h := 16) (by decide) (by decide) hok) $$ [Hx Ht]
  · isplitl [Hx] <;> iassumption
  iintro ⟨Hx, Ht⟩
  iapply (wp_put 𝒱 bd _) $$ Ho; iintro Ho
  iapply (wp_put 𝒱 bd _) $$ Ho; iintro Ho
  iapply (wp_loop 𝒱 bd hX (g := 32) (h := 48) (by decide) (by decide) hok) $$ [Hx Ht]
  · isplitl [Hx] <;> iassumption
  iintro ⟨Hx, Ht⟩
  iapply (wp_put 𝒱 bd _) $$ Ho; iintro Ho
  iapply (wp_put 𝒱 bd _) $$ Ho; iintro Ho
  iapply Hk
  isplitr
  · ipureintro
    have w0 := fun x => rowSums_window Xs Tb (c := c) (j := 0) (by decide) x
    have w1 := fun x => rowSums_window Xs Tb (c := c) (j := 1) (by decide) x
    have w2 := fun x => rowSums_window Xs Tb (c := c) (j := 2) (by decide) x
    have w3 := fun x => rowSums_window Xs Tb (c := c) (j := 3) (by decide) x
    exact setWin_upto (S := tileSum Xs Tb) (setWin_upto (S := tileSum Xs Tb) (setWin_upto (S := tileSum Xs Tb)
      (setWin_upto (S := tileSum Xs Tb) hO w0) w1) w2) w3
  isplitl [Hx]; · iexact Hx
  isplitl [Ht] <;> iassumption

end Cert.Pool
-- ==== Proof.TileTask.lean ====
/-
The whole task of one vector subcore: the copies that bring the table of scores and the eight pieces of
word numbers in, the sums, the finishing step, and the copy of the results out.
-/
module

public import proofs.«01_k».proof.Proof.TileSpec
public import Idealize.ShloMosaic.Lib.Transfers

@[expose] public section

noncomputable section

namespace Cert.Pool

open Idealize.ShloMosaic
open Idealize.ShloMosaic.SparseCore (S V T)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {nD : Nat} {τ : Topo} {sig : RefSig} {Λ : Labels} {d : Dev nD} {pa : Fin τ.nSC} {pb : Fin τ.nSub}
variable {Ix : Type} [DecidableEq Ix] {Name : Type} [DecidableEq Name] [Infinite Name] {U : Type} [URA U] {Lvl : Type} [Preorder Lvl]

local notation "𝕄" => MT nD τ sig Ix (Elt F) Name U Lvl

/-- A piece has at least one word. -/
theorem idx_pos : 0 < LIdx.numel := by decide

variable (EC : UEmb Counters (MT nD τ sig Ix (Elt F) Name U Lvl)) [hEC : EC.LandsIn (upEmb : UEmb _ (MT nD τ sig Ix (Elt F) Name U Lvl))]
variable {defs : Defs nD τ sig (Elt F) Λ} (𝒱 : Variants) (bd : Option 𝒱.V) (ι : Ix)
variable {α : Type} {Q : α → sProp (MT nD τ sig Ix (Elt F) Name U Lvl)}

/-- A transfer under way on semaphore `s` that delivers `m` reading `Y`, and the source's share back. -/
def Coming {sp sp' : Space} {s : Shape} {e : EltTy} (src : Memref sig .scVector sp s e) (m : Memref sig .scVector sp' s e) (sm : DmaSem sig)
    (q : PosShare TreeShare) (Y : s.Idx → Elt F e) : sProp 𝕄 :=
  Flight EC (V d pa pb : Thread nD τ) (.dma sm) ι m.view.dmaCredit iprop(Holds (d := d) (pa := pa) (pb := pb) m fullShare Y ∗ Holds (d := d) (pa := pa) (pb := pb) src q Y)

include hEC

/-- Starting a copy. -/
theorem wp_start {sp sp' : Space} {s : Shape} {e : EltTy} {src : Memref sig .scVector sp s e} {m : Memref sig .scVector sp' s e} {sm : DmaSem sig}
    {hsrc : src.view.WordExact} {hdst : m.view.WordExact} {hsem : DmaTarget.Typed (nD := nD) sp (.dma sm) (.here (p := Proc.scVector pa pb) m)}
    {k : PUnit → Prog (TpuEff nD τ sig (Elt F) Λ (Proc.scVector pa pb)) α} {q : PosShare TreeShare} {Y Z : s.Idx → Elt F e} (hs : 0 < s.numel) :
    iprop(Holds (d := d) (pa := pa) (pb := pb) src q Y ∗ Holds (d := d) (pa := pa) (pb := pb) m fullShare Z ∗ semVal ((V d pa pb : Thread nD τ), (.dma sm : SemLoc sig)) 0)
      ⊢ iprop((Coming (d := d) (pa := pa) (pb := pb) EC ι src m sm q Y -∗ wp frame (wpE defs 𝒱 (V d pa pb) bd) Set.univ (k ⟨⟩) Q)
        -∗ wp frame (wpE defs 𝒱 (V d pa pb) bd) Set.univ (.op (.enqueueDma src (.here m) (.dma sm) hsrc hdst hsem) k) Q) := by
  unfold Coming Holds
  iintro ⟨⟨%fs, %es, Hs⟩, ⟨%fd, %ed, Hd⟩, Hv⟩ Hk
  iapply (wp_dmaLocal EC 𝒱 (V d pa pb) bd (src := src) (dst := m) (sm := .dma sm) ι m.view.dmaCredit rfl (m.view.dmaCredit_pos hs) (Finset.Subset.refl _)) $$ [Hs Hd Hv]
  · isplitl [Hs]; · iexact Hs
    isplitl [Hd] <;> iassumption
  iintro H
  iapply Hk
  iapply (Flight_mono EC (V d pa pb) ?_) $$ H
  iintro ⟨Hd, Hs⟩
  isplitl [Hd]
  · iexists _
    isplitr
    swap; · iexact Hd
    ipureintro
    rw [View.read_write_univ]
    exact es
  · iexists fs
    isplitr; · ipureintro; exact es
    iexact Hs

/-- What the subcore owes, with waits recorded only under `ι` beyond those of `W`. -/
def Owing (O : CellTallies nD τ sig Ix) (W : Waits sig Ix) : sProp 𝕄 :=
  iprop(∃ W' : Waits sig Ix, ⌜∀ p ∈ W', p ∈ W ∨ p.2 = ι⌝ ∗ owes (V d pa pb : Thread nD τ) O W')

/-- Waiting for a copy. -/
theorem wp_finish {sp sp' sp₁ : Space} {s : Shape} {e : EltTy} {s' : Shape} {e' : EltTy} {src : Memref sig .scVector sp s e} {m : Memref sig .scVector sp' s e}
    {srcw : Memref sig .scVector sp₁ s' e'} {sm : DmaSem sig}
    {hsrc : srcw.view.WordExact} {hdst : m.view.WordExact}
    {k : PUnit → Prog (TpuEff nD τ sig (Elt F) Λ (Proc.scVector pa pb)) α} {q : PosShare TreeShare} {Y : s.Idx → Elt F e}
    {O : CellTallies nD τ sig Ix} {W : Waits sig Ix} :
    iprop(Coming (d := d) (pa := pa) (pb := pb) EC ι src m sm q Y ∗ Owing (d := d) (pa := pa) (pb := pb) ι O W ∗ MayWaits (V d pa pb) ι O)
      ⊢ iprop((iprop(Holds (d := d) (pa := pa) (pb := pb) m fullShare Y ∗ Holds (d := d) (pa := pa) (pb := pb) src q Y ∗ semVal ((V d pa pb : Thread nD τ), (.dma sm : SemLoc sig)) 0 ∗ Owing (d := d) (pa := pa) (pb := pb) ι O W) -∗ wp frame (wpE defs 𝒱 (V d pa pb) bd) Set.univ (k ⟨⟩) Q)
        -∗ wp frame (wpE defs 𝒱 (V d pa pb) bd) Set.univ (.op (.waitDma2 sm srcw m hsrc hdst) k) Q) := by
  unfold Coming Owing
  iintro ⟨Hf, ⟨%W', %hW, Ho⟩, #Hw⟩ Hk
  iapply (wp_waitLocalO EC 𝒱 (V d pa pb) bd (dstw := m) ι rfl) $$ [Hf Ho]
  · isplitl [Hf]; · iexact Hf
    isplitl [Ho]; · iexact Ho
    iapply (MayWaits.elim (.dma sm)) $$ Hw
  iintro ⟨⟨Hm, Hs⟩, Hv, Ho⟩
  iapply Hk
  isplitl [Hm]; · iexact Hm
  isplitl [Hs]; · iexact Hs
  isplitl [Hv]; · iexact Hv
  iexists _
  isplitr
  swap; · iexact Ho
  ipureintro
  intro p hp
  rcases Finset.mem_insert.mp hp with rfl | hp
  · exact Or.inr rfl
  · exact hW p hp

variable (xs : Nat → Memref sig .scVector .hbm LIdx .i32) (qs : Nat → PosShare TreeShare) (Xs : Nat → LIdx.Idx → BitVec 32)
variable (Tb : LTab.Idx → F .f32) (O : CellTallies nD τ sig Ix) (W : Waits sig Ix)
variable (tv : Memref sig .scVector .vmem LTab .f32) (ov : Memref sig .scVector .vmem L512 .f32)
variable (xa xb : Memref sig .scVector .vmem LIdx .i32) (sa sb : DmaSem sig)

/-- Between two pairs of pieces: the results of the pieces before piece `c` are in, piece `c` is on its
    way into the first buffer, the pieces from `c + 1` on are still held, and nothing else is under way. -/
def Between (c : Nat) : sProp 𝕄 :=
  iprop(∃ R : L512.Idx → F .f32, ∃ Zb : LIdx.Idx → BitVec 32, ⌜∀ y : L512.Idx, (y 0).val / 16 < 4 * c → R y = tileSum Xs Tb (y 0).val⌝
    ∗ Holds (d := d) (pa := pa) (pb := pb) tv fullShare Tb ∗ Holds (d := d) (pa := pa) (pb := pb) ov fullShare R
    ∗ Coming (d := d) (pa := pa) (pb := pb) EC ι (xs c) xa sa (qs c) (Xs c) ∗ Holds (d := d) (pa := pa) (pb := pb) xb fullShare Zb ∗ semVal ((V d pa pb : Thread nD τ), (.dma sb : SemLoc sig)) 0
    ∗ Owing (d := d) (pa := pa) (pb := pb) ι O W)

/-- Two pieces. -/
theorem wp_pair (hX : ∀ c j, (Xs c j).toNat < 100000) (ha : xa.IsWhole) (hb : xb.IsWhole) (hok : theLoop.OK) {c : Nat} (hc : c + 2 < 8)
    {k : Prog (TpuEff nD τ sig (Elt F) Λ (Proc.scVector pa pb)) α} :
    iprop(Between (d := d) (pa := pa) (pb := pb) EC ι xs qs Xs Tb O W tv ov xa xb sa sb c
        ∗ Holds (d := d) (pa := pa) (pb := pb) (xs (c + 1)) (qs (c + 1)) (Xs (c + 1)) ∗ Holds (d := d) (pa := pa) (pb := pb) (xs (c + 2)) (qs (c + 2)) (Xs (c + 2)) ∗ MayWaits (V d pa pb) ι O)
      ⊢ iprop((Between (d := d) (pa := pa) (pb := pb) EC ι xs qs Xs Tb O W tv ov xa xb sa sb (c + 2) -∗ wp frame (wpE defs 𝒱 (V d pa pb) bd) Set.univ k Q)
        -∗ wp frame (wpE defs 𝒱 (V d pa pb) bd) Set.univ (pair (Λ := Λ) xs tv xa ha xb hb ov sa sb hok c hc k) Q) := by
  unfold Between
  iintro ⟨⟨%R, %Zb, %hR, Ht, Ho, Hf, Hb, Hv, HO⟩, H1, H2, #Hw⟩ Hk
  unfold pair fetch arrive
  iapply (wp_start EC 𝒱 bd ι (src := xs (c + 1)) (m := xb) idx_pos) $$ [H1 Hb Hv]
  · isplitl [H1]; · iexact H1
    isplitl [Hb] <;> iassumption
  iintro Hg
  iapply (wp_finish EC 𝒱 bd ι (src := xs c) (m := xa)) $$ [Hf HO]
  · isplitl [Hf]; · iexact Hf
    isplitl [HO]; · iexact HO
    iexact Hw
  iintro ⟨Ha, -, Hv, HO⟩
  iapply (wp_rows64 𝒱 bd (hX c) hok ov Xs (c := c) _ rfl hR) $$ [Ha Ht Ho]
  · isplitl [Ha]; · iexact Ha
    isplitl [Ht] <;> iassumption
  iintro %R1 ⟨%hR1, Ha, Ht, Ho⟩
  iapply (wp_start EC 𝒱 bd ι (src := xs (c + 2)) (m := xa) idx_pos) $$ [H2 Ha Hv]
  · isplitl [H2]; · iexact H2
    isplitl [Ha] <;> iassumption
  iintro Hf
  iapply (wp_finish EC 𝒱 bd ι (src := xs (c + 1)) (m := xb)) $$ [Hg HO]
  · isplitl [Hg]; · iexact Hg
    isplitl [HO]; · iexact HO
    iexact Hw
  iintro ⟨Hb, -, Hv, HO⟩
  iapply (wp_rows64 𝒱 bd (hX (c + 1)) hok ov Xs (c := c + 1) _ rfl hR1) $$ [Hb Ht Ho]
  · isplitl [Hb]; · iexact Hb
    isplitl [Ht] <;> iassumption
  iintro %R2 ⟨%hR2, Hb, Ht, Ho⟩
  iapply Hk
  iexists R2
  iexists (Xs (c + 1))
  isplitr; · ipureintro; exact hR2
  isplitl [Ht]; · iexact Ht
  isplitl [Ho]; · iexact Ho
  isplitl [Hf]; · iexact Hf
  isplitl [Hb]; · iexact Hb
  isplitl [Hv] <;> iassumption

/-- The last two pieces: all sums are in. -/
theorem wp_lastPair (hX : ∀ c j, (Xs c j).toNat < 100000) (ha : xa.IsWhole) (hb : xb.IsWhole) (hok : theLoop.OK)
    {k : Prog (TpuEff nD τ sig (Elt F) Λ (Proc.scVector pa pb)) α} :
    iprop(Between (d := d) (pa := pa) (pb := pb) EC ι xs qs Xs Tb O W tv ov xa xb sa sb 6
        ∗ Holds (d := d) (pa := pa) (pb := pb) (xs 7) (qs 7) (Xs 7) ∗ MayWaits (V d pa pb) ι O)
      ⊢ iprop((iprop(Holds (d := d) (pa := pa) (pb := pb) tv fullShare Tb ∗ Holds (d := d) (pa := pa) (pb := pb) ov fullShare (fun y => tileSum Xs Tb (y 0).val) ∗ Holds (d := d) (pa := pa) (pb := pb) xa fullShare (Xs 6) ∗ Holds (d := d) (pa := pa) (pb := pb) xb fullShare (Xs 7)
            ∗ semVal ((V d pa pb : Thread nD τ), (.dma sa : SemLoc sig)) 0 ∗ semVal ((V d pa pb : Thread nD τ), (.dma sb : SemLoc sig)) 0 ∗ Owing (d := d) (pa := pa) (pb := pb) ι O W) -∗ wp frame (wpE defs 𝒱 (V d pa pb) bd) Set.univ k Q)
        -∗ wp frame (wpE defs 𝒱 (V d pa pb) bd) Set.univ (lastPair (Λ := Λ) xs tv xa ha xb hb ov sa sb hok k) Q) := by
  unfold Between
  iintro ⟨⟨%R, %Zb, %hR, Ht, Ho, Hf, Hb, Hv, HO⟩, H1, #Hw⟩ Hk
  unfold lastPair fetch arrive
  iapply (wp_start EC 𝒱 bd ι (src := xs 7) (m := xb) idx_pos) $$ [H1 Hb Hv]
  · isplitl [H1]; · iexact H1
    isplitl [Hb] <;> iassumption
  iintro Hg
  iapply (wp_finish EC 𝒱 bd ι (src := xs 6) (m := xa)) $$ [Hf HO]
  · isplitl [Hf]; · iexact Hf
    isplitl [HO]; · iexact HO
    iexact Hw
  iintro ⟨Ha, -, Hva, HO⟩
  iapply (wp_rows64 𝒱 bd (hX 6) hok ov Xs (c := 6) _ rfl hR) $$ [Ha Ht Ho]
  · isplitl [Ha]; · iexact Ha
    isplitl [Ht] <;> iassumption
  iintro %R1 ⟨%hR1, Ha, Ht, Ho⟩
  iapply (wp_finish EC 𝒱 bd ι (src := xs 7) (m := xb)) $$ [Hg HO]
  · isplitl [Hg]; · iexact Hg
    isplitl [HO]; · iexact HO
    iexact Hw
  iintro ⟨Hb, -, Hv, HO⟩
  iapply (wp_rows64 𝒱 bd (hX 7) hok ov Xs (c := 7) _ rfl hR1) $$ [Hb Ht Ho]
  · isplitl [Hb]; · iexact Hb
    isplitl [Ht] <;> iassumption
  iintro %R2 ⟨%hR2, Hb, Ht, Ho⟩
  iapply Hk
  rw [show (fun y : L512.Idx => tileSum Xs Tb (y 0).val) = R2 from by
    funext y
    have hy : (y 0).val < 512 := (y 0).isLt
    exact (hR2 y (by omega)).symm]
  isplitl [Ht]; · iexact Ht
  isplitl [Ho]; · iexact Ho
  isplitl [Ha]; · iexact Ha
  isplitl [Hb]; · iexact Hb
  isplitl [Hva]; · iexact Hva
  isplitl [Hv] <;> iassumption

/-- The whole task: its part of the result ends with the finished sums of its 512 rows. -/
theorem wp_task (hX : ∀ c j, (Xs c j).toNat < 100000) {tin : Memref sig .scVector .hbm LTab .f32} {qt : PosShare TreeShare} {htin : tin.IsWhole}
    {out : Memref sig .scVector .hbm L512 .f32} {htv : tv.IsWhole} {ha : xa.IsWhole} {hb : xb.IsWhole} {hov : ov.IsWhole} {st so : DmaSem sig}
    (hok : theLoop.OK) (nh sc : F .f32) {Z Z' : L512.Idx → F .f32} {Zt : LTab.Idx → F .f32} {Za Zb : LIdx.Idx → BitVec 32} {Q : PUnit → sProp 𝕄} :
    iprop((Holds (d := d) (pa := pa) (pb := pb) tin qt Tb ∗ (Holds (d := d) (pa := pa) (pb := pb) (xs 0) (qs 0) (Xs 0) ∗ Holds (d := d) (pa := pa) (pb := pb) (xs 1) (qs 1) (Xs 1) ∗ Holds (d := d) (pa := pa) (pb := pb) (xs 2) (qs 2) (Xs 2) ∗ Holds (d := d) (pa := pa) (pb := pb) (xs 3) (qs 3) (Xs 3)
          ∗ Holds (d := d) (pa := pa) (pb := pb) (xs 4) (qs 4) (Xs 4) ∗ Holds (d := d) (pa := pa) (pb := pb) (xs 5) (qs 5) (Xs 5) ∗ Holds (d := d) (pa := pa) (pb := pb) (xs 6) (qs 6) (Xs 6) ∗ Holds (d := d) (pa := pa) (pb := pb) (xs 7) (qs 7) (Xs 7)) ∗ Holds (d := d) (pa := pa) (pb := pb) out fullShare Z)
        ∗ (Holds (d := d) (pa := pa) (pb := pb) tv fullShare Zt ∗ Holds (d := d) (pa := pa) (pb := pb) xa fullShare Za ∗ Holds (d := d) (pa := pa) (pb := pb) xb fullShare Zb ∗ Holds (d := d) (pa := pa) (pb := pb) ov fullShare Z')
        ∗ (semVal ((V d pa pb : Thread nD τ), (.dma st : SemLoc sig)) 0 ∗ semVal ((V d pa pb : Thread nD τ), (.dma sa : SemLoc sig)) 0 ∗ semVal ((V d pa pb : Thread nD τ), (.dma sb : SemLoc sig)) 0 ∗ semVal ((V d pa pb : Thread nD τ), (.dma so : SemLoc sig)) 0)
        ∗ Owing (d := d) (pa := pa) (pb := pb) ι O W ∗ MayWaits (V d pa pb) ι O)
      ⊢ iprop((iprop(Holds (d := d) (pa := pa) (pb := pb) out fullShare (fun y => finish1 nh sc (tileSum Xs Tb (y 0).val))
            ∗ (Holds (d := d) (pa := pa) (pb := pb) tv fullShare Tb ∗ Holds (d := d) (pa := pa) (pb := pb) xa fullShare (Xs 6) ∗ Holds (d := d) (pa := pa) (pb := pb) xb fullShare (Xs 7) ∗ Holds (d := d) (pa := pa) (pb := pb) ov fullShare (fun y => finish1 nh sc (tileSum Xs Tb (y 0).val)))
            ∗ (semVal ((V d pa pb : Thread nD τ), (.dma st : SemLoc sig)) 0 ∗ semVal ((V d pa pb : Thread nD τ), (.dma sa : SemLoc sig)) 0 ∗ semVal ((V d pa pb : Thread nD τ), (.dma sb : SemLoc sig)) 0 ∗ semVal ((V d pa pb : Thread nD τ), (.dma so : SemLoc sig)) 0)
            ∗ Owing (d := d) (pa := pa) (pb := pb) ι O W) -∗ Q ⟨⟩)
        -∗ wp frame (wpE defs 𝒱 (V d pa pb) bd) Set.univ (task (Λ := Λ) tin htin xs out tv htv xa ha xb hb ov hov st sa sb so hok nh sc) Q) := by
  iintro ⟨⟨Hin, ⟨X0, X1, X2, X3, X4, X5, X6, X7⟩, Hout⟩, ⟨Ht, Ha, Hb, Ho⟩, ⟨Hst, Hsa, Hsb, Hso⟩, HO, #Hw⟩ Hk
  unfold task
  iapply (wp_start EC 𝒱 bd ι (src := tin) (m := tv) (show 0 < LTab.numel by decide)) $$ [Hin Ht Hst]
  · isplitl [Hin]; · iexact Hin
    isplitl [Ht] <;> iassumption
  iintro Hft
  unfold fetch
  iapply (wp_start EC 𝒱 bd ι (src := xs 0) (m := xa) idx_pos) $$ [X0 Ha Hsa]
  · isplitl [X0]; · iexact X0
    isplitl [Ha] <;> iassumption
  iintro Hf
  iapply (wp_finish EC 𝒱 bd ι (src := tin) (m := tv)) $$ [Hft HO]
  · isplitl [Hft]; · iexact Hft
    isplitl [HO]; · iexact HO
    iexact Hw
  iintro ⟨Ht, -, Hst, HO⟩
  iapply (wp_pair EC 𝒱 bd ι xs qs Xs Tb O W tv ov xa xb sa sb hX ha hb hok (c := 0) _) $$ [Ht Ho Hf Hb Hsb HO X1 X2]
  · unfold Between
    isplitl [Ht Ho Hf Hb Hsb HO]
    · iexists Z'
      iexists Zb
      isplitr
      · ipureintro
        intro y hy
        exact absurd hy (by omega)
      isplitl [Ht]; · iexact Ht
      isplitl [Ho]; · iexact Ho
      isplitl [Hf]; · iexact Hf
      isplitl [Hb]; · iexact Hb
      isplitl [Hsb] <;> iassumption
    isplitl [X1]; · iexact X1
    isplitl [X2]; · iexact X2
    iexact Hw
  iintro HB
  iapply (wp_pair EC 𝒱 bd ι xs qs Xs Tb O W tv ov xa xb sa sb hX ha hb hok (c := 2) _) $$ [HB X3 X4]
  · isplitl [HB]; · iexact HB
    isplitl [X3]; · iexact X3
    isplitl [X4]; · iexact X4
    iexact Hw
  iintro HB
  iapply (wp_pair EC 𝒱 bd ι xs qs Xs Tb O W tv ov xa xb sa sb hX ha hb hok (c := 4) _) $$ [HB X5 X6]
  · isplitl [HB]; · iexact HB
    isplitl [X5]; · iexact X5
    isplitl [X6]; · iexact X6
    iexact Hw
  iintro HB
  iapply (wp_lastPair EC 𝒱 bd ι xs qs Xs Tb O W tv ov xa xb sa sb hX ha hb hok) $$ [HB X7]
  · isplitl [HB]; · iexact HB
    isplitl [X7]; · iexact X7
    iexact Hw
  iintro ⟨Ht, Ho, Ha, Hb, Hsa, Hsb, HO⟩
  iapply (wp_settle (m := ov) 𝒱 bd nh sc (tileSum Xs Tb) 32 0 _ _ (fun _ _ => rfl) (fun _ h => absurd h (by omega))) $$ Ho
  iintro Ho
  iapply (wp_start EC 𝒱 bd ι (src := ov) (m := out) (show 0 < L512.numel by decide)) $$ [Ho Hout Hso]
  · isplitl [Ho]; · iexact Ho
    isplitl [Hout] <;> iassumption
  iintro Hf
  iapply (wp_finish EC 𝒱 bd ι (src := ov) (m := out)) $$ [Hf HO]
  · isplitl [Hf]; · iexact Hf
    isplitl [HO]; · iexact HO
    iexact Hw
  iintro ⟨Hout, Ho, Hso, HO⟩
  rw [wp_ret]
  imodintro
  iapply Hk
  isplitl [Hout]; · iexact Hout
  isplitl [Ht Ha Hb Ho]
  · isplitl [Ht]; · iexact Ht
    isplitl [Ha]; · iexact Ha
    isplitl [Hb] <;> iassumption
  isplitl [Hst Hsa Hsb Hso]
  · isplitl [Hst]; · iexact Hst
    isplitl [Hsa]; · iexact Hsa
    isplitl [Hsb] <;> iassumption
  iexact HO

end Cert.Pool
-- ==== Proof.Rows.lean ====
/-
The rows of the whole array: what a tile leaves at its result `r`, in terms of the array of word numbers
all tiles read pieces of.
-/
module

public import proofs.«01_k».proof.Proof.TileSum

@[expose] public section

noncomputable section

namespace Cert.Pool

open Idealize.ShloMosaic Idealize.SL.Sem

variable {F : FTy → Type} [FloatOps F]

/-- The array of all word numbers, and the array of all results. -/
abbrev LAll : Shape := ⟨2, ![25600, 128]⟩
abbrev LRes : Shape := ⟨1, ![16384]⟩

/-- Word number `n` of the whole array. -/
def flatWord (X : LAll.Idx → BitVec 32) (n : Nat) : BitVec 32 :=
  X fun | ⟨0, _⟩ => ⟨n / 128 % 25600, Nat.mod_lt _ (by decide)⟩ | ⟨1, _⟩ => ⟨n % 128, Nat.mod_lt _ (by decide)⟩

/-- Piece `c` of tile `w`: a hundred lines of the whole array. -/
def pieceOf (X : LAll.Idx → BitVec 32) (w c : Nat) : LIdx.Idx → BitVec 32 := fun j =>
  X fun
    | ⟨0, _⟩ => ⟨(800 * w + 100 * c + (j 0).val) % 25600, Nat.mod_lt _ (by decide)⟩
    | ⟨1, _⟩ => ⟨(j 1).val % 128, Nat.mod_lt _ (by decide)⟩

/-- The sum of the scores of row `r`'s two hundred words. -/
def rowSum (X : LAll.Idx → BitVec 32) (T : LTab.Idx → F .f32) (r : Nat) : F .f32 :=
  partialSum (fun l => scoreOf T (flatWord X (200 * r + l))) 25

/-- All results. -/
def results (nh sc : F .f32) (X : LAll.Idx → BitVec 32) (T : LTab.Idx → F .f32) : LRes.Idx → F .f32 :=
  fun y => finish1 nh sc (rowSum X T (y 0).val)

/-- Sums of equal scores are equal. -/
theorem partialSum_congr {s s' : Nat → F .f32} {k : Nat} (h : ∀ l, l < 8 * k → s l = s' l) : partialSum s k = partialSum s' k := by
  induction k with
  | zero => rfl
  | succ k ih =>
    unfold partialSum sum8
    beta_reduce
    rw [ih fun l hl => h l (by omega), h (8 * k + 0) (by omega), h (8 * k + 1) (by omega), h (8 * k + 2) (by omega), h (8 * k + 3) (by omega),
      h (8 * k + 4) (by omega), h (8 * k + 5) (by omega), h (8 * k + 6) (by omega), h (8 * k + 7) (by omega)]

/-- A word of a piece is a word of the whole array. -/
theorem wordAt_piece (X : LAll.Idx → BitVec 32) {w c n : Nat} (hn : n < 12800) :
    wordAt (pieceOf X w c) n = flatWord X (102400 * w + 12800 * c + n) := by
  unfold wordAt pieceOf flatWord
  refine congrArg X (funext fun a => ?_)
  apply Fin.ext
  match a with
  | ⟨0, _⟩ =>
    show (800 * w + 100 * c + n / 128 % 100) % 25600 = (102400 * w + 12800 * c + n) / 128 % 25600
    omega
  | ⟨1, _⟩ =>
    show n % 128 % 128 = (102400 * w + 12800 * c + n) % 128
    omega

/-- What a tile sums for its result `r` is the row of the whole array it stands for. -/
theorem tileSum_piece (X : LAll.Idx → BitVec 32) (T : LTab.Idx → F .f32) {w r : Nat} (hr : r < 512) :
    tileSum (pieceOf X w) T r = rowSum X T (512 * w + r) := by
  unfold tileSum rowSum
  refine partialSum_congr fun l hl => ?_
  show scoreOf T (wordAt _ _) = _
  rw [wordAt_piece X (by omega)]
  congr 2
  omega

/-- Every word of a piece is below a bound every word of the array is below. -/
theorem pieceOf_lt {X : LAll.Idx → BitVec 32} {b : Nat} (h : ∀ j, (X j).toNat < b) (w c : Nat) (j : LIdx.Idx) : (pieceOf X w c j).toNat < b := h _

end Cert.Pool

end
-- ==== Proof.Words.lean ====
/-
What the preconditions say of the arguments: every word number names a row of the table.
-/
module

public import proofs.«01_k».proof.Defs
public import Idealize.ShloMosaic.Lib.ReduceAll
public import Idealize.ShloMosaic.Lib.Affine

@[expose] public section

noncomputable section

namespace Cert.Pool

open Idealize.ShloMosaic

/-- A signed word from 0 to below 100000 is below 100000 unsigned. -/
theorem toNat_lt_of_signed (x : BitVec 32) (h0 : (0#32).toInt ≤ x.toInt) (h1 : x.toInt < (100000#32).toInt) : x.toNat < 100000 := by
  have e0 : (0#32).toInt = 0 := by decide
  have e1 : (100000#32).toInt = 100000 := by decide
  rw [e0] at h0
  rw [e1] at h1
  rw [BitVec.toInt_eq_toNat_cond] at h0 h1
  split at h0 <;> omega

variable {F : FTy → Type} [FloatOps F]

/-- Under `in_range` every word number is below the table's height. -/
theorem words_of_in_range [Cert.Pre_in_range.Facts] (x : IVec Cert.Pre_in_range.S16384x200 32) (t : FVec F Cert.Pre_in_range.S100000x16 .f32)
    (w : FVec F Cert.Pre_in_range.S16x1 .f32) (b : FVec F Cert.Pre_in_range.S1 .f32)
    (h : Cert.Pre_in_range.fn x t w b = fun _ => 1#1) (i : Cert.Pre_in_range.S16384x200.Idx) : (x i).toNat < 100000 := by
  have : Subsingleton Cert.Pre_in_range.S_.Idx := ⟨fun a b => funext fun k => k.elim0⟩
  have h' := congrFun h (fun k => k.elim0)
  dsimp only [Cert.Pre_in_range.fn] at h'
  have hi := Host.reduce_andi_all _ _ _ _ _ h' i
  obtain ⟨h0, h1⟩ := IntOp.andi_eq_one.mp hi
  exact toNat_lt_of_signed _ (IntOp.cmpi_sge.mp h0) (IntOp.cmpi_slt.mp h1)

/-- Under `in_range_finite` too. -/
theorem words_of_in_range_finite [Cert.Pre_in_range_finite.Facts] (x : IVec Cert.Pre_in_range_finite.S16384x200 32) (t : FVec F Cert.Pre_in_range_finite.S100000x16 .f32)
    (w : FVec F Cert.Pre_in_range_finite.S16x1 .f32) (b : FVec F Cert.Pre_in_range_finite.S1 .f32)
    (h : Cert.Pre_in_range_finite.fn x t w b = fun _ => 1#1) (i : Cert.Pre_in_range_finite.S16384x200.Idx) : (x i).toNat < 100000 := by
  have : Subsingleton Cert.Pre_in_range_finite.S_.Idx := ⟨fun a b => funext fun k => k.elim0⟩
  have h' := congrFun h (fun k => k.elim0)
  dsimp only [Cert.Pre_in_range_finite.fn] at h'
  obtain ⟨h', -⟩ := IntOp.andi_eq_one.mp h'
  obtain ⟨h', -⟩ := IntOp.andi_eq_one.mp h'
  have hi := Host.reduce_andi_all _ _ _ _ _ h' i
  obtain ⟨h0, h1⟩ := IntOp.andi_eq_one.mp hi
  exact toNat_lt_of_signed _ (IntOp.cmpi_sge.mp h0) (IntOp.cmpi_slt.mp h1)

/-- A number below infinity in absolute value is a real one. -/
theorem real_of_below (v : EReal) (h : Ideal.cmp .olt (max v (-v)) (Ideal.ofBits .f32 0x7F800000#32) = 1#1) : ∃ q : ℝ, v = (q : EReal) := by
  have htop : Ideal.ofBits .f32 0x7F800000#32 = ⊤ := by simp [Ideal.ofBits, Ideal.ieee]
  rw [htop] at h
  have h' : max v (-v) < ⊤ := by
    by_contra hc
    have : BitVec.ofBool (decide (max v (-v) < (⊤ : EReal))) = 1#1 := h
    rw [decide_eq_false hc] at this
    exact absurd this (by decide)
  obtain ⟨h0, h1⟩ := max_lt_iff.mp h'
  induction v with
  | bot => exact absurd h1 (by simp)
  | top => exact absurd h0 (by simp)
  | coe q => exact ⟨q, rfl⟩

/-- Under `in_range_finite` the table and the weights hold real numbers. -/
theorem reals_of_in_range_finite [Cert.Pre_in_range_finite.Facts] (x : IVec Cert.Pre_in_range_finite.S16384x200 32) (t : FVec Ideal Cert.Pre_in_range_finite.S100000x16 .f32)
    (w : FVec Ideal Cert.Pre_in_range_finite.S16x1 .f32) (b : FVec Ideal Cert.Pre_in_range_finite.S1 .f32)
    (h : Cert.Pre_in_range_finite.fn x t w b = fun _ => 1#1) :
    (∀ i, ∃ q : ℝ, (t i : EReal) = (q : EReal)) ∧ ∀ i, ∃ q : ℝ, (w i : EReal) = (q : EReal) := by
  have : Subsingleton Cert.Pre_in_range_finite.S_.Idx := ⟨fun a b => funext fun k => k.elim0⟩
  have h' := congrFun h (fun k => k.elim0)
  dsimp only [Cert.Pre_in_range_finite.fn] at h'
  obtain ⟨h', hw⟩ := IntOp.andi_eq_one.mp h'
  obtain ⟨-, ht⟩ := IntOp.andi_eq_one.mp h'
  exact ⟨fun i => real_of_below _ (Host.reduce_andi_all _ _ _ _ _ ht i), fun i => real_of_below _ (Host.reduce_andi_all _ _ _ _ _ hw i)⟩

end Cert.Pool

end
-- ==== Proof.Frames.lean ====
/-
The frame of the kernel at machine numbers: it runs to its end, leaves its arguments as they were, and every counter
ends at zero.
-/
module

public import proofs.«01_k».proof.Proof.Launch
public import proofs.«01_k».proof.Proof.Words
public import proofs.«01_k».proof.Proof.Gen.Pre_in_range

@[expose] public section

noncomputable section

namespace Cert.Kernel.Run

open Cert.Kernel Cert.Kernel.Gen Cert.Pool
open Idealize.ShloMosaic Idealize.SL.Sem

variable {F : FTy → Type} [FloatOps F]

/-- When the argument's word numbers lie in the table, those that the SparseCore call reads do. -/
theorem words_in_table (m : (ℓ : Loc nD τ sig) → Buf (Elt F) ℓ)
    (h : ∀ (d : Dev nD) (i : S16384x200.Idx), ((m ((SparseCore.T d).loc main_arg0) : IVec S16384x200 32) i).toNat < 100000) (d : Dev nD) (j) : (wrd m d j).toNat < 100000 := by
  rw [wrd_eq]
  exact h d _

/-- What a run's end says of the arguments and the counters. -/
theorem frame_of_end (m : (ℓ : Loc nD τ sig) → Buf (Elt F) ℓ) (r : PUnit × MemSt nD τ sig (Elt F)) (h : QC m r) :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  ⟨fun c => ⟨(h.1 c _ (mem_S₂ main_arg0 rfl (by decide) (by decide))).trans (VC_arg0 m c),
    (h.1 c _ (mem_S₂ main_arg1 rfl (by decide) (by decide))).trans (VC_arg1 m c),
    (h.1 c _ (mem_S₂ main_arg2 rfl (by decide) (by decide))).trans (VC_arg2 m c),
    (h.1 c _ (mem_S₂ main_arg3 rfl (by decide) (by decide))).trans (VC_arg3 m c)⟩, h.2⟩

/-- The frame of the kernel where the words are in range. -/
theorem frame_in_range : Cert.quiescent_Kernel (hKernel := Cert.Kernel.Gen.facts) (hPre_in_range := Cert.Pre_in_range.Gen.facts) := fun m ρ hp =>
  (θ_run _ _ _).mono (fun r h => frame_of_end m r h) (run_main m ρ (words_in_table m fun d i => by
    have := Cert.Pre_in_range.Gen.facts
    exact words_of_in_range _ _ _ _ (hp d) i))

end Cert.Kernel.Run

end
-- ==== Proof.SetupIdeal.lean ====
/-
The program as the launch theorem sees it: its body table, the algebra its proof draws on, the buffers
the SparseCore call reads and writes, and what that call's signals carry.
-/
module

public import proofs.«01_k».proof.Defs
public import proofs.«01_k».proof.Proof.Gen.KernelIdeal
public import proofs.«01_k».proof.Proof.Gen.KernelIdeal.Launch
public import proofs.«01_k».proof.Proof.TileTask
public import proofs.«01_k».proof.Proof.Rows
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.KernelIdeal.Run

open Cert.KernelIdeal Cert.KernelIdeal.Gen Cert.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The two constants the finishing step multiplies by. -/
abbrev nhC : F .f32 := Named.named κ "neg_inv_hist" 0xBBA3D70A#32
abbrev scC : F .f32 := Named.named κ "inv_scale" 0x38D1B717#32

/-- The facts about the launch semaphores and the SparseCores' buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra: the handshakes' rounds, the TensorCore call's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The TensorCore call's copy. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance
abbrev EC : UEmb Counters (MT nD τ sig (HIx 1) (Elt F) ℕ UU ℕ) := countersEmb
instance EC_landsIn : (EC : UEmb Counters 𝕄).LandsIn (upEmb : UEmb _ 𝕄) := by unfold EC; infer_instance

/-! ## The buffers of the SparseCore call -/

/-- The table of scores, the word numbers and the results. -/
abbrev tLoc (d : Dev nD) : Loc nD τ sig := (SparseCore.T d).loc main_v10
abbrev xLoc (d : Dev nD) : Loc nD τ sig := (SparseCore.T d).loc main_v11
abbrev oLoc (d : Dev nD) : Loc nD τ sig := (SparseCore.T d).loc main_v12

theorem hdiv : 32 ∣ S16384.size 0 := ⟨512, rfl⟩
/-- Part `w` of the results: the 512 that one tile writes. -/
abbrev part (w : Fin 32) : Rect S16384 := Rect.part (s := S16384) (a₀ := 0) hdiv w

/-- The number of the tile on subcore `i` of SparseCore `c`. -/
def wid (c : Fin 2) (i : Fin 16) : Fin 32 := ⟨16 * c.val + i.val, by omega⟩

/-- The share of the table and of the word numbers that tile reads under. -/
abbrev qs (w : Fin 32) : PosShare TreeShare := Transfers.shareTok fullShare 32 w

variable (Tb : (d : Dev nD) → Buf (Elt F) (tLoc d)) (X : (d : Dev nD) → Buf (Elt F) (xLoc d))

/-- What the call leaves in the results. -/
abbrev R (d : Dev nD) : Buf (Elt F) (oLoc d) := results (F := F) nhC scC (X d) (Tb d)

/-- What a tile is handed: the table and the word numbers to read, and its part of the results. -/
def goW (d : Dev nD) (w : Fin 32) : sProp 𝕄 :=
  iprop((tLoc d ↦{qs w} Tb d) ∗ (xLoc d ↦{qs w} X d) ∗ ∃ f : Buf (Elt F) (oLoc d), oLoc d ↦[(part w).set]{fullShare} f)
/-- What a tile brings back: its part of the results, done. -/
def tdW (d : Dev nD) (w : Fin 32) : sProp 𝕄 := oLoc d ↦[(part w).set]{fullShare} R Tb X d

instance goW_storable (d : Dev nD) (w : Fin 32) : BI.Storable (upEmb : UEmb _ 𝕄) (goW Tb X d w) := by unfold goW; infer_instance
instance tdW_storable (d : Dev nD) (w : Fin 32) : BI.Storable (upEmb : UEmb _ 𝕄) (tdW Tb X d w) := by unfold tdW; infer_instance

/-- What the call's signals carry. -/
def P : (K (F := F)).Pay (nD := nD) (Val := Elt F) (Name := ℕ) (U := UU) where
  st := fun q d c => match q with | 0 => bigSep Finset.univ fun i : Fin ((K (F := F)).nSub 0) => goW Tb X d (wid (Fin.cast nCore_zero c) (Fin.cast nSub_zero i))
  dn := fun q d c => match q with | 0 => bigSep Finset.univ fun i : Fin ((K (F := F)).nSub 0) => tdW Tb X d (wid (Fin.cast nCore_zero c) (Fin.cast nSub_zero i))
  go := fun q d c i => match q with | 0 => goW Tb X d (wid (Fin.cast nCore_zero c) (Fin.cast nSub_zero i))
  td := fun q d c i => match q with | 0 => tdW Tb X d (wid (Fin.cast nCore_zero c) (Fin.cast nSub_zero i))
  x := fun _ _ => iprop(emp)

instance P_storable : (P (F := F) Tb X).IsStorable where
  st q d c := match q with
    | 0 => (inferInstance : BI.Storable (upEmb : UEmb _ 𝕄) (bigSep Finset.univ fun i : Fin ((K (F := F)).nSub 0) => goW Tb X d (wid (Fin.cast nCore_zero c) (Fin.cast nSub_zero i))))
  dn q d c := match q with
    | 0 => (inferInstance : BI.Storable (upEmb : UEmb _ 𝕄) (bigSep Finset.univ fun i : Fin ((K (F := F)).nSub 0) => tdW Tb X d (wid (Fin.cast nCore_zero c) (Fin.cast nSub_zero i))))
  go q d c i := match q with
    | 0 => (inferInstance : BI.Storable (upEmb : UEmb _ 𝕄) (goW Tb X d (wid (Fin.cast nCore_zero c) (Fin.cast nSub_zero i))))
  td q d c i := match q with
    | 0 => (inferInstance : BI.Storable (upEmb : UEmb _ 𝕄) (tdW Tb X d (wid (Fin.cast nCore_zero c) (Fin.cast nSub_zero i))))

/-- A SparseCore's share of the work is its sixteen tiles'. -/
theorem vecSplit : (K (F := F)).VecSplit' (P Tb X) 0 := by
  intro d c
  show (bigSep Finset.univ fun i : Fin ((K (F := F)).nSub 0) => goW Tb X d (wid (Fin.cast nCore_zero c) (Fin.cast nSub_zero i)))
    ⊢ |={Set.univ}=> iprop((bigSep Finset.univ fun i : Fin ((K (F := F)).nSub 0) => goW Tb X d (wid (Fin.cast nCore_zero c) (Fin.cast nSub_zero i)))
      ∗ ((bigSep Finset.univ fun i : Fin ((K (F := F)).nSub 0) => tdW Tb X d (wid (Fin.cast nCore_zero c) (Fin.cast nSub_zero i)))
        -∗ (bigSep Finset.univ fun i : Fin ((K (F := F)).nSub 0) => tdW Tb X d (wid (Fin.cast nCore_zero c) (Fin.cast nSub_zero i)))))
  iintro H; imodintro
  isplitl [H]; · iexact H
  iintro H; iexact H

/-- The tiles, SparseCore by SparseCore, are all thirty-two. -/
def widEquiv : Fin 2 × Fin 16 ≃ Fin 32 where
  toFun p := wid p.1 p.2
  invFun w := (⟨w.val / 16, by omega⟩, ⟨w.val % 16, by omega⟩)
  left_inv p := by
    obtain ⟨a, b⟩ := p
    refine Prod.ext (Fin.ext ?_) (Fin.ext ?_) <;> show _ = _ <;> simp only [wid] <;> omega
  right_inv w := Fin.ext (by simp only [wid]; omega)

omit [FloatOps F] [Named F] in
theorem bigSep_tiles (Φ : Fin 32 → sProp 𝕄) :
    bigSep Finset.univ Φ = bigSep Finset.univ fun c : Fin 2 => bigSep Finset.univ fun i : Fin 16 => Φ (wid c i) := by
  rw [bigSep_univ_equiv widEquiv, bigSep_univ_prod]; rfl

theorem st0_eq (d : Dev nD) : (bigSep Finset.univ fun c : Fin ((K (F := F)).nCore 0) => (P Tb X).st 0 d c) = bigSep Finset.univ fun w : Fin 32 => goW Tb X d w := by
  rw [bigSep_tiles]; rfl
theorem dn0_eq (d : Dev nD) : (bigSep Finset.univ fun c : Fin ((K (F := F)).nCore 0) => (P Tb X).dn 0 d c) = bigSep Finset.univ fun w : Fin 32 => tdW Tb X d w := by
  rw [bigSep_tiles]; rfl

/-! ## The call's buffers, dealt to the tiles and back -/

theorem parts_disjoint : ∀ i ∈ (Finset.univ : Finset (Fin 32)), ∀ j ∈ (Finset.univ : Finset (Fin 32)), i ≠ j → Disjoint (part i).set (part j).set :=
  fun _ _ _ _ h => Rect.part_disjoint hdiv h
theorem parts_cover : (Finset.univ : Finset (Fin 32)).biUnion (fun w => (part w).set) = Finset.univ := Rect.biUnion_part hdiv

omit [FloatOps F] [Named F] in
theorem oPts_parts (d : Dev nD) (f : Buf (Elt F) (oLoc d)) :
    (oLoc d ↦{fullShare} f : sProp 𝕄) = bigSep Finset.univ fun w : Fin 32 => oLoc d ↦[(part w).set]{fullShare} f := by
  rw [← pointsTo_biUnion Finset.univ (ℓ := oLoc d) (fun w => (part w).set) parts_disjoint, parts_cover]; try rfl

omit [FloatOps F] [Named F] in
theorem oParts_some (d : Dev nD) (f : Buf (Elt F) (oLoc d)) :
    (bigSep Finset.univ fun w : Fin 32 => (oLoc d ↦[(part w).set]{fullShare} f : sProp 𝕄))
      ⊢ bigSep Finset.univ fun w : Fin 32 => iprop(∃ f : Buf (Elt F) (oLoc d), oLoc d ↦[(part w).set]{fullShare} f) :=
  bigSep_mono fun w _ =>
    show (oLoc d ↦[(part w).set]{fullShare} f : sProp 𝕄) ⊢ iprop(∃ f : Buf (Elt F) (oLoc d), oLoc d ↦[(part w).set]{fullShare} f) by
      iintro H; iexists f; iexact H

/-- The three buffers, whole, are what the tiles are handed. -/
theorem deal (d : Dev nD) (f : Buf (Elt F) (oLoc d)) :
    iprop((tLoc d ↦{fullShare} Tb d) ∗ (xLoc d ↦{fullShare} X d) ∗ oLoc d ↦{fullShare} f)
      ⊢ (bigSep Finset.univ fun c : Fin ((K (F := F)).nCore 0) => (P Tb X).st 0 d c : sProp 𝕄) := by
  rw [st0_eq, oPts_parts]
  unfold goW
  rw [bigSep_sep', bigSep_sep']
  iintro ⟨Ht, Hx, Ho⟩
  ihave Ht := (Transfers.pointsTo_toks_split (ℓ := tLoc d) (S := Finset.univ) (f := Tb d) fullShare 32) $$ Ht
  ihave Hx := (Transfers.pointsTo_toks_split (ℓ := xLoc d) (S := Finset.univ) (f := X d) fullShare 32) $$ Hx
  icases Ht with ⟨-, Ht⟩
  icases Hx with ⟨-, Hx⟩
  isplitl [Ht]; · iexact Ht
  isplitl [Hx]; · iexact Hx
  iapply (oParts_some d f)
  iexact Ho

/-- What they bring back is the results, whole. -/
theorem gather (d : Dev nD) : (bigSep Finset.univ fun c : Fin ((K (F := F)).nCore 0) => (P Tb X).dn 0 d c : sProp 𝕄) ⊢ oLoc d ↦{fullShare} R Tb X d := by
  rw [dn0_eq, oPts_parts]
  exact Entails.refl _

end Cert.KernelIdeal.Run

end
-- ==== Proof.BodyIdeal.lean ====
/-
The printed body of the vector-subcore kernel is the task as this proof writes it: the loads, stores,
copies, waits and loops are the same operations in the same order, with the same words.
-/
module

public import proofs.«01_k».proof.Proof.Gen.KernelIdeal.Skeleton
public import proofs.«01_k».proof.Proof.TileProg
@[expose] public section
noncomputable section
namespace Cert.KernelIdeal.Gen
open Idealize.ShloMosaic Idealize.SL.Sem Cert.Pool
variable {F : FTy → Type} [FloatOps F] [Named F]

/-- The eight pieces of a tile's rows. -/
def xsOf (i : grid1.Coords) (arg3 : Memref sig .scVector .hbm S25600x128 .i32) : Nat → Memref sig .scVector .hbm LIdx .i32
  | 0 => arg3.slice (Rect.unit (s := S25600x128) (k1_off1 i) S100x128.size (k1_off1_inb i)) (fun _ => rfl)
  | 1 => arg3.slice (Rect.unit (s := S25600x128) (k1_off2 i 100#32) S100x128.size (k1_off2_inb i 0)) (fun _ => rfl)
  | 2 => arg3.slice (Rect.unit (s := S25600x128) (k1_off2 i 200#32) S100x128.size (k1_off2_inb i 1)) (fun _ => rfl)
  | 3 => arg3.slice (Rect.unit (s := S25600x128) (k1_off2 i 300#32) S100x128.size (k1_off2_inb i 2)) (fun _ => rfl)
  | 4 => arg3.slice (Rect.unit (s := S25600x128) (k1_off2 i 400#32) S100x128.size (k1_off2_inb i 3)) (fun _ => rfl)
  | 5 => arg3.slice (Rect.unit (s := S25600x128) (k1_off2 i 500#32) S100x128.size (k1_off2_inb i 4)) (fun _ => rfl)
  | 6 => arg3.slice (Rect.unit (s := S25600x128) (k1_off2 i 600#32) S100x128.size (k1_off2_inb i 5)) (fun _ => rfl)
  | _ => arg3.slice (Rect.unit (s := S25600x128) (k1_off2 i 700#32) S100x128.size (k1_off2_inb i 6)) (fun _ => rfl)

set_option maxHeartbeats 0 in
set_option maxRecDepth 65536 in
/-- The printed body is `task`, at the buffers the body is handed. -/
theorem body_eq (i : grid1.Coords) (arg2 : Memref sig .scVector .hbm S100000 .f32) (harg2 : arg2.IsWhole) (arg3 : Memref sig .scVector .hbm S25600x128 .i32) (harg3 : arg3.IsWhole) (arg4 : Memref sig .scVector .hbm S16384 .f32) (harg4 : arg4.IsWhole) (arg5 : Memref sig .scVector .vmem S100000 .f32) (harg5 : arg5.IsWhole) (arg6 : Memref sig .scVector .vmem S100x128 .i32) (harg6 : arg6.IsWhole) (arg7 : Memref sig .scVector .vmem S100x128 .i32) (harg7 : arg7.IsWhole) (arg8 : Memref sig .scVector .vmem S512 .f32) (harg8 : arg8.IsWhole) (arg9 arg10 arg11 v2221_r0 : DmaSems sig S_) :
  cc1_k (F := F) i arg2 harg2 arg3 harg3 arg4 harg4 arg5 harg5 arg6 harg6 arg7 harg7 arg8 harg8 arg9 arg10 arg11 v2221_r0 = task arg2 harg2 (xsOf i arg3)
    (arg4.slice (Rect.unit (s := S16384) (k1_off3 i) S512.size (k1_off3_inb i)) (fun _ => rfl))
    arg5 harg5 arg6 harg6 arg7 harg7 arg8 harg8 arg9.sem arg10.sem arg11.sem v2221_r0.sem k1_t1_ok
    (Named.named κ "neg_inv_hist" 0xBBA3D70A#32) (Named.named κ "inv_scale" 0x38D1B717#32) := by
  rw [cc1_k_eq_skeleton]
  simp (maxSteps := 100000000) only [cc1_k_skel, k1_part49_eq_skeleton, k1_part49_skel, k1_part50_eq_skeleton, k1_part50_skel, k1_part51_eq_skeleton, k1_part51_skel, k1_part52_eq_skeleton, k1_part52_skel, k1_part53_eq_skeleton, k1_part53_skel, k1_part54_eq_skeleton, k1_part54_skel, k1_part55_eq_skeleton, k1_part55_skel, k1_part56_eq_skeleton, k1_part56_skel, k1_part57_eq_skeleton, k1_part57_skel, k1_part58_eq_skeleton, k1_part58_skel, k1_part59_eq_skeleton, k1_part59_skel, k1_part60_eq_skeleton, k1_part60_skel, k1_part61_eq_skeleton, k1_part61_skel, k1_part62_eq_skeleton, k1_part62_skel, k1_part63_eq_skeleton, k1_part63_skel, k1_part64_eq_skeleton, k1_part64_skel, k1_part65_eq_skeleton, k1_part65_skel, k1_part66_eq_skeleton, k1_part66_skel, k1_part67_eq_skeleton, k1_part67_skel, k1_part68_eq_skeleton, k1_part68_skel, k1_part69_eq_skeleton, k1_part69_skel, k1_part70_eq_skeleton, k1_part70_skel, k1_part71_eq_skeleton, k1_part71_skel, k1_part72_eq_skeleton, k1_part72_skel, k1_part73_eq_skeleton, k1_part73_skel, k1_part74_eq_skeleton, k1_part74_skel, k1_part75_eq_skeleton, k1_part75_skel, k1_part76_eq_skeleton, k1_part76_skel, k1_part77_eq_skeleton, k1_part77_skel, k1_part78_eq_skeleton, k1_part78_skel, k1_part79_eq_skeleton, k1_part79_skel, k1_part80_eq_skeleton, k1_part80_skel, k1_part81_eq_skeleton, k1_part81_skel, k1_part82_eq_skeleton, k1_part82_skel, k1_part83_eq_skeleton, k1_part83_skel, k1_part84_eq_skeleton, k1_part84_skel, k1_part85_eq_skeleton, k1_part85_skel, k1_part86_eq_skeleton, k1_part86_skel, k1_part87_eq_skeleton, k1_part87_skel, k1_part88_eq_skeleton, k1_part88_skel, k1_part89_eq_skeleton, k1_part89_skel, k1_part90_eq_skeleton, k1_part90_skel, k1_part91_eq_skeleton, k1_part91_skel, k1_part92_eq_skeleton, k1_part92_skel, k1_part93_eq_skeleton, k1_part93_skel, k1_part94_eq_skeleton, k1_part94_skel, k1_part95_eq_skeleton, k1_part95_skel, k1_part96_eq_skeleton, k1_part96_skel, k1_part97_eq_skeleton, k1_part97_skel, k1_part98_eq_skeleton, k1_part98_skel, k1_part99_eq_skeleton, k1_part99_skel, k1_part100_eq_skeleton, k1_part100_skel, k1_part101_eq_skeleton, k1_part101_skel, k1_part102_eq_skeleton, k1_part102_skel, k1_part103_eq_skeleton, k1_part103_skel, k1_part104_eq_skeleton, k1_part104_skel, k1_part105_eq_skeleton, k1_part105_skel, k1_part106_eq_skeleton, k1_part106_skel, k1_part107_eq_skeleton, k1_part107_skel,
    Prog.bind_assoc, Prog.bind_lift, Prog.bind_op, pure_bind]
  delta k1_t1_body k1_t2_body k1_t3_body k1_t4_body k1_t5_body k1_t6_body k1_t7_body k1_t8_body k1_t9_body k1_t10_body k1_t11_body k1_t12_body k1_t13_body k1_t14_body k1_t15_body k1_t16_body
  simp (maxSteps := 100000000) only [k1_part1_eq_skeleton, k1_part1_skel, k1_part2_eq_skeleton, k1_part2_skel, k1_part3_eq_skeleton, k1_part3_skel, k1_part4_eq_skeleton, k1_part4_skel, k1_part5_eq_skeleton, k1_part5_skel, k1_part6_eq_skeleton, k1_part6_skel, k1_part7_eq_skeleton, k1_part7_skel, k1_part8_eq_skeleton, k1_part8_skel, k1_part9_eq_skeleton, k1_part9_skel, k1_part10_eq_skeleton, k1_part10_skel, k1_part11_eq_skeleton, k1_part11_skel, k1_part12_eq_skeleton, k1_part12_skel, k1_part13_eq_skeleton, k1_part13_skel, k1_part14_eq_skeleton, k1_part14_skel, k1_part15_eq_skeleton, k1_part15_skel, k1_part16_eq_skeleton, k1_part16_skel, k1_part17_eq_skeleton, k1_part17_skel, k1_part18_eq_skeleton, k1_part18_skel, k1_part19_eq_skeleton, k1_part19_skel, k1_part20_eq_skeleton, k1_part20_skel, k1_part21_eq_skeleton, k1_part21_skel, k1_part22_eq_skeleton, k1_part22_skel, k1_part23_eq_skeleton, k1_part23_skel, k1_part24_eq_skeleton, k1_part24_skel, k1_part25_eq_skeleton, k1_part25_skel, k1_part26_eq_skeleton, k1_part26_skel, k1_part27_eq_skeleton, k1_part27_skel, k1_part28_eq_skeleton, k1_part28_skel, k1_part29_eq_skeleton, k1_part29_skel, k1_part30_eq_skeleton, k1_part30_skel, k1_part31_eq_skeleton, k1_part31_skel, k1_part32_eq_skeleton, k1_part32_skel, k1_part33_eq_skeleton, k1_part33_skel, k1_part34_eq_skeleton, k1_part34_skel, k1_part35_eq_skeleton, k1_part35_skel, k1_part36_eq_skeleton, k1_part36_skel, k1_part37_eq_skeleton, k1_part37_skel, k1_part38_eq_skeleton, k1_part38_skel, k1_part39_eq_skeleton, k1_part39_skel, k1_part40_eq_skeleton, k1_part40_skel, k1_part41_eq_skeleton, k1_part41_skel, k1_part42_eq_skeleton, k1_part42_skel, k1_part43_eq_skeleton, k1_part43_skel, k1_part44_eq_skeleton, k1_part44_skel, k1_part45_eq_skeleton, k1_part45_skel, k1_part46_eq_skeleton, k1_part46_skel, k1_part47_eq_skeleton, k1_part47_skel, k1_part48_eq_skeleton, k1_part48_skel,
    Prog.bind_assoc, Prog.bind_lift, SparseCore.vectorLoadIdx_bind, Prog.bind_op, pure_bind]
  unfold task pair lastPair rows64 fetch arrive
  delta trip
  simp (maxSteps := 100000000) only [look,
    Prog.bind_assoc, Prog.bind_lift, SparseCore.vectorLoadIdx_bind, Prog.bind_op, pure_bind]
  rfl
-- ==== Proof.TileIdeal.lean ====
/-
One vector subcore's task inside the program: from the table of scores, the word numbers and its part
of the results, it leaves in that part the finished sum of every row it stands for.
-/
module

public import proofs.«01_k».proof.Proof.SetupIdeal
public import proofs.«01_k».proof.Proof.BodyIdeal

@[expose] public section

noncomputable section

namespace Cert.KernelIdeal.Run

open Cert.KernelIdeal Cert.KernelIdeal.Gen Cert.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The number of the tile at grid position `L`. -/
abbrev wL (L : grid1.Coords) : Fin 32 := wid (Fin.cast bound_zero (L 0)) (Fin.cast bound_one (L 1))

/-- The buffers as a tile names them. -/
abbrev tM : Memref sig .scVector .hbm S100000 .f32 := Memref.whole main_v10_scv
abbrev xM : Memref sig .scVector .hbm S25600x128 .i32 := Memref.whole main_v11_scv
abbrev oM : Memref sig .scVector .hbm S16384 .f32 := Memref.whole main_v12_scv
abbrev s0 : Memref sig .scVector .vmem S100000 .f32 := Memref.whole cc1_scratch0
abbrev s1 : Memref sig .scVector .vmem S100x128 .i32 := Memref.whole cc1_scratch1
abbrev s2 : Memref sig .scVector .vmem S100x128 .i32 := Memref.whole cc1_scratch2
abbrev s3 : Memref sig .scVector .vmem S512 .f32 := Memref.whole cc1_scratch3
abbrev oP (L : grid1.Coords) : Memref sig .scVector .hbm L512 .f32 :=
  oM.slice (Rect.unit (s := S16384) (k1_off3 L) S512.size (k1_off3_inb L)) (fun _ => rfl)

/-! ## The pieces -/

theorem lt2 (L : grid1.Coords) : (L 0).val < 2 := (L 0).isLt
theorem lt16 (L : grid1.Coords) : (L 1).val < 16 := (L 1).isLt

/-- A hundred lines from line `o` on, read as a piece. -/
theorem read_lines {n : Nat} {off : Fin 2 → Nat} {inb : ∀ a, off a + S100x128.size a ≤ S25600x128.size a} (h0 : off 0 = 800 * (wL L).val + 100 * n) (h1 : off 1 = 0)
    (f : S25600x128.Idx → BitVec 32) (hn : n < 8) :
    (xM.slice (Rect.unit (s := S25600x128) off S100x128.size inb) (fun _ => rfl)).view.read (Elt F) f = pieceOf f (wL L).val n := by
  funext j
  have hj0 : (j 0).val < 100 := (j 0).isLt
  have hj1 : (j 1).val < 128 := (j 1).isLt
  have hw : (wL L).val < 32 := (wL L).isLt
  show f _ = f _
  refine congrArg f (funext fun a => Fin.ext ?_)
  match a with
  | ⟨0, _⟩ =>
    show off 0 + 1 * (j 0).val = (800 * (wL L).val + 100 * n + (j 0).val) % 25600
    rw [h0]; omega
  | ⟨1, _⟩ =>
    show off 1 + 1 * (j 1).val = (j 1).val % 128
    rw [h1]; omega

/-- Where the eight pieces start. -/
theorem off1_at : k1_off1 L 0 = 800 * (wL L).val + 100 * 0 ∧ k1_off1 L 1 = 0 := by
  rw [k1_off1_eq L]
  refine ⟨?_, rfl⟩
  show 12800 * (L 0).val + 800 * (L 1).val = 800 * (16 * (L 0).val + (L 1).val) + 100 * 0
  omega
theorem off2_at (r : Fin 7) : k1_off2 L (BitVec.ofNat 32 (100 + 100 * r.val)) 0 = 800 * (wL L).val + 100 * (r.val + 1)
    ∧ k1_off2 L (BitVec.ofNat 32 (100 + 100 * r.val)) 1 = 0 := by
  rw [k1_off2_eq L r]
  refine ⟨?_, rfl⟩
  show 12800 * (L 0).val + 800 * (L 1).val + 100 * r.val + 100 = 800 * (16 * (L 0).val + (L 1).val) + 100 * (r.val + 1)
  omega

theorem outRect_eq : Rect.unit (s := S16384) (k1_off3 L) S512.size (k1_off3_inb L) = part (wL L) := by
  unfold part Rect.part Rect.block
  congr 1 <;> funext a
  · rw [k1_off3_eq]
    match a with
    | 0 =>
      show 8192 * (L 0).val + 512 * (L 1).val = _
      simp [Shape.partIx, Shape.partSize]
      show 8192 * (L 0).val + 512 * (L 1).val = (16 * (L 0).val + (L 1).val) * 512
      omega
  · match a with
    | 0 => simp [Shape.partSize]

theorem set_oP : (oP L).view.set = (part (wL L)).set := by
  show ((View.whole main_v12_scv).slice (Rect.unit (s := S16384) (k1_off3 L) S512.size (k1_off3_inb L))).set = _
  rw [View.set_slice_whole, outRect_eq]

/-- Position `y` of a tile's part, in the whole array. -/
theorem emb_oP (y : L512.Idx) : (((oP L).view.emb y) 0).val = 512 * (wL L).val + (y 0).val := by
  show (k1_off3 L) 0 + 1 * (y 0).val = _
  rw [k1_off3_eq]
  show 8192 * (L 0).val + 512 * (L 1).val + 1 * (y 0).val = 512 * (16 * (L 0).val + (L 1).val) + (y 0).val
  omega

variable (Tb : (d : Dev nD) → Buf (Elt F) (tLoc d)) (X : (d : Dev nD) → Buf (Elt F) (xLoc d))

/-- Holding a memref of subcore `(L 0, L 1)` of device `d` at contents `Y`. -/
abbrev HoldV (d : Dev nD) (L : grid1.Coords) {sp : Space} {s : Shape} {e : EltTy} (m : Memref sig .scVector sp s e) (q : PosShare TreeShare) (Y : s.Idx → Elt F e) : sProp 𝕄 :=
  Holds (F := F) (d := d) (pa := cV L) (pb := jV L) (Ix := HIx 1) (Name := ℕ) (U := UU) (Lvl := ℕ) m q Y

/-- The share one piece is read under. -/
abbrev qp (w : Fin 32) (n : Nat) : PosShare TreeShare := Transfers.shareTokN (qs w) n

/-- The word numbers at a tile's share serve its eight pieces, each at a share of its own. -/
theorem pieces (w : Fin 32) : (xLoc d ↦{qs w} X d : sProp 𝕄)
    ⊢ iprop((xLoc d ↦{qp w 0} X d) ∗ (xLoc d ↦{qp w 1} X d) ∗ (xLoc d ↦{qp w 2} X d) ∗ (xLoc d ↦{qp w 3} X d)
      ∗ (xLoc d ↦{qp w 4} X d) ∗ (xLoc d ↦{qp w 5} X d) ∗ (xLoc d ↦{qp w 6} X d) ∗ (xLoc d ↦{qp w 7} X d)) := by
  refine (Transfers.pointsTo_toks_split (ℓ := xLoc d) (S := Finset.univ) (f := X d) (qs w) 8).trans ?_
  rw [bigSep_univ_eq_bigSepL [0, 1, 2, 3, 4, 5, 6, 7] (by decide) (by decide)]
  exact sep_elim_right

theorem hold_slice {off : Fin 2 → Nat} {inb : ∀ a, off a + S100x128.size a ≤ S25600x128.size a} {q : PosShare TreeShare} {Y : LIdx.Idx → BitVec 32}
    (h : (xM.slice (Rect.unit (s := S25600x128) off S100x128.size inb) (fun _ => rfl)).view.read (Elt F) (X d) = Y) :
    (xLoc d ↦{q} X d : sProp 𝕄) ⊢ HoldV (F := F) d L (xM.slice (Rect.unit (s := S25600x128) off S100x128.size inb) (fun _ => rfl)) q Y := by
  unfold HoldV Holds
  refine (pointsTo_split_subset (Finset.subset_univ (xM.slice (Rect.unit (s := S25600x128) off S100x128.size inb) (fun _ => rfl)).view.set)).1.trans ?_
  iintro ⟨H, -⟩
  iexists X d
  isplitr; · ipureintro; exact h
  iexact H

theorem hold_piece : ∀ n, n < 8 → ((xLoc d ↦{qp (wL L) n} X d : sProp 𝕄)
    ⊢ HoldV (F := F) d L (xsOf L xM n) (qp (wL L) n) (pieceOf (X d) (wL L).val n)) := by
  intro n hn
  match n, hn with
  | 0, h => exact hold_slice (F := F) d L X (read_lines (F := F) L (inb := k1_off1_inb L) (off1_at L).1 (off1_at L).2 (X d) h)
  | 1, h => exact hold_slice (F := F) d L X (read_lines (F := F) L (inb := k1_off2_inb L 0) (off2_at L 0).1 (off2_at L 0).2 (X d) h)
  | 2, h => exact hold_slice (F := F) d L X (read_lines (F := F) L (inb := k1_off2_inb L 1) (off2_at L 1).1 (off2_at L 1).2 (X d) h)
  | 3, h => exact hold_slice (F := F) d L X (read_lines (F := F) L (inb := k1_off2_inb L 2) (off2_at L 2).1 (off2_at L 2).2 (X d) h)
  | 4, h => exact hold_slice (F := F) d L X (read_lines (F := F) L (inb := k1_off2_inb L 3) (off2_at L 3).1 (off2_at L 3).2 (X d) h)
  | 5, h => exact hold_slice (F := F) d L X (read_lines (F := F) L (inb := k1_off2_inb L 4) (off2_at L 4).1 (off2_at L 4).2 (X d) h)
  | 6, h => exact hold_slice (F := F) d L X (read_lines (F := F) L (inb := k1_off2_inb L 5) (off2_at L 5).1 (off2_at L 5).2 (X d) h)
  | 7, h => exact hold_slice (F := F) d L X (read_lines (F := F) L (inb := k1_off2_inb L 6) (off2_at L 6).1 (off2_at L 6).2 (X d) h)

/-- A buffer held whole is its memref held, at its contents. -/
theorem hold_whole {sp : Space} {s : Shape} {e : EltTy} {m : Memref sig .scVector sp s e} (q : PosShare TreeShare)
    (f : Buf (Elt F) (m.view.loc (V d (cV L) (jV L) : Thread nD τ))) (hm : m.view.set = Finset.univ) :
    (m.view.loc (V d (cV L) (jV L) : Thread nD τ) ↦{q} f : sProp 𝕄) ⊢ HoldV (F := F) d L m q (m.view.read (Elt F) f) := by
  unfold HoldV Holds
  rw [hm]
  iintro H
  iexists f
  isplitr; · ipureintro; rfl
  iexact H

/-- and back, at some contents. -/
theorem whole_hold {sp : Space} {s : Shape} {e : EltTy} {m : Memref sig .scVector sp s e} {q : PosShare TreeShare} {Y : s.Idx → Elt F e} (hm : m.view.set = Finset.univ) :
    (HoldV (F := F) d L m q Y : sProp 𝕄) ⊢ iprop(∃ f : Buf (Elt F) (m.view.loc (V d (cV L) (jV L) : Thread nD τ)), m.view.loc (V d (cV L) (jV L) : Thread nD τ) ↦{q} f) := by
  unfold HoldV Holds
  rw [hm]
  iintro ⟨%f, -, H⟩
  iexists f; iexact H

/-- A tile's part of the results, held by the memref it writes through. -/
theorem hold_out (f : Buf (Elt F) (oLoc d)) : (oLoc d ↦[(part (wL L)).set]{fullShare} f : sProp 𝕄)
    ⊢ HoldV (F := F) d L (oP L) fullShare ((oP L).view.read (Elt F) f) := by
  unfold HoldV Holds
  rw [set_oP]
  iintro H
  iexists f
  isplitr; · ipureintro; rfl
  iexact H

/-- The part, once its 512 results are there, is that part of all the results. -/
theorem out_hold : (HoldV (F := F) d L (oP L) fullShare (fun y => finish1 nhC scC (tileSum (pieceOf (X d) (wL L).val) (Tb d) (y 0).val)) : sProp 𝕄)
    ⊢ tdW Tb X d (wL L) := by
  unfold HoldV Holds tdW
  iintro ⟨%f, %hf, H⟩
  rw [← set_oP]
  have e : ∀ i ∈ (oP L).view.set, f i = R Tb X d i := by
    intro i hi
    obtain ⟨y, -, rfl⟩ := Finset.mem_map.mp hi
    have h1 := congrFun hf y
    have h2 : (y 0).val < 512 := (y 0).isLt
    rw [tileSum_piece (X d) (Tb d) h2, ← emb_oP L y] at h1
    exact h1
  iapply (Entails.of_eq (pointsTo_congr (ℓ := oLoc d) (q := fullShare) e))
  iexact H

/-! ## The subcore's own semaphores and buffers -/

abbrev tCell (d : Dev nD) (c : Fin τ.nSC) (i : Fin τ.nSub) : GSem nD τ sig := (V d c i, .dma cc1_scratch4.sem)
abbrev aCell (d : Dev nD) (c : Fin τ.nSC) (i : Fin τ.nSub) : GSem nD τ sig := (V d c i, .dma cc1_scratch5.sem)
abbrev bCell (d : Dev nD) (c : Fin τ.nSC) (i : Fin τ.nSub) : GSem nD τ sig := (V d c i, .dma cc1_scratch6.sem)
abbrev oCell (d : Dev nD) (c : Fin τ.nSC) (i : Fin τ.nSub) : GSem nD τ sig := (V d c i, .dma cc1_scoped0.sem)

theorem ownSems0_V :
    (ownSems0 (V d (cV L) (jV L)) : sProp 𝕄)
      = iprop(semVal (tCell d (cV L) (jV L)) 0 ∗ semVal (aCell d (cV L) (jV L)) 0 ∗ semVal (bCell d (cV L) (jV L)) 0 ∗ semVal (oCell d (cV L) (jV L)) 0
          ∗ bigSep (((((ownCells (V d (cV L) (jV L))).erase (tCell d (cV L) (jV L))).erase (aCell d (cV L) (jV L))).erase (bCell d (cV L) (jV L))).erase
              (oCell d (cV L) (jV L))) fun g => semVal g 0) := by
  unfold SparseCore.Cfg.ownSems0
  rw [SparseCore.bigSep_erase' ((mem_ownCells (g := tCell d (cV L) (jV L))).mpr ⟨rfl, by
      show (SemLoc.dma cc1_scratch4.sem : SemLoc sig).isScoped .scVector = true; decide⟩),
    SparseCore.bigSep_erase' (Finset.mem_erase.mpr ⟨by simp [tCell, aCell]; decide, (mem_ownCells (g := aCell d (cV L) (jV L))).mpr ⟨rfl, by
      show (SemLoc.dma cc1_scratch5.sem : SemLoc sig).isScoped .scVector = true; decide⟩⟩),
    SparseCore.bigSep_erase' (Finset.mem_erase.mpr ⟨by simp [aCell, bCell]; decide, Finset.mem_erase.mpr ⟨by simp [tCell, bCell]; decide,
      (mem_ownCells (g := bCell d (cV L) (jV L))).mpr ⟨rfl, by show (SemLoc.dma cc1_scratch6.sem : SemLoc sig).isScoped .scVector = true; decide⟩⟩⟩),
    SparseCore.bigSep_erase' (Finset.mem_erase.mpr ⟨by simp [bCell, oCell]; decide, Finset.mem_erase.mpr ⟨by simp [aCell, oCell]; decide,
      Finset.mem_erase.mpr ⟨by simp [tCell, oCell]; decide, (mem_ownCells (g := oCell d (cV L) (jV L))).mpr ⟨rfl, by
        show (SemLoc.dma cc1_scoped0.sem : SemLoc sig).isScoped .scVector = true; decide⟩⟩⟩⟩)]

/-- The subcore's own buffers are the four scratches, each at some contents, together with the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  have ne : ∀ a b : Ref sig .scVector, a ≠ b → (Proc.scVector (cV L) (jV L)).devRef a ≠ (Proc.scVector (cV L) (jV L)).devRef b :=
    fun a b h e => h (Proc.devRef_injective _ e)
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨ne cc1_scratch1 cc1_scratch0 (by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨ne cc1_scratch2 cc1_scratch1 (by decide), Finset.mem_erase.mpr ⟨ne cc1_scratch2 cc1_scratch0 (by decide),
      SparseCore.Cfg.mem_ownRefs_of_owner (p := Proc.scVector (cV L) (jV L)) (b := (Proc.scVector (cV L) (jV L)).devRef cc1_scratch2) rfl⟩⟩),
    SparseCore.bigSep_erase' (Finset.mem_erase.mpr ⟨ne cc1_scratch3 cc1_scratch2 (by decide), Finset.mem_erase.mpr ⟨ne cc1_scratch3 cc1_scratch1 (by decide),
      Finset.mem_erase.mpr ⟨ne cc1_scratch3 cc1_scratch0 (by decide),
      SparseCore.Cfg.mem_ownRefs_of_owner (p := Proc.scVector (cV L) (jV L)) (b := (Proc.scVector (cV L) (jV L)).devRef cc1_scratch3) rfl⟩⟩⟩)]

/-- The task on vector subcore `(L 0, L 1)` of device `d`. -/
theorem tile_body (hF : (K (F := F)).Facts) (hX : ∀ j, (X d j).toNat < 100000) (O : CellTallies nD τ sig (HIx 1)) (W : Waits sig (HIx 1)) (hO : ∀ g, O g none = 0) :
    iprop(levAts (K (F := F)).L (K (F := F)).lev ∗ emp ∗ goW Tb X d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L tM (Memref.isWhole_whole _) xM (Memref.isWhole_whole _) oM (Memref.isWhole_whole _) s0 (Memref.isWhole_whole _)
            s1 (Memref.isWhole_whole _) s2 (Memref.isWhole_whole _) s3 (Memref.isWhole_whole _) cc1_scratch4 cc1_scratch5 cc1_scratch6 cc1_scoped0)
          fun _ => iprop(tdW Tb X d (wL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V, body_eq]
  unfold goW
  iintro ⟨#Hlv, -, ⟨Ht, Hx, ⟨%fo, Ho⟩⟩, ⟨⟨%f0, H0⟩, ⟨%f1, H1⟩, ⟨%f2, H2⟩, ⟨%f3, H3⟩, Hbufs⟩, ⟨Hst, Hsa, Hsb, Hso, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  ihave Hx := (pieces (F := F) d X (wL L)) $$ Hx
  icases Hx with ⟨X0, X1, X2, X3, X4, X5, X6, X7⟩
  ihave X0 := (hold_piece (F := F) d L X 0 (by decide)) $$ X0
  ihave X1 := (hold_piece (F := F) d L X 1 (by decide)) $$ X1
  ihave X2 := (hold_piece (F := F) d L X 2 (by decide)) $$ X2
  ihave X3 := (hold_piece (F := F) d L X 3 (by decide)) $$ X3
  ihave X4 := (hold_piece (F := F) d L X 4 (by decide)) $$ X4
  ihave X5 := (hold_piece (F := F) d L X 5 (by decide)) $$ X5
  ihave X6 := (hold_piece (F := F) d L X 6 (by decide)) $$ X6
  ihave X7 := (hold_piece (F := F) d L X 7 (by decide)) $$ X7
  ihave Ht := (hold_whole (F := F) d L (m := tM) (qs (wL L)) (Tb d) (View.set_whole _)) $$ Ht
  ihave H0 := (hold_whole (F := F) d L (m := s0) fullShare f0 (View.set_whole _)) $$ H0
  ihave H1 := (hold_whole (F := F) d L (m := s1) fullShare f1 (View.set_whole _)) $$ H1
  ihave H2 := (hold_whole (F := F) d L (m := s2) fullShare f2 (View.set_whole _)) $$ H2
  ihave H3 := (hold_whole (F := F) d L (m := s3) fullShare f3 (View.set_whole _)) $$ H3
  ihave Ho := (hold_out (F := F) d L fo) $$ Ho
  iapply (wp_task (F := F) (EC (F := F)) 𝒱₀ none (none : HIx 1) (xsOf L xM) (qp (wL L)) (pieceOf (X d) (wL L).val) (Tb d) O W s0 s3 s1 s2
      cc1_scratch5.sem cc1_scratch6.sem (fun c j => pieceOf_lt hX _ c j) k1_t1_ok (nhC (F := F)) (scC (F := F)) (tin := tM) (out := oP L) (qt := qs (wL L))) $$ [Ht X0 X1 X2 X3 X4 X5 X6 X7 Ho H0 H1 H2 H3 Hst Hsa Hsb Hso HO]
  · isplitl [Ht X0 X1 X2 X3 X4 X5 X6 X7 Ho]
    · isplitl [Ht]; · iexact Ht
      isplitr [Ho]
      · isplitl [X0]; · iexact X0
        isplitl [X1]; · iexact X1
        isplitl [X2]; · iexact X2
        isplitl [X3]; · iexact X3
        isplitl [X4]; · iexact X4
        isplitl [X5]; · iexact X5
        isplitl [X6]; · iexact X6
        iexact X7
      iexact Ho
    isplitl [H0 H1 H2 H3]
    · isplitl [H0]; · iexact H0
      isplitl [H1]; · iexact H1
      isplitl [H2]; · iexact H2
      iexact H3
    isplitl [Hst Hsa Hsb Hso]
    · isplitl [Hst]; · iexact Hst
      isplitl [Hsa]; · iexact Hsa
      isplitl [Hsb]; · iexact Hsb
      iexact Hso
    isplitl [HO]
    · unfold Owing
      iexists W
      isplitr; · ipureintro; exact fun p hp => Or.inl hp
      iexact HO
    iexact Hmw
  unfold Owing
  iintro ⟨Ho, ⟨H0, H1, H2, H3⟩, ⟨Hst, Hsa, Hsb, Hso⟩, ⟨%W', %hW, HO⟩⟩
  isplitl [Ho]; · iapply (out_hold (F := F) d L Tb X); iexact Ho
  isplitl [H0 H1 H2 H3 Hbufs]
  · isplitl [H0]; · iapply (whole_hold (F := F) d L (m := s0) (View.set_whole _)) $$ H0
    isplitl [H1]; · iapply (whole_hold (F := F) d L (m := s1) (View.set_whole _)) $$ H1
    isplitl [H2]; · iapply (whole_hold (F := F) d L (m := s2) (View.set_whole _)) $$ H2
    isplitl [H3]; · iapply (whole_hold (F := F) d L (m := s3) (View.set_whole _)) $$ H3
    iexact Hbufs
  isplitl [Hst Hsa Hsb Hso Hsems]
  · isplitl [Hst]; · iexact Hst
    isplitl [Hsa]; · iexact Hsa
    isplitl [Hsb]; · iexact Hsb
    isplitl [Hso]; · iexact Hso
    iexact Hsems
  iexists W'
  isplitr
  · ipureintro
    intro p hp
    rcases hW p hp with h | h
    · exact Or.inl h
    · exact Or.inr (Or.inl h)
  iexact HO

/-! ## The obligation -/

/-- The grid position of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          tM (Memref.isWhole_whole _) xM (Memref.isWhole_whole _) oM (Memref.isWhole_whole _) s0 (Memref.isWhole_whole _)
            s1 (Memref.isWhole_whole _) s2 (Memref.isWhole_whole _) s3 (Memref.isWhole_whole _) cc1_scratch4 cc1_scratch5 cc1_scratch6 cc1_scoped0) ⟨⟩ c s := rfl

theorem tileObl (hF : (K (F := F)).Facts) (hX : ∀ d j, (X d j).toNat < 100000) : (K (F := F)).TileObl (D (F := F)) 𝒱 (P Tb X) v₀ 0 := by
  intro d c i O W hO _ _
  simp only [show (P (F := F) Tb X).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) Tb X hF (hX d) O W hO

end Tile

end Cert.KernelIdeal.Run

end
-- ==== Proof.RegionIdeal.lean ====
/-
The TensorCore's kernel: its body run once, over the whole arrays, and the program's step through it. It
multiplies the table by the spread-out weights and adds the bias; the rest of the buffers pass by.
-/
module

public import proofs.«01_k».proof.Proof.SetupIdeal
public import proofs.«01_k».proof.Proof.Gen.KernelIdeal.Skeleton
public import Idealize.ShloMosaic.Lib.Pipeline.RegionsLoop
public import Idealize.ShloMosaic.Lib.VecWindow
public import proofs.«01_k».proof.Proof.Gen.KernelIdeal.Points

@[expose] public section

noncomputable section

namespace Cert.KernelIdeal.Run

open Cert.KernelIdeal Cert.KernelIdeal.Gen Cert.Pool

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The body -/

/-- What the body leaves in the result's staging buffer, with the proof that it does and leaves the operands' as they were. -/
noncomputable def bodyRun (c : Dev nD) (M0 : Memref sig .tc .vmem S12500x128 .f32) (h0 : M0.IsWhole) (M1 : Memref sig .tc .vmem S128x8 .f32) (h1 : M1.IsWhole)
    (M2 : Memref sig .tc .smem S1x1 .f32) (h2 : M2.IsWhole) (M3 : Memref sig .tc .vmem S12500x8 .f32) (h3 : M3.IsWhole)
    (f0 : Bf (F := F) c M0) (f1 : Bf (F := F) c M1) (f2 : Bf (F := F) c M2) :
    { W : Bf (F := F) c M3 // ∀ (f3 : Bf (F := F) c M3) (E : Set ℕ) (Q : PUnit → sProp 𝕄),
        iprop(pt c M0 f0 ∗ pt c M1 f1 ∗ pt c M2 f2 ∗ pt c M3 f3 ∗ (iprop(pt c M0 f0 ∗ pt c M1 f1 ∗ pt c M2 f2 ∗ pt c M3 W) -∗ Q ⟨⟩))
          ⊢ wp frame (wpE (defs₀ (F := F)) Variants.none c none) E (cc0_body M0 h0 M1 h1 M2 h2 M3 h3) Q } := by
  refine ⟨?_, fun f3 E Q => ?run⟩
  case run =>
    rw [cc0_body_eq_skeleton]
    unfold cc0_body_skel
    iintro ⟨H0, H1, H2, H3, Hk⟩
    sl_exec!
    sl_step
    iapply Hk
    isplitl [H0]; · iexact H0
    isplitl [H1]; · iexact H1
    isplitl [H2]; · iexact H2
    iexact H3

/-- The one element of the bias's array. -/
abbrev ix00 : S1x1.Idx := fun | ⟨0, _⟩ => ⟨0, Nat.one_pos⟩ | ⟨1, _⟩ => ⟨0, Nat.one_pos⟩

/-- One store over a whole buffer leaves the payload. -/
theorem writes_whole_full {Val : EltTy → Type} (b : Ref sig .tc) (f : b.ty.Contents Val) {off : Fin b.ty.shape.rank → ℕ}
    (inb : ∀ a, off a + b.ty.shape.size a ≤ b.ty.shape.size a) (w : b.ty.Contents Val) :
    (View.whole b).writes Val f [⟨Rect.unit off b.ty.shape.size inb, w⟩] = w :=
  View.read_writes_full (View.whole b) f inb w []

/-- At the staging buffers, what the body leaves is the product of its operands with the bias added. -/
theorem bodyRun_val (c : Dev nD)
    (f0 : Bf (F := F) c (stage0_0 0)) (f1 : Bf (F := F) c (stage0_1 0)) (f2 : Bf (F := F) c (stage0_2 0)) :
    (bodyRun (F := F) c (stage0_0 0) (hstage0_0 0) (stage0_1 0) (hstage0_1 0) (stage0_2 0) (hstage0_2 0) (stage0_3 0) (hstage0_3 0) f0 f1 f2).1
      = k0_pay1 (F := F) f0 f1 (f2 ix00) := by
  unfold bodyRun
  dsimp only
  unfold bodyRun.sl.H3_1
  have e0 := View.readAt_full (Val := Elt F) (stage0_0 0).view f0 (off := ![0, 0]) inb_S12500x128_S12500x128_0_0
  have e1 := View.readAt_full (Val := Elt F) (stage0_1 0).view f1 (off := ![0, 0]) inb_S128x8_S128x8_0_0
  rw [e0, e1]
  refine (writes_whole_full cc0_stg3_0 _ inb_S12500x8_S12500x8_0_0 _).trans ?_
  have e2 : bodyRun.sl.r c (stage0_2 0) f2 = f2 ix00 := by
    unfold bodyRun.sl.r
    exact congrArg f2 (funext fun a => by fin_cases a <;> rfl)
  rw [e2]
  rfl

/-! ## The proof data, at an entry valuation -/

variable (V : (c : Dev nD) → (b : Ref sig .tc) → Buf (Elt F) ((c : Thread nD τ).loc b))

/-- The result of the call, from the valuation it is entered at. -/
def product (c : Dev nD) : Buf (Elt F) ((c : Thread nD τ).loc main_v9) :=
  k0_pay1 (F := F) (V c main_v7) (V c main_v6) (V c main_v8 ix00)

/-- The operands' blocks as the fetches stage them. -/
abbrev stg0 (c : Dev nD) : (cfg0.win 0).block.Idx → Elt F (cfg0.win 0).elt := ((cfg0.win 0).blk t0_0).view.read (Elt F) (V c main_v7)
abbrev stg1 (c : Dev nD) : (cfg0.win 1).block.Idx → Elt F (cfg0.win 1).elt := ((cfg0.win 1).blk t0_0).view.read (Elt F) (V c main_v6)
abbrev stg2 (c : Dev nD) : (cfg0.win 2).block.Idx → Elt F (cfg0.win 2).elt := ((cfg0.win 2).blk t0_0).view.read (Elt F) (V c main_v8)

/-- Each window is its whole array. -/
theorem read_arr0 (c : Dev nD) (f : Buf (Elt F) ((c : Thread nD τ).loc main_v7)) : (win0_0.blk t0_0).view.read (Elt F) f = f :=
  Memref.read_access_unit_zero (Elt F) main_v7
    (show (fun a => (win0_0.index t0_0) a * main_v7.ty.shape.size a) = fun _ => 0 from funext fun a => by fin_cases a <;> decide)
    (fun a => by fin_cases a <;> decide) f
theorem read_arr1 (c : Dev nD) (f : Buf (Elt F) ((c : Thread nD τ).loc main_v6)) : (win0_1.blk t0_0).view.read (Elt F) f = f :=
  Memref.read_access_unit_zero (Elt F) main_v6
    (show (fun a => (win0_1.index t0_0) a * main_v6.ty.shape.size a) = fun _ => 0 from funext fun a => by fin_cases a <;> decide)
    (fun a => by fin_cases a <;> decide) f
theorem read_arr2 (c : Dev nD) (f : Buf (Elt F) ((c : Thread nD τ).loc main_v8)) : (win0_2.blk t0_0).view.read (Elt F) f = f :=
  Memref.read_access_unit_zero (Elt F) main_v8
    (show (fun a => (win0_2.index t0_0) a * main_v8.ty.shape.size a) = fun _ => 0 from funext fun a => by fin_cases a <;> decide)
    (fun a => by fin_cases a <;> decide) f
theorem read_arr3 (c : Dev nD) (f : Buf (Elt F) ((c : Thread nD τ).loc main_v9)) : (win0_3.blk t0_0).view.read (Elt F) f = f :=
  Memref.read_access_unit_zero (Elt F) main_v9
    (show (fun a => (win0_3.index t0_0) a * main_v9.ty.shape.size a) = fun _ => 0 from funext fun a => by fin_cases a <;> decide)
    (fun a => by fin_cases a <;> decide) f

/-- The run at the staged blocks. -/
abbrev bodyAt (c : Dev nD) := bodyRun (F := F) c (stage0_0 0) (hstage0_0 0) (stage0_1 0) (hstage0_1 0) (stage0_2 0) (hstage0_2 0) (stage0_3 0) (hstage0_3 0)
  (stg0 V c) (stg1 V c) (stg2 V c)

/-- What the body leaves is the product. -/
theorem bodyAt_val (c : Dev nD) : (bodyAt V c).1 = product V c := by
  rw [bodyRun_val, show stg0 V c = V c main_v7 from read_arr0 c _, show stg1 V c = V c main_v6 from read_arr1 c _,
    show stg2 V c = V c main_v8 from read_arr2 c _]
  rfl

/-- The invariant between the call's ends: the scoped buffers it does not stage. -/
abbrev Φc (c : Dev nD) : sProp 𝕄 := Pipeline.scopedRest (Ix := HIx 1) (Name := ℕ) (U := UU) (Lvl := ℕ) (Val := Elt F) spec0 c

-- The bound the waits recorded so far keep to.
variable (b0 : ℕ)

/-- The proof data of the call, from the valuation: the arrays, what the body leaves in each staging buffer, the signals
the core still owes, and the bound on its recorded waits. -/
def dat (c : Dev nD) : Dat τ (Elt F) (HIx 1) ℕ UU ℕ cfg0 c where
  A w := V c (Pipeline.arrRef spec0 w)
  after w _ := match w with
    | ⟨0, _⟩ => stg0 V c
    | ⟨1, _⟩ => stg1 V c
    | ⟨2, _⟩ => stg2 V c
    | ⟨3, _⟩ => (bodyAt V c).1
  Φ _ := Φc c
  q _ := fullShare
  owed _ := (K (F := F)).Otc c 0
  recorded _ := {p | (K (F := F)).lev ((c : Thread nD τ), p.1) p.2 ≤ b0}

variable (adm : (p : Fin 1) → (pcfgs (F := F) p).Adm)

/-- The proof data of the program's one such call. -/
def pdats : (p : Fin 1) → (c : Dev nD) → Dat τ (Elt F) (HIx 1) ℕ UU ℕ (Pipeline.pin (pcfgs (F := F)) adm p) c
  | ⟨0, _⟩ => fun c => dat V b0 c

/-- The operands' staging buffers hold their blocks when the body runs. -/
theorem before_0 (c : Dev nD) (d : (cfg0.win 0).block.Idx → Elt F (cfg0.win 0).elt) : (dat V b0 c).before 0 t0_0 d = stg0 V c := by
  unfold Dat.before; rw [if_pos (fetch0_0 t0_0)]; rfl
theorem before_1 (c : Dev nD) (d : (cfg0.win 1).block.Idx → Elt F (cfg0.win 1).elt) : (dat V b0 c).before 1 t0_0 d = stg1 V c := by
  unfold Dat.before; rw [if_pos (fetch0_1 t0_0)]; rfl
theorem before_2 (c : Dev nD) (d : (cfg0.win 2).block.Idx → Elt F (cfg0.win 2).elt) : (dat V b0 c).before 2 t0_0 d = stg2 V c := by
  unfold Dat.before; rw [if_pos (fetch0_2 t0_0)]; rfl

/-- The result's block is uncut. -/
theorem cut_whole (g : S12500x8.Idx → F .f32) : (cfg0.win 3).cut (cfg0.grid.coords t0_0) g = g := by
  unfold Pipeline.Window.cut
  funext y
  refine congrArg g ?_
  funext a
  apply Fin.ext
  rfl

/-- What the result's staging buffer holds after the body. -/
theorem after_3 (c : Dev nD) : (dat V b0 c).after 3 t0_0 = (bodyAt V c).1 := by
  dsimp only [dat]

/-- The result's array ends at the product. -/
theorem arr_product (c : Dev nD) : (dat V b0 c).arrAt 3 cfg0.N = product V c := by
  have hw : ((cfg0.win 3).blk t0_0).view.read (Elt F) ((dat V b0 c).arrAt 3 cfg0.N) = (dat V b0 c).flushed 3 t0_0 := by
    rw [show cfg0.N = t0_0.val + 1 from N_0, (dat V b0 c).arrAt_succ (3 : Fin 4) t0_0, flush0_3, if_pos rfl]
    exact View.read_write_univ _ _
  have hf : (dat V b0 c).flushed 3 t0_0 = (bodyAt V c).1 := by
    unfold Dat.flushed
    rw [after_3]
    exact cut_whole _
  rw [hf, bodyAt_val] at hw
  exact (read_arr3 c _).symm.trans hw

/-- The body's obligation. -/
theorem body_obligation (c : Dev nD) : BodyObligation (dat V b0 c) (defs₀ (F := F)) 𝒱₀ none Set.univ := fun t => by
  obtain rfl := fin_N0 t
  rw [bigSep_W0, bigSep_W0]
  simp only [owns_whole_eq]
  rw [show (dat V b0 c).Φ t0_0.castSucc = Φc c from rfl, show (dat V b0 c).Φ t0_0.succ = Φc c from rfl,
    show (dat V b0 c).owesAt none t0_0.succ = (dat V b0 c).owesAt none t0_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before_0] at hf0
  rw [before_1] at hf1
  rw [before_2] at hf2
  subst hf0 hf1 hf2
  iapply ((bodyAt V c).2 f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat]

/-! ## The call over the thread's state -/

/-- What the thread holds of the waits it recorded and the signals it owes. -/
abbrev Owed (c : Dev nD) : sProp 𝕄 :=
  iprop(∃ W, ⌜(K (F := F)).WBelow (T c) W b0⌝ ∗ owes (T c) ((K (F := F)).Otc c 0) W)

variable (Vp : (c : Dev nD) → (b : Ref sig .tc) → Buf (Elt F) ((c : Thread nD τ).loc b))

set_option backward.isDefEq.respectTransparency.types false in
/-- The call, entered with the unscoped buffers at one valuation and left with them at it but for the result's, which
holds the product. -/
def reg (hb : ∀ (c : Dev nD) (g : GSem nD τ sig) (i : HIx 1), 0 < (K (F := F)).Otc c 0 g i → b0 < (K (F := F)).lev g i)
    (hVp_out : ∀ c, Vp c main_v9 = product V c) (hVp_ne : ∀ c (b : Ref sig .tc), b ≠ main_v9 → Vp c b = V c b) :
    Pipeline.RegionSeg (pcfgs (F := F)) adm (pdats V b0 adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V b0 c).loose
  hwaits c := Pipeline.cellsWaits_of_cut _ _ none 0 c b0 ((K (F := F)).Otc c 0) (fun _ => rfl) (fun _ _ => Finset.mem_univ _)
    (fun _ _ => Nat.zero_le _) (fun g i h => ⟨Finset.mem_univ _, hb c g i h⟩)
  pre c := iprop(unscopedBufs c (V c) ∗ Owed (F := F) b0 c)
  post c := iprop(unscopedBufs c (Vp c) ∗ Owed (F := F) b0 c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V b0 adm) launch0.win launch0.arr_whole c
      ((pdats V b0 adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V b0 adm 0 c).Φ 0 = Φc c from rfl]
    iintro ⟨-, -, Hr⟩; iexact Hr
  hout c := by
    rw [Pipeline.ownSems0_none, show (pdats V b0 adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V b0 adm) ((pdats V b0 adm 0 c).share_full fun _ => rfl) (V c) (Vp c) ((pdats V b0 adm 0 c).arrAt · cfg0.N)
      (fun w => by
        fin_cases w
        · exact ((pdats V b0 adm 0 c).arrAt_in 0 rfl _).trans (hVp_ne c main_v7 (by decide)).symm
        · exact ((pdats V b0 adm 0 c).arrAt_in 1 rfl _).trans (hVp_ne c main_v6 (by decide)).symm
        · exact ((pdats V b0 adm 0 c).arrAt_in 2 rfl _).trans (hVp_ne c main_v8 (by decide)).symm
        · exact (arr_product V b0 c).trans (hVp_out c).symm)
      (fun b hb' => hVp_ne c b fun h => hb' (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

/-! ## The unscoped buffers as a held set -/

/-- The TensorCore's unscoped references. -/
def ucRefs : Finset (DevRef τ sig) := (StableHlo.tcRefs τ sig).filter fun b => ¬ b.isScoped

omit [FloatOps F] [Named F] in
/-- The unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

end Cert.KernelIdeal.Run

end
-- ==== Proof.LaunchIdeal.lean ====
/-
The program on the TensorCore: the operations before its own kernel, that kernel, the operations between
the kernels, the SparseCore call, and the last reshape; and the run of the whole program, which ends with
the arguments as they were, the counters at zero and the result at a value read off the arguments.
-/
module

public import proofs.«01_k».proof.Proof.TileIdeal
public import proofs.«01_k».proof.Proof.RegionIdeal

@[expose] public section

noncomputable section

namespace Cert.KernelIdeal.Run

open Cert.KernelIdeal Cert.KernelIdeal.Gen Cert.Pool

open Idealize.ShloMosaic
open Idealize.ShloMosaic.TcCoe
open Idealize.ShloMosaic.SparseCore (S V T)
open Idealize.ShloMosaic.SparseCore.Cfg (HIx)
open Idealize.ShloMosaic.StableHlo (after held seq seq_bind_seqK launchContents)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The host's operations -/

/-- The operations before the TensorCore's kernel: the spread-out weights and the reshapes of its operands. -/
def opsA : List (HloOp τ sig (Elt F)) :=
  [ StableHlo.nullary main_v0 (iotaInDim S8x8 32 0),
    StableHlo.nullary main_v1 (iotaInDim S8x8 32 1),
    StableHlo.nullary main_c (constantI S_ 32 0#32),
    StableHlo.unary main_c main_v2 (broadcastInDim S8x8 ![] bcast_S_S8x8 : (⟨S_, .i32⟩ : BufTy).Contents (Elt F) → (⟨S8x8, .i32⟩ : BufTy).Contents (Elt F)),
    StableHlo.binary main_v0 main_v2 main_v3 (addi : (⟨S8x8, .i32⟩ : BufTy).Contents (Elt F) → (⟨S8x8, .i32⟩ : BufTy).Contents (Elt F) → (⟨S8x8, .i32⟩ : BufTy).Contents (Elt F)),
    StableHlo.binary main_v3 main_v1 main_v4 (cmpi .eq : (⟨S8x8, .i32⟩ : BufTy).Contents (Elt F) → (⟨S8x8, .i32⟩ : BufTy).Contents (Elt F) → (⟨S8x8, .i1⟩ : BufTy).Contents (Elt F)),
    StableHlo.unary main_v4 main_v5 (uitofp .f32 : (⟨S8x8, .i1⟩ : BufTy).Contents (Elt F) → (⟨S8x8, .f32⟩ : BufTy).Contents (Elt F)),
    StableHlo.unary main_v5 main_call0_v0 (broadcastInDim S8x1x8x1 ![0, 2] bcast_S8x8_S8x1x8x1_0_2 : (⟨S8x8, .f32⟩ : BufTy).Contents (Elt F) → (⟨S8x1x8x1, .f32⟩ : BufTy).Contents (Elt F)),
    StableHlo.unary main_arg2 main_call0_v1 (broadcastInDim S1x16x1x1 ![1, 3] bcast_S16x1_S1x16x1x1_1_3 : (⟨S16x1, .f32⟩ : BufTy).Contents (Elt F) → (⟨S1x16x1x1, .f32⟩ : BufTy).Contents (Elt F)),
    StableHlo.unary main_call0_v0 main_call0_v2 (broadcastInDim S8x16x8x1 ![0, 1, 2, 3] bcast_S8x1x8x1_S8x16x8x1_0_1_2_3 : (⟨S8x1x8x1, .f32⟩ : BufTy).Contents (Elt F) → (⟨S8x16x8x1, .f32⟩ : BufTy).Contents (Elt F)),
    StableHlo.unary main_call0_v1 main_call0_v3 (broadcastInDim S8x16x8x1 ![0, 1, 2, 3] bcast_S1x16x1x1_S8x16x8x1_0_1_2_3 : (⟨S1x16x1x1, .f32⟩ : BufTy).Contents (Elt F) → (⟨S8x16x8x1, .f32⟩ : BufTy).Contents (Elt F)),
    StableHlo.binary main_call0_v2 main_call0_v3 main_call0_v4 (mulf : (⟨S8x16x8x1, .f32⟩ : BufTy).Contents (Elt F) → (⟨S8x16x8x1, .f32⟩ : BufTy).Contents (Elt F) → (⟨S8x16x8x1, .f32⟩ : BufTy).Contents (Elt F)),
    StableHlo.reshape main_call0_v4 main_v6 (rfl : (.f32 : EltTy) = .f32) shapeCasts_S8x16x8x1_S128x8,
    StableHlo.reshape main_arg1 main_v7 (rfl : (.f32 : EltTy) = .f32) shapeCasts_S100000x16_S12500x128,
    StableHlo.reshape main_arg3 main_v8 (rfl : (.f32 : EltTy) = .f32) shapeCasts_S1_S1x1 ]

/-- The operations between the kernels: the reshapes of the SparseCore call's operands. -/
def opsB : List (HloOp τ sig (Elt F)) :=
  [ StableHlo.reshape main_v9 main_v10 (rfl : (.f32 : EltTy) = .f32) shapeCasts_S12500x8_S100000,
    StableHlo.reshape main_arg0 main_v11 (rfl : (.i32 : EltTy) = .i32) shapeCasts_S16384x200_S25600x128 ]

/-- The last operation: the reshape of the results. -/
def opsC : List (HloOp τ sig (Elt F)) :=
  [ StableHlo.reshape main_v12 main_v13 (rfl : (.f32 : EltTy) = .f32) shapeCasts_S16384_S16384x1 ]

/-- The call of the TensorCore's kernel. -/
abbrev regionCall : Prog (TpuEff nD τ sig (Elt F) (SparseCore.Sig (ΛP (F := F)) 1) .tc) PUnit :=
  Prog.lift (.customCall (SparseCore.inner (Pipeline.entry 0)) ())

/-- The program is these parts in order. -/
theorem main_eq (d : Dev nD) :
    main (F := F) d = (seq opsA >>= fun _ => regionCall >>= fun _ => seq opsB >>= fun _ => sc.run d 0 >>= fun _ => seq opsC >>= fun _ => pure ⟨⟩) := by
  rw [seq_bind_seqK, seq_bind_seqK, seq_bind_seqK]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem opsA_forall : (opsA (F := F)).Forall fun op => op.bufs ⊆ StableHlo.tcRefs τ sig :=
  ⟨StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.reshape_bufs_sub .., StableHlo.reshape_bufs_sub .., StableHlo.reshape_bufs_sub ..⟩
theorem opsB_forall : (opsB (F := F)).Forall fun op => op.bufs ⊆ StableHlo.tcRefs τ sig := ⟨StableHlo.reshape_bufs_sub .., StableHlo.reshape_bufs_sub ..⟩
theorem opsA_sub : ∀ op ∈ opsA (F := F), op.bufs ⊆ ucRefs := fun op hop => sub_ucRefs op ((List.forall_iff_forall_mem.mp opsA_forall) op hop)
theorem opsB_sub : ∀ op ∈ opsB (F := F), op.bufs ⊆ ucRefs := fun op hop => sub_ucRefs op ((List.forall_iff_forall_mem.mp opsB_forall) op hop)
theorem opsA_fresh : ∀ op ∈ opsA (F := F), op.fresh = ∅ := by
  intro op h; unfold opsA at h; fin_cases h <;> rfl
theorem opsB_fresh : ∀ op ∈ opsB (F := F), op.fresh = ∅ := by
  intro op h; unfold opsB at h; fin_cases h <;> rfl
theorem opsC_fresh : ∀ op ∈ opsC (F := F), op.fresh = ∅ := by
  intro op h; unfold opsC at h; fin_cases h <;> rfl

/-! ## The buffers' contents at each stage -/

variable (m : (ℓ : Loc nD τ sig) → Buf (Elt F) ℓ) (ρ : Dev nD → PrngReg)

/-- Before the TensorCore's kernel. -/
def VA (d : Dev nD) : Valuation τ sig (Elt F) := after opsA (launchContents m d)
/-- The same, read at the TensorCore's references. -/
abbrev VAt : (c : Dev nD) → (b : Ref sig .tc) → Buf (Elt F) ((c : Thread nD τ).loc b) := fun c b => VA m c b
/-- After it: the product in its result's array. -/
def VR (d : Dev nD) : Valuation τ sig (Elt F) := Function.update (VA m d) (Proc.devRef .tc main_v9) (product (VAt m) d)
abbrev VRt : (c : Dev nD) → (b : Ref sig .tc) → Buf (Elt F) ((c : Thread nD τ).loc b) := fun c b => VR m c b
/-- Before the SparseCore call. -/
def VB (d : Dev nD) : Valuation τ sig (Elt F) := after opsB (VR m d)
/-- The table of scores and the word numbers as that call reads them. -/
def tbl (d : Dev nD) : Buf (Elt F) (tLoc d) := VB m d main_v10
def wrd (d : Dev nD) : Buf (Elt F) (xLoc d) := VB m d main_v11
/-- After it: the results in their array. -/
def VS (d : Dev nD) : Valuation τ sig (Elt F) := Function.update (VB m d) (Proc.devRef .tc main_v12) (R (tbl m) (wrd m) d)
/-- At the end. -/
def VC (d : Dev nD) : Valuation τ sig (Elt F) := after opsC (VS m d)

/-! ## The TensorCore's kernel in the program -/

abbrev adm : (p : Fin 1) → (pcfgs (F := F) p).Adm := fun p => (cfgs p).toPCfg_adm

/-- The staging cells of the one call are distinct. -/
theorem cells_inj : Function.Injective (Pipeline.cellOf (nD := nD) (τ := τ) (Pipeline.pin (pcfgs (F := F)) adm)) := cellOf_inj

/-- The kernel's ghost state on a device. -/
abbrev Gh (d : Dev nD) : sProp 𝕄 :=
  iprop(Pipeline.cellsGhost (Pipeline.pin (pcfgs (F := F)) adm) EP 0 d ∗ Pipeline.toksInit (Pipeline.pin (pcfgs (F := F)) adm) EP 0 d)

/-- What the thread still owes lies above every wait it has recorded. -/
theorem owed_above (c : Dev nD) (g : GSem nD τ sig) (i : HIx 1) (h : 0 < (K (F := F)).Otc c 0 g i) :
    8 * SparseCore.Cfg.Blocks.fst 1 1 0 < (K (F := F)).lev g i :=
  (K (F := F)).lev_of_Otc_pos h

/-- The call's record at these contents. -/
def regm := reg (F := F) (VAt m) (8 * SparseCore.Cfg.Blocks.fst 1 1 0) adm (VRt m) owed_above
  (fun c => by show VR m c _ = _; unfold VR; exact Function.update_self _ _ _)
  (fun c b h => by show VR m c _ = VA m c _; unfold VR; exact Function.update_of_ne (StableHlo.devRef_ne_of_ne h) _ _)

/-- The call is the pipeline's, lifted to the program. -/
theorem regionCall_eq : regionCall (F := F)
    = SparseCore.liftProg (Q := 1) (.op (.customCall (Pipeline.entry 0) ()) .ret : Prog (TpuEff nD τ sig (Elt F) (ΛP (F := F)) .tc) PUnit) := by
  rfl

/-- The call's step: from the buffers at the contents before it to the buffers at the contents after. -/
theorem region_step (c : Dev nD) (Q : PUnit → sProp 𝕄) :
    iprop((iprop(boundary (T c) ∗ held (T c) ucRefs (VR m c) ∗ Owed (F := F) (8 * SparseCore.Cfg.Blocks.fst 1 1 0) c) -∗ Q ⟨⟩)
        ∗ boundary (T c) ∗ (held (T c) ucRefs (VA m c) ∗ Owed (F := F) (8 * SparseCore.Cfg.Blocks.fst 1 1 0) c)
        ∗ levAts (K (F := F)).L (K (F := F)).lev ∗ Gh (F := F) c)
      ⊢ wp frame (wpE ((K (F := F)).defs (D (F := F))) 𝒱 (T c) none) Set.univ (regionCall (F := F)) Q := by
  rw [regionCall_eq]
  refine BI.Entails.trans ?_ ((K (F := F)).wp_liftProg (D (F := F)) 𝒱 (T c) Set.univ none _ Q)
  refine BI.Entails.trans ?_ (Pipeline.RegionSeg.wp (pcfgs (F := F)) adm (pdats (VAt m) _ adm) none cells_inj EP (defs₀ (F := F)) 𝒱₀
    (K (F := F)).L (K (F := F)).lev (regm m) c none (fun _ h => nomatch h) .ret Q)
  rw [← unscopedBufs_held, ← unscopedBufs_held]
  show _ ⊢ iprop((iprop(boundary (T c) ∗ (unscopedBufs c (fun b => VR m c b) ∗ Owed (F := F) (8 * SparseCore.Cfg.Blocks.fst 1 1 0) c)) -∗ wp frame _ Set.univ (.ret ⟨⟩) Q)
        ∗ boundary (T c) ∗ (unscopedBufs c (fun b => VA m c b) ∗ Owed (F := F) (8 * SparseCore.Cfg.Blocks.fst 1 1 0) c)
        ∗ levAts (K (F := F)).L (K (F := F)).lev ∗ Gh (F := F) c)
  iintro ⟨Hk, H⟩
  isplitl [Hk]
  · iintro H
    rw [wp_ret]
    imodintro
    iapply Hk
    iexact H
  iexact H

/-! ## The program on a TensorCore -/

/-- The payments of the SparseCore call at the contents it reads. -/
abbrev PP := P (F := F) (tbl m) (wrd m)

/-- The buffers kept from before the SparseCore call to the end: all but the two that call only reads. -/
def S₂ : Finset (DevRef τ sig) := ucRefs \ {Proc.devRef .tc main_v10, Proc.devRef .tc main_v11}
/-- The call's own three buffers. -/
def S₃ : Finset (DevRef τ sig) := {Proc.devRef .tc main_v10, Proc.devRef .tc main_v11, Proc.devRef .tc main_v12}

theorem mem_ucRefs (b : Ref sig .tc) (hb : b.isScoped = false) : (Proc.devRef .tc b : DevRef τ sig) ∈ ucRefs :=
  Finset.mem_filter.mpr ⟨Finset.mem_map_of_mem _ (Finset.mem_univ b), by
    intro h; exact Bool.false_ne_true (hb.symm.trans h)⟩

theorem S₃_sub : S₃ ⊆ ucRefs := by
  intro b hb
  simp only [S₃, Finset.mem_insert, Finset.mem_singleton] at hb
  rcases hb with rfl | rfl | rfl
  · exact mem_ucRefs main_v10 rfl
  · exact mem_ucRefs main_v11 rfl
  · exact mem_ucRefs main_v12 rfl

theorem mem_S₂ (b : Ref sig .tc) (hb : b.isScoped = false) (h10 : b ≠ main_v10) (h11 : b ≠ main_v11) : (Proc.devRef .tc b : DevRef τ sig) ∈ S₂ := by
  refine Finset.mem_sdiff.mpr ⟨mem_ucRefs b hb, ?_⟩
  simp only [Finset.mem_insert, Finset.mem_singleton, not_or]
  exact ⟨StableHlo.devRef_ne_of_ne h10, StableHlo.devRef_ne_of_ne h11⟩

theorem held_S₃ (d : Dev nD) (W : Valuation τ sig (Elt F)) :
    (held (T d) S₃ W : sProp 𝕄) = iprop((tLoc d ↦{fullShare} W main_v10) ∗ (xLoc d ↦{fullShare} W main_v11) ∗ oLoc d ↦{fullShare} W main_v12) := by
  unfold held S₃
  rw [SparseCore.bigSep_insert' (by decide), SparseCore.bigSep_insert' (by decide), bigSep_singleton]

theorem S₂_split : S₂ = insert (Proc.devRef .tc main_v12) (ucRefs \ S₃) := by
  unfold S₂ S₃
  ext b
  have h12 := mem_ucRefs main_v12 rfl
  simp only [Finset.mem_sdiff, Finset.mem_insert, Finset.mem_singleton, not_or]
  constructor
  · rintro ⟨h, h0, h1⟩
    by_cases hb : b = Proc.devRef .tc main_v12
    · exact Or.inl hb
    · exact Or.inr ⟨h, h0, h1, hb⟩
  · rintro (rfl | ⟨h, h0, h1, -⟩)
    · exact ⟨h12, StableHlo.devRef_ne_of_ne (by decide), StableHlo.devRef_ne_of_ne (by decide)⟩
    · exact ⟨h, h0, h1⟩

/-- The buffers before the call: the call's three and the others. -/
theorem held_split_call (d : Dev nD) :
    (held (T d) ucRefs (after opsB (VR m d)) : sProp 𝕄)
      = iprop(((tLoc d ↦{fullShare} tbl m d) ∗ (xLoc d ↦{fullShare} wrd m d) ∗ oLoc d ↦{fullShare} VB m d main_v12) ∗ held (T d) (ucRefs \ S₃) (VB m d)) := by
  rw [StableHlo.held_sub_split (T d) S₃_sub, held_S₃]
  rfl

/-- The results in their array, and the other buffers as before the call, are the buffers kept. -/
theorem held_after_call (d : Dev nD) :
    iprop((oLoc d ↦{fullShare} R (tbl m) (wrd m) d) ∗ held (T d) (ucRefs \ S₃) (VB m d)) ⊢ (held (T d) S₂ (VS m d) : sProp 𝕄) := by
  rw [S₂_split]
  unfold held
  rw [SparseCore.bigSep_insert' (by unfold S₃; simp)]
  rw [show VS m d (Proc.devRef .tc main_v12) = R (tbl m) (wrd m) d from by unfold VS; exact Function.update_self _ _ _]
  iintro ⟨Ho, H⟩
  isplitl [Ho]; · iexact Ho
  refine Entails.of_eq (bigSep_congr fun b hb => ?_)
  rw [show VS m d b = VB m d b from by
    unfold VS
    refine Function.update_of_ne (fun h => ?_) _ _
    rw [h] at hb
    exact (Finset.mem_sdiff.mp hb).2 (by unfold S₃; simp)]

theorem opsC_sub : ∀ op ∈ opsC (F := F), op.bufs ⊆ S₂ := by
  intro op hop
  obtain rfl : op = _ := List.mem_singleton.mp hop
  intro b hb
  have hb' : b ∈ ({Proc.devRef .tc main_v12, Proc.devRef .tc main_v13} : Finset (DevRef τ sig)) := hb
  simp only [Finset.mem_insert, Finset.mem_singleton] at hb'
  rcases hb' with rfl | rfl
  · exact mem_S₂ main_v12 rfl (by decide) (by decide)
  · exact mem_S₂ main_v13 rfl (by decide) (by decide)

/-- What a TensorCore ends with: the buffers kept, at their last contents. -/
abbrev FIN (d : Dev nD) : sProp 𝕄 := held (T d) S₂ (VC m d)

theorem launch_held (d : Dev nD) :
    (unscopedBufs d (fun b => m ((SparseCore.T d).loc b)) : sProp 𝕄) = held (T d) ucRefs (launchContents m d) := by
  have h := unscopedBufs_held (F := F) d (launchContents m d)
  exact h

/-- The program on a device's TensorCore: from what the launch gives to the buffers kept at their last contents. -/
theorem hmain (κ : GSem nD τ sig → ℕ) (d : Dev nD) :
    iprop((K (F := F)).ctx EH (PP m) κ ∗ (K (F := F)).tcSt EH d 0 ∗ (K (F := F)).tcRes m ρ d ∗ Gh (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, launch_held]
  iintro ⟨#Hctx, Hst, ⟨Hb, Hub, Hts, -⟩, HG⟩
  ihave Hlev := ((K (F := F)).ctx_levAts κ) $$ Hctx
  iapply (StableHlo.wp_seq 𝒱 none Set.univ d ucRefs _ opsA opsA_sub opsA_fresh (launchContents m d)) $$ [Hb Hub]
  · isplitl [Hb] <;> iassumption
  iintro ⟨Hb, Hub⟩
  rw [wp_bind]
  ihave Hst := (show (K (F := F)).tcSt EH d 0 ⊢ iprop(Owed (F := F) (8 * SparseCore.Cfg.Blocks.fst 1 1 0) d ∗ (Owed (F := F) (8 * SparseCore.Cfg.Blocks.fst 1 1 0) d -∗ (K (F := F)).tcSt EH d 0)) from by
    unfold SparseCore.Cfg.tcSt
    iintro ⟨HO, Hr⟩
    isplitl [HO]; · iexact HO
    iintro HO
    isplitl [HO]; · iexact HO
    iexact Hr) $$ Hst
  icases Hst with ⟨HO, Hst⟩
  iapply (region_step m d _)
  isplitr [Hb Hub HO HG Hlev]
  swap
  · isplitl [Hb]; · iexact Hb
    isplitl [Hub HO]
    · isplitl [Hub]; · iexact Hub
      iexact HO
    isplitl [Hlev]; · iexact Hlev
    iexact HG
  iintro ⟨Hb, Hub, HO⟩
  ihave Hst := Hst $$ HO
  iapply (StableHlo.wp_seq 𝒱 none Set.univ d ucRefs _ opsB opsB_sub opsB_fresh (VR m d)) $$ [Hb Hub]
  · isplitl [Hb] <;> iassumption
  iintro ⟨Hb, Hub⟩
  rw [wp_bind]
  ihave Hub := (Entails.of_eq (held_split_call m d)) $$ Hub
  icases Hub with ⟨H3, Hub⟩
  ihave H3 := (deal (tbl m) (wrd m) d _) $$ H3
  iapply ((K (F := F)).wp_run (D (F := F)) 𝒱 (EH := EH) (P := PP m) κ d 0)
  isplitr; · iexact Hctx
  isplitl [Hst]; · iexact Hst
  isplitl [H3]; · iexact H3
  iintro ⟨Hst, Hdn⟩
  ihave Ho := (gather (tbl m) (wrd m) d) $$ Hdn
  ihave Hub := (held_after_call m d) $$ [Ho Hub]
  · isplitl [Ho] <;> iassumption
  iapply (StableHlo.wp_seq 𝒱 none Set.univ d S₂ _ opsC opsC_sub opsC_fresh (VS m d)) $$ [Hb Hub]
  · isplitl [Hb] <;> iassumption
  iintro ⟨Hb, Hub⟩
  rw [wp_pure]
  imodintro
  isplitl [Hst]; · iexact Hst
  isplitr [Hb Hts]
  · iexact Hub
  isplitl [Hb] <;> iassumption

/-! ## The launch -/

/-- The launch's rounds: the handshakes', and the staging cells' of the TensorCore's kernel. -/
def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

/-- The launch's rounds, dealt out. -/
theorem hu₀ : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks) ((initOf (Pipeline.cells (Pipeline.pin (pcfgs (F := F)) adm) cells_inj) (Pipeline.launchToks (Pipeline.pin (pcfgs (F := F)) adm) cells_inj), 1) : UP × Counters)) $$ Hu
  icases H with ⟨HH, HR⟩
  ihave HR := (own_pair_emb embR (initOf (Pipeline.cells (Pipeline.pin (pcfgs (F := F)) adm) cells_inj) (Pipeline.launchToks (Pipeline.pin (pcfgs (F := F)) adm) cells_inj)) (1 : Counters)) $$ HR
  icases HR with ⟨HP, -⟩
  ihave HP := (show BI.own (((Emb.inl : Emb UP (UP × Counters)).trans embR) (initOf (Pipeline.cells (Pipeline.pin (pcfgs (F := F)) adm) cells_inj) (Pipeline.launchToks (Pipeline.pin (pcfgs (F := F)) adm) cells_inj)))
      ⊢ (BI.own (EP (initOf (Pipeline.cells (Pipeline.pin (pcfgs (F := F)) adm) cells_inj) (Pipeline.launchToks (Pipeline.pin (pcfgs (F := F)) adm) cells_inj))) : sProp 𝕄) from by unfold EP; exact BI.Entails.refl _) $$ HP
  imod (Pipeline.fund_ghost (Pipeline.pin (pcfgs (F := F)) adm) EP cells_inj) $$ HP with ⟨Hc, Ht⟩
  imodintro
  isplitl [HH]; · iexact HH
  isplitl [Hc Ht]
  · rw [show (bigSep Finset.univ fun d : Dev nD => Gh (F := F) d) = _ from bigSep_sep' ..]
    isplitl [Hc]
    · refine Entails.of_eq (bigSep_congr fun d _ => ?_)
      exact bigSep_univ_of_subsingleton (0 : Fin 1)
    · refine Entails.of_eq (bigSep_congr fun d _ => ?_)
      exact bigSep_univ_of_subsingleton (0 : Fin 1)
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-- What the final memory is read to: the buffers kept at their last contents. -/
def fq (d : Dev nD) (s' : Phys nD τ sig (Elt F)) : Prop := ∀ b ∈ S₂, s'.mem.mem ((d, b) : Loc nD τ sig) = VC m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (c := d) (st := s') (qs := fun _ => fullShare) (F := VC m d) S₂) $$ [H HSI]
  · isplitl [HSI] <;> iassumption
  ipureintro
  exact h

/-- The run's end: the buffers kept at their last contents, the counters at zero. -/
def QC : PUnit × MemSt nD τ sig (Elt F) → Prop := fun r => (∀ d : Dev nD, ∀ b ∈ S₂, r.2.mem ((d, b) : Loc nD τ sig) = VC m d b) ∧ r.2.sem = fun _ => 0

/-- Every run of the program ends so, when the word numbers lie in the table. -/
theorem run_main [∀ e, Nonempty (Elt F e)] (hX : ∀ d j, (wrd m d j).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tbl m) (wrd m) facts hX)
    (fun q _ => match q with | 0 => SparseCore.Cfg.VecSplit.of_plain (vecSplit (tbl m) (wrd m)))
    m ρ main (Gh (F := F)) (FIN m) (u₀ (F := F)) (sep_elim_left.trans (hu₀ m)) (hmain m ρ) (fq m) (hfin m) (QC m) (fun _ h hz => ⟨h, hz⟩)

/-! ## The contents at the end, read off the launch's -/

/-- The buffers the operations before the TensorCore's kernel write, in order. -/
def outA : List (Ref sig .tc) := [main_v0, main_v1, main_c, main_v2, main_v3, main_v4, main_v5, main_call0_v0, main_call0_v1, main_call0_v2, main_call0_v3, main_call0_v4, main_v6, main_v7, main_v8]

/-- A buffer no stage writes keeps its contents. -/
theorem VC_kept (d : Dev nD) (b : Ref sig .tc) (hA : b ∉ outA) (h9 : b ≠ main_v9) (hB : b ∉ [main_v10, main_v11]) (h12 : b ≠ main_v12) (hC : b ∉ [main_v13]) :
    VC m d b = m ((SparseCore.T d).loc b) := by
  unfold VC
  rw [StableHlo.after_of_writes_sub (W := [main_v13]) opsC (VS m d) (StableHlo.forall_writes_sub_of_map rfl) hC]
  unfold VS
  rw [Function.update_of_ne (StableHlo.devRef_ne_of_ne h12)]
  unfold VB
  rw [StableHlo.after_of_writes_sub (W := [main_v10, main_v11]) opsB (VR m d) (StableHlo.forall_writes_sub_of_map rfl) hB]
  unfold VR
  rw [Function.update_of_ne (StableHlo.devRef_ne_of_ne h9)]
  unfold VA
  rw [StableHlo.after_of_writes_sub (W := outA) opsA (launchContents m d) (StableHlo.forall_writes_sub_of_map rfl) hA]

theorem VC_arg0 (d : Dev nD) : VC m d main_arg0 = m ((SparseCore.T d).loc main_arg0) :=
  VC_kept m d main_arg0 (by decide) (by decide) (by decide) (by decide) (by decide)
theorem VC_arg1 (d : Dev nD) : VC m d main_arg1 = m ((SparseCore.T d).loc main_arg1) :=
  VC_kept m d main_arg1 (by decide) (by decide) (by decide) (by decide) (by decide)
theorem VC_arg2 (d : Dev nD) : VC m d main_arg2 = m ((SparseCore.T d).loc main_arg2) :=
  VC_kept m d main_arg2 (by decide) (by decide) (by decide) (by decide) (by decide)
theorem VC_arg3 (d : Dev nD) : VC m d main_arg3 = m ((SparseCore.T d).loc main_arg3) :=
  VC_kept m d main_arg3 (by decide) (by decide) (by decide) (by decide) (by decide)

/-- The word numbers as the SparseCore call reads them: the argument's, reshaped. -/
theorem wrd_eq (d : Dev nD) : wrd m d = shapeCast S25600x128 (m ((SparseCore.T d).loc main_arg0)) shapeCasts_S16384x200_S25600x128 := by
  unfold wrd VB opsB
  rw [StableHlo.after_cons, StableHlo.after_cons, StableHlo.after_nil, StableHlo.reshape_result', StableHlo.reshape_result_ne' (h := by decide)]
  unfold VR
  rw [Function.update_of_ne (StableHlo.devRef_ne_of_ne (by decide))]
  unfold VA
  rw [StableHlo.after_of_writes_sub (W := outA) opsA (launchContents m d) (StableHlo.forall_writes_sub_of_map rfl) (by decide)]
  rfl

/-- The table as that call reads it: the product, reshaped. -/
theorem tbl_eq (d : Dev nD) : tbl m d = shapeCast S100000 (product (VAt m) d) shapeCasts_S12500x8_S100000 := by
  unfold tbl VB opsB
  rw [StableHlo.after_cons, StableHlo.after_cons, StableHlo.after_nil, StableHlo.reshape_result_ne' (h := by decide), StableHlo.reshape_result']
  unfold VR
  rw [Function.update_self]
  rfl

/-- The program's result: the call's results, reshaped. -/
theorem VC_result (d : Dev nD) : VC m d main_v13 = shapeCast S16384x1 (R (tbl m) (wrd m) d) shapeCasts_S16384_S16384x1 := by
  unfold VC opsC
  rw [StableHlo.after_cons, StableHlo.after_nil, StableHlo.reshape_result']
  unfold VS
  rw [Function.update_self]
  rfl

end Cert.KernelIdeal.Run

end
-- ==== Proof.FramesIdeal.lean ====
/-
The frames of the ideal kernel and of the reference: each runs to its end, leaves its arguments as they were, and
every counter ends at zero.
-/
module

public import proofs.«01_k».proof.Proof.LaunchIdeal
public import proofs.«01_k».proof.Proof.Words
public import proofs.«01_k».proof.Proof.Gen.Pre_in_range
public import proofs.«01_k».proof.Proof.Gen.Pre_in_range_finite
public import proofs.«01_k».proof.Proof.Gen.ReferenceIdeal.Run
public import Idealize.ShloMosaic.Lib.Quiescent

@[expose] public section

noncomputable section

namespace Cert.KernelIdeal.Run

open Cert.KernelIdeal Cert.KernelIdeal.Gen Cert.Pool
open Idealize.ShloMosaic Idealize.SL.Sem

variable {F : FTy → Type} [FloatOps F] [Named F]

/-- When the argument's word numbers lie in the table, those that the SparseCore call reads do. -/
theorem words_in_table (m : (ℓ : Loc nD τ sig) → Buf (Elt F) ℓ)
    (h : ∀ (d : Dev nD) (i : S16384x200.Idx), ((m ((SparseCore.T d).loc main_arg0) : IVec S16384x200 32) i).toNat < 100000) (d : Dev nD) (j) : (wrd m d j).toNat < 100000 := by
  rw [wrd_eq]
  exact h d _

/-- What a run's end says of the arguments and the counters. -/
theorem frame_of_end (m : (ℓ : Loc nD τ sig) → Buf (Elt F) ℓ) (r : PUnit × MemSt nD τ sig (Elt F)) (h : QC m r) :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  ⟨fun c => ⟨(h.1 c _ (mem_S₂ main_arg0 rfl (by decide) (by decide))).trans (VC_arg0 m c),
    (h.1 c _ (mem_S₂ main_arg1 rfl (by decide) (by decide))).trans (VC_arg1 m c),
    (h.1 c _ (mem_S₂ main_arg2 rfl (by decide) (by decide))).trans (VC_arg2 m c),
    (h.1 c _ (mem_S₂ main_arg3 rfl (by decide) (by decide))).trans (VC_arg3 m c)⟩, h.2⟩

/-- The frame of the ideal kernel where the words are in range. -/
theorem frame_in_range : Cert.quiescent_KernelIdeal (hKernelIdeal := Cert.KernelIdeal.Gen.facts) (hPre_in_range := Cert.Pre_in_range.Gen.facts) := fun m ρ hp =>
  (θ_run _ _ _).mono (fun r h => frame_of_end m r h) (run_main m ρ (words_in_table m fun d i => by
    have := Cert.Pre_in_range.Gen.facts
    exact words_of_in_range _ _ _ _ (hp d) i))

/-- And where the floats are finite besides. -/
theorem frame_in_range_finite : Cert.quiescent_KernelIdeal_pre_in_range_finite (hKernelIdeal := Cert.KernelIdeal.Gen.facts) (hPre_in_range_finite := Cert.Pre_in_range_finite.Gen.facts) := fun m ρ hp =>
  (θ_run _ _ _).mono (fun r h => frame_of_end m r h) (run_main m ρ (words_in_table m fun d i => by
    have := Cert.Pre_in_range_finite.Gen.facts
    exact words_of_in_range_finite _ _ _ _ (hp d) i))

/-- The frame of the reference. -/
theorem frame_reference : Cert.quiescent_ReferenceIdeal (hReferenceIdeal := Cert.ReferenceIdeal.Gen.facts) := fun m ρ _ =>
  (θ_run _ _ _).mono (fun r h => ⟨fun c => (h c).2, sem_eq_zero_of_no_sems rfl _⟩) (Cert.ReferenceIdeal.Value.run m ρ)

/-- The same under the narrower precondition. -/
theorem frame_reference_finite : Cert.quiescent_ReferenceIdeal_pre_in_range_finite (hReferenceIdeal := Cert.ReferenceIdeal.Gen.facts) (hPre_in_range_finite := Cert.Pre_in_range_finite.Gen.facts) := fun m ρ _ =>
  (θ_run _ _ _).mono (fun r h => ⟨fun c => (h c).2, sem_eq_zero_of_no_sems rfl _⟩) (Cert.ReferenceIdeal.Value.run m ρ)

end Cert.KernelIdeal.Run

end
-- ==== Proof.Rounding.lean ====
/-
The last steps over the extended reals: from a row's logit the kernel's result and the reference's are one number,
unless the scaled probability lies halfway between two integers.
-/
module

public import proofs.«01_k».proof.Proof.TileSum
public import Idealize.ShloMosaic.PureOps.Ideal.Laws
public import Idealize.ShloMosaic.Lib.IdealHost

@[expose] public section

noncomputable section

namespace Cert.Pool

open Idealize.ShloMosaic

/-! ## Literals -/

theorem word_ten_thousand : Ideal.ofBits .f32 0x461C4000#32 = ((10000 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_two_hundred : Ideal.ofBits .f32 0x43480000#32 = ((200 : ℝ) : EReal) := by
  simp [Ideal.ofBits, Ideal.ieee, -EReal.coe_mul]; norm_num

/-! ## The sigmoid -/

/-- The sigmoid's quotient, as both programs spell it from the negated logit. -/
def odds (x : EReal) : EReal := Ideal.div 1 (1 + Ideal.exp x)

/-- It is a real number from 0 to 1. -/
theorem odds_real (x : EReal) : ∃ q : ℝ, odds x = (q : EReal) ∧ 0 ≤ q ∧ q ≤ 1 := by
  induction x with
  | bot =>
    refine ⟨1, ?_, zero_le_one, le_rfl⟩
    simp [odds, Ideal.div]
  | top =>
    refine ⟨0, ?_, le_rfl, zero_le_one⟩
    have h : (1 : EReal) + ⊤ = ⊤ := by
      rw [show (1 : EReal) = ((1 : ℝ) : EReal) from rfl]; exact EReal.coe_add_top 1
    simp [odds, Ideal.div, h]
  | coe r =>
    have hp : 0 < 1 + Real.exp r := by positivity
    refine ⟨(1 + Real.exp r)⁻¹, ?_, by positivity, inv_le_one_of_one_le₀ (by have := Real.exp_pos r; linarith)⟩
    have h : (1 : EReal) + ((Real.exp r : ℝ) : EReal) = ((1 + Real.exp r : ℝ) : EReal) := by
      rw [show (1 : EReal) = ((1 : ℝ) : EReal) from rfl, ← EReal.coe_add]
    have hne : ((1 + Real.exp r : ℝ) : EReal) ≠ 0 := by
      rw [show (0 : EReal) = ((0 : ℝ) : EReal) from rfl, Ne, EReal.coe_eq_coe_iff]; exact hp.ne'
    unfold odds Ideal.div
    rw [Ideal.exp_coe, h, if_neg hne, one_mul, EReal.coe_inv]

/-! ## Rounding -/

/-- Off the halfway points, to the nearest integer is the integer part of the number plus one half. -/
theorem nearest_of_not_tie (y : ℝ) (h : (⌊y⌋ : ℝ) + 1 / 2 ≠ y) : Ideal.roundHalfEven y = ⌊y + 1 / 2⌋ := by
  have h0 := Int.floor_le y
  have h1 := Int.lt_floor_add_one y
  unfold Ideal.roundHalfEven
  dsimp only
  split
  · symm; rw [Int.floor_eq_iff]; constructor <;> linarith
  · rename_i h2
    have h3 : 1 / 2 < y - ⌊y⌋ := by
      rcases lt_or_eq_of_le (not_lt.mp h2) with h3 | h3
      · exact h3
      · exact absurd (by linarith) h
    rw [if_pos h3]
    symm; rw [Int.floor_eq_iff]; push_cast; constructor <;> linarith

/-- A number from 0 to 10001 goes through the conversion to a word and back as its integer part. -/
theorem through_word (y : ℝ) (h0 : 0 ≤ y) (h1 : y ≤ 10001) : (Ideal.fptosi 32 (y : EReal)).toInt = ⌊y⌋ := by
  have hf0 : 0 ≤ ⌊y⌋ := Int.floor_nonneg.mpr h0
  have hf1 : ⌊y⌋ ≤ 10001 := by
    have := Int.floor_le_floor h1
    rwa [show (10001 : ℝ) = ((10001 : ℤ) : ℝ) by norm_num, Int.floor_intCast] at this
  unfold Ideal.fptosi
  show (BitVec.ofInt 32 (max (-(2 ^ (32 - 1) : Nat)) (min ((2 ^ (32 - 1) : Nat) - 1) (if 0 ≤ y then ⌊y⌋ else ⌈y⌉)))).toInt = ⌊y⌋
  rw [if_pos h0]
  have e : max (-(2 ^ (32 - 1) : Nat) : Int) (min ((2 ^ (32 - 1) : Nat) - 1 : Int) ⌊y⌋) = ⌊y⌋ := by
    rw [min_eq_right (by norm_num; omega), max_eq_right (by norm_num; omega)]
  rw [e, BitVec.toInt_ofInt, Int.bmod_eq_of_le (by norm_num; omega) (by norm_num; omega)]

/-! ## The two results -/

/-- The reference's last steps, from the negated logit. -/
def roundedRef (x : EReal) : EReal :=
  Ideal.div (Ideal.liftRound Ideal.roundHalfEven (odds x * Ideal.ofBits .f32 0x461C4000#32)) (Ideal.ofBits .f32 0x461C4000#32)

/-- Where the reference does not meet a tie. -/
def NoTie (x : EReal) : Prop :=
  Ideal.liftRound Int.floor (odds x * Ideal.ofBits .f32 0x461C4000#32) + Ideal.ofBits .f32 0x3F000000#32 ≠ odds x * Ideal.ofBits .f32 0x461C4000#32

/-- The kernel's last steps on a sum give the reference's result, off the ties. -/
theorem finish1_eq (nh sc s x : EReal) (hx : s * nh = x) (hsc : sc = ((1 / 10000 : ℝ) : EReal)) (ht : NoTie x) :
    finish1 (F := Ideal) nh sc s = roundedRef x := by
  obtain ⟨q, hq, h0, h1⟩ := odds_real x
  unfold NoTie at ht
  rw [hq, word_ten_thousand, word_half, ← EReal.coe_mul] at ht
  unfold roundedRef
  have e1 : finish1 (F := Ideal) nh sc s
      = (((Ideal.fptosi 32 (Ideal.div (Ideal.ofBits .f32 0x3F800000#32) (Ideal.ofBits .f32 0x3F800000#32 + Ideal.exp (s * nh))
          * Ideal.ofBits .f32 0x461C4000#32 + Ideal.ofBits .f32 0x3F000000#32)).toInt : ℝ) : EReal) * sc := rfl
  rw [e1, hx, Ideal.ofBits_one_f32]
  change (((Ideal.fptosi 32 (odds x * Ideal.ofBits .f32 0x461C4000#32 + Ideal.ofBits .f32 0x3F000000#32)).toInt : ℝ) : EReal) * sc = _
  rw [hq, word_ten_thousand, word_half, ← EReal.coe_mul]
  rw [← EReal.coe_add, through_word _ (by positivity) (by linarith), hsc]
  change _ = Ideal.div ((Ideal.roundHalfEven (q * 10000) : ℝ) : EReal) ((10000 : ℝ) : EReal)
  have ht' : (⌊q * 10000⌋ : ℝ) + 1 / 2 ≠ q * 10000 := by
    intro h
    apply ht
    change ((⌊q * 10000⌋ : ℝ) : EReal) + _ = _
    rw [← EReal.coe_add, h]
  rw [nearest_of_not_tie _ ht']
  unfold Ideal.div
  have hne : ((10000 : ℝ) : EReal) ≠ 0 := by
    rw [show (0 : EReal) = ((0 : ℝ) : EReal) from rfl, Ne, EReal.coe_eq_coe_iff]; norm_num
  rw [if_neg hne, one_div (10000 : ℝ), EReal.coe_inv]

/-! ## The sums -/

/-- A sum in eights is the sum. -/
theorem partialSum_eq (s : Nat → EReal) (k : Nat) : partialSum (F := Ideal) s k = ∑ l ∈ Finset.range (8 * k), s l := by
  induction k with
  | zero => exact Ideal.ofBits_zero_f32
  | succ k ih =>
    have e : partialSum (F := Ideal) s (k + 1) = partialSum (F := Ideal) s k
        + (((s (8 * k + 0) + s (8 * k + 1)) + (s (8 * k + 2) + s (8 * k + 3))) + ((s (8 * k + 4) + s (8 * k + 5)) + (s (8 * k + 6) + s (8 * k + 7)))) := rfl
    rw [e, ih, show 8 * (k + 1) = 8 * k + 8 by ring, Finset.sum_range_add]
    simp only [Finset.sum_range_succ, Finset.sum_range_zero, zero_add, add_assoc]

/-- A sum of real numbers, read in the extended reals. -/
theorem sum_coe {n : Nat} (f : Fin n → ℝ) : (∑ l : Fin n, ((f l : ℝ) : EReal)) = ((∑ l : Fin n, f l : ℝ) : EReal) :=
  (map_sum (⟨⟨fun r : ℝ => (r : EReal), rfl⟩, fun _ _ => rfl⟩ : ℝ →+ EReal) f Finset.univ).symm

/-- A sum of equal terms that are each a real plus `b`, over a row, times minus one over the row's length, is the
    negated mean plus `b`. -/
theorem mean_of_sums (a : Fin 200 → ℝ) (b : EReal) :
    (∑ l : Fin 200, ((a l : EReal) + b)) * ((-1 / 200 : ℝ) : EReal) = -(((∑ l : Fin 200, a l) / 200 : ℝ) + b) := by
  have hr : ∀ f : Fin 200 → ℝ, (∑ l : Fin 200, ((f l : ℝ) : EReal)) = ((∑ l : Fin 200, f l : ℝ) : EReal) := fun f =>
    (map_sum (⟨⟨fun r : ℝ => (r : EReal), rfl⟩, fun _ _ => rfl⟩ : ℝ →+ EReal) f Finset.univ).symm
  induction b with
  | coe r =>
    have e : ∀ l, ((a l : ℝ) : EReal) + ((r : ℝ) : EReal) = ((a l + r : ℝ) : EReal) := fun l => rfl
    simp only [e]
    rw [hr, ← EReal.coe_mul, ← EReal.coe_add, ← EReal.coe_neg, EReal.coe_eq_coe_iff, Finset.sum_add_distrib]
    simp
    ring
  | top =>
    simp only [EReal.coe_add_top]
    have : (∑ l : Fin 200, (⊤ : EReal)) = ⊤ := by
      rw [Fin.sum_univ_succ]
      refine EReal.top_add_of_ne_bot ?_
      have : (0 : EReal) ≤ ∑ l : Fin 199, (⊤ : EReal) := Finset.sum_nonneg fun _ _ => le_top
      exact fun h => by rw [h] at this; exact absurd this (by simp)
    rw [this, EReal.top_mul_coe_of_neg (by norm_num), EReal.neg_top]
  | bot =>
    simp only [EReal.add_bot]
    have : (∑ l : Fin 200, (⊥ : EReal)) = ⊥ := by
      rw [Fin.sum_univ_succ]
      exact EReal.bot_add _
    rw [this, EReal.bot_mul_coe_of_neg (by norm_num), EReal.neg_bot]

end Cert.Pool

end
-- ==== Proof.Folded.lean ====
/-
The table the SparseCore call sums from, over the extended reals: entry `v` is the linear layer's output on row `v`
of the embedding table.
-/
module

public import proofs.«01_k».proof.Proof.LaunchIdeal
public import proofs.«01_k».proof.Proof.Rounding
public import Idealize.ShloMosaic.Lib.MatmulPlain
public import Idealize.ShloMosaic.Lib.StableHlo.Run
public import Idealize.ShloMosaic.Lib.Pipeline.Value

@[expose] public section

noncomputable section

namespace Cert.KernelIdeal.Run

open Cert.KernelIdeal Cert.KernelIdeal.Gen Cert.Pool
open Idealize.ShloMosaic Idealize.ShloMosaic.ValueIdx
open Idealize.ShloMosaic.TcCoe

/-! ## The pieces, for any arrays -/

section Pieces

variable {F : FTy → Type} [FloatOps F]

/-- Eight copies of the weights down a diagonal, as the host operations build them. -/
def spread (W : FVec F S16x1 .f32) : FVec F S128x8 .f32 :=
  shapeCast S128x8 (mulf
    (broadcastInDim S8x16x8x1 ![0, 1, 2, 3] bcast_S8x1x8x1_S8x16x8x1_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1)))))
    (broadcastInDim S8x16x8x1 ![0, 1, 2, 3] bcast_S1x16x1x1_S8x16x8x1_0_1_2_3 (broadcastInDim S1x16x1x1 ![1, 3] bcast_S16x1_S1x16x1x1_1_3 W)))
    shapeCasts_S8x16x8x1_S128x8

end Pieces

/-- An entry of the eight copies: the weight, times one on the diagonal and zero off it. -/
theorem spread_apply (W : FVec Ideal S16x1 .f32) (a : Fin 8) (e : Fin 16) (j : Fin 8) :
    spread W (ix2 (n0 := 128) (n1 := 8) ⟨16 * a.val + e.val, by omega⟩ j) = (if a = j then W (ix2 (n0 := 16) (n1 := 1) e 0) else 0 : EReal) := by
  unfold spread
  rw [shapeCast_apply _ _ _ (ix4 (n0 := 8) (n1 := 16) (n2 := 8) (n3 := 1) a e j 0) (by
    rw [Shape.rowMajor_val_four, Shape.rowMajor_val_two]
    show ((a.val * 16 + e.val) * 8 + j.val) * 1 + 0 = (16 * a.val + e.val) * 8 + j.val
    omega)]
  change FloatOps.mulf _ _ = _
  rw [broadcastInDim_apply _ bcast_S8x1x8x1_S8x16x8x1_0_1_2_3 _ _ (ix4 (n0 := 8) (n1 := 1) (n2 := 8) (n3 := 1) a 0 j 0) (by
      intro b; fin_cases b <;> rfl),
    broadcastInDim_apply _ bcast_S8x8_S8x1x8x1_0_2 _ _ (ix2 (n0 := 8) (n1 := 8) a j) (by intro b; fin_cases b <;> rfl),
    broadcastInDim_apply _ bcast_S1x16x1x1_S8x16x8x1_0_1_2_3 _ _ (ix4 (n0 := 1) (n1 := 16) (n2 := 1) (n3 := 1) 0 e 0 0) (by
      intro b; fin_cases b <;> rfl),
    broadcastInDim_apply _ bcast_S16x1_S1x16x1x1_1_3 _ _ (ix2 (n0 := 16) (n1 := 1) e 0) (by intro b; fin_cases b <;> rfl)]
  have hc : ∀ a j : Fin 8, (IntOp.cmpi .eq (BitVec.ofNat 32 a.val + 0#32) (BitVec.ofNat 32 j.val)).toNat = if a = j then 1 else 0 := by decide
  show (((IntOp.cmpi .eq (BitVec.ofNat 32 a.val + 0#32) (BitVec.ofNat 32 j.val)).toNat : ℝ) : EReal) * _ = _
  rw [hc]
  split <;> simp

/-- A row of the reshaped table against a column of the eight copies. -/
theorem product_row (Tb : FVec Ideal S12500x128 .f32) (W : FVec Ideal S16x1 .f32) (i : Fin 12500) (j : Fin 8) :
    (∑ k : Fin 128, (Tb (ix2 (n0 := 12500) (n1 := 128) i k) * spread W (ix2 (n0 := 128) (n1 := 8) k j) : EReal))
      = ∑ e : Fin 16, (Tb (ix2 (n0 := 12500) (n1 := 128) i ⟨16 * j.val + e.val, by omega⟩) * W (ix2 (n0 := 16) (n1 := 1) e 0) : EReal) := by
  rw [← Equiv.sum_comp (finProdFinEquiv (m := 8) (n := 16)), Fintype.sum_prod_type]
  have e0 : ∀ (a : Fin 8) (e : Fin 16), (finProdFinEquiv (a, e) : Fin (8 * 16)) = (⟨16 * a.val + e.val, by omega⟩ : Fin 128) := fun a e =>
    Fin.ext (by show e.val + 16 * a.val = 16 * a.val + e.val; omega)
  rw [Finset.sum_eq_single j]
  · refine Finset.sum_congr rfl fun e _ => ?_
    rw [e0, spread_apply, if_pos rfl]
  · intro a _ ha
    refine Finset.sum_eq_zero fun e _ => ?_
    rw [e0, spread_apply, if_neg ha, mul_zero]
  · intro h; exact absurd (Finset.mem_univ _) h

/-- An entry of what the TensorCore's kernel stores. -/
theorem stored_apply (Tb : FVec Ideal S12500x128 .f32) (W : FVec Ideal S16x1 .f32) (b : EReal) (i : Fin 12500) (j : Fin 8) :
    (k0_pay1 (F := Ideal) Tb (spread W) b (ix2 (n0 := 12500) (n1 := 8) i j) : EReal)
      = (∑ e : Fin 16, (Tb (ix2 (n0 := 12500) (n1 := 128) i ⟨16 * j.val + e.val, by omega⟩) * W (ix2 (n0 := 16) (n1 := 1) e 0) : EReal)) + b := by
  have hT : shapeCast S12500x128 Tb shapeCasts_S12500x128_S12500x128 = Tb := funext fun x => shapeCast_apply _ _ _ x rfl
  have hM : shapeCast S128x8 (spread W) shapeCasts_S128x8_S128x8 = spread W := funext fun x => shapeCast_apply _ _ _ x rfl
  unfold k0_pay1
  rw [hT, hM]
  have hd : dot_S12500x128_S128x8_S12500x8_1_0_0_1_n_n = DotDims.plain 12500 128 8 := rfl
  show (FloatOps.matmul dot_S12500x128_S128x8_S12500x8_1_0_0_1_n_n none Tb (spread W) (constant S12500x8 .f32 0x00000000#32) (ix2 i j) : EReal) + b = _
  rw [hd, Ideal.matmul_plain_apply, product_row]
  show (Ideal.ofBits .f32 0x00000000#32 + _ : EReal) + b = _
  rw [Ideal.ofBits_zero_f32, zero_add]

/-! ## The program's -/

variable (m : (ℓ : Loc nD τ sig) → Buf (Elt Ideal) ℓ)

/-- The reshaped table. -/
theorem VA_v7 (d : Dev nD) : VAt m d main_v7 = shapeCast S12500x128 (m ((SparseCore.T d).loc main_arg1)) shapeCasts_S100000x16_S12500x128 := by
  show StableHlo.after opsA (StableHlo.launchContents m d) (Proc.devRef .tc main_v7) = _
  unfold opsA
  after_results_simp <;> rfl

/-- The bias. -/
theorem VA_v8 (d : Dev nD) : VAt m d main_v8 = shapeCast S1x1 (m ((SparseCore.T d).loc main_arg3)) shapeCasts_S1_S1x1 := by
  show StableHlo.after opsA (StableHlo.launchContents m d) (Proc.devRef .tc main_v8) = _
  unfold opsA
  after_results_simp <;> rfl

/-- The eight copies of the weights. -/
theorem VA_v6 (d : Dev nD) : VAt m d main_v6 = spread (F := Ideal) (m ((SparseCore.T d).loc main_arg2)) := by
  show StableHlo.after opsA (StableHlo.launchContents m d) (Proc.devRef .tc main_v6) = _
  unfold opsA
  after_results_simp <;> rfl

end Cert.KernelIdeal.Run

end
-- ==== Proof.RefValue.lean ====
/-
The reference over the extended reals: its logit of a row is the mean of the row's embeddings, times the weights,
plus the bias; and its mask of the rows that are no ties.
-/
module

public import proofs.«01_k».proof.Proof.Rounding
public import proofs.«01_k».proof.Proof.Gen.ReferenceIdeal.Run
public import proofs.«01_k».proof.Proof.Gen.On_no_tie
public import Idealize.ShloMosaic.Lib.StackMember
public import Idealize.ShloMosaic.Lib.ReduceAll
public import Idealize.ShloMosaic.Lib.Affine
public import Idealize.ShloMosaic.Lib.Routing.OpsPair
public import Idealize.ShloMosaic.Lib.Pipeline.Value

@[expose] public section

noncomputable section

namespace Cert.ReferenceIdeal.Value

open Cert.ReferenceIdeal Cert.ReferenceIdeal.Gen Cert.Pool
open Idealize.ShloMosaic Idealize.ShloMosaic.ValueIdx Idealize.ShloMosaic.StackMember
open Idealize.SL.Sem

variable {F : FTy → Type} [FloatOps F]

/-! ## The reference's stages -/

/-- The row numbers the reference looks up: negative ones counted from the end. -/
def rowNumbers (x : IVec S16384x200 32) : IVec S16384x200x1 32 :=
  broadcastInDim S16384x200x1 ![0, 1] bcast_S16384x200_S16384x200x1_0_1
    (select (cmpi .slt x (broadcastInDim S16384x200 ![] bcast_S_S16384x200 (constantI S_ 32 0#32)))
      (addi x (broadcastInDim S16384x200 ![] bcast_S_S16384x200 (constantI S_ 32 100000#32))) x)

/-- Which of them name a row. -/
def named (x : IVec S16384x200 32) : IVec S16384x200 1 :=
  Host.reduce IntOp.andi
    (andi (cmpi .sge (rowNumbers x) (broadcastInDim S16384x200x1 ![] bcast_S_S16384x200x1 (constantI S_ 32 0#32)))
      (cmpi .sle (rowNumbers x) (broadcastInDim S16384x200x1 ![0, 1, 2] bcast_S1x1x1_S16384x200x1_0_1_2 (broadcastInDim S1x1x1 ![2] bcast_S1_S1x1x1_2 (constantI S1 32 99999#32)))))
    (constantI S_ 1 1#1) reducesTo_S16384x200x1_S16384x200_d2 h_S_

/-- The rows looked up. -/
def looked (x : IVec S16384x200 32) (t : FVec F S100000x16 .f32) : FVec F S16384x200x16 .f32 :=
  select (broadcastInDim S16384x200x16 ![0, 1] bcast_S16384x200_S16384x200x16_0_1 (named x))
    (Host.gather gather_S100000x16_S16384x200x1_S16384x200x16_2_0_n_n_0_2_116 t (rowNumbers x))
    (broadcastInDim S16384x200x16 ![] bcast_S_S16384x200x16 (constant S_ .f32 0x7FC00000#32))

/-- Their means. -/
def means (x : IVec S16384x200 32) (t : FVec F S100000x16 .f32) : FVec F S16384x16 .f32 :=
  Host.divf (Host.reduceAdd (looked x t) (constant S_ .f32 0x00000000#32) reducesTo_S16384x200x16_S16384x16_d1 h_S_)
    (broadcastInDim S16384x16 ![] bcast_S_S16384x16 (constant S_ .f32 0x43480000#32))

/-- The negated logits. -/
def negLogits (x : IVec S16384x200 32) (t : FVec F S100000x16 .f32) (w : FVec F S16x1 .f32) (b : FVec F S1 .f32) : FVec F S16384x1 .f32 :=
  Host.negf (addf (Host.dotGeneral dot_S16384x16_S16x1_S16384x1_1_0_0_1_n_n none (means x t) w)
    (broadcastInDim S16384x1 ![0, 1] bcast_S1x1_S16384x1_0_1 (broadcastInDim S1x1 ![1] bcast_S1_S1x1_1 b)))

/-- The scaled probabilities. -/
def scaled (x : IVec S16384x200 32) (t : FVec F S100000x16 .f32) (w : FVec F S16x1 .f32) (b : FVec F S1 .f32) : FVec F S16384x1 .f32 :=
  mulf (Host.divf (broadcastInDim S16384x1 ![] bcast_S_S16384x1 (constant S_ .f32 0x3F800000#32))
      (addf (broadcastInDim S16384x1 ![] bcast_S_S16384x1 (constant S_ .f32 0x3F800000#32)) (Host.exp (negLogits x t w b))))
    (broadcastInDim S16384x1 ![] bcast_S_S16384x1 (constant S_ .f32 0x461C4000#32))

/-- The reference's result. -/
def outcome (x : IVec S16384x200 32) (t : FVec F S100000x16 .f32) (w : FVec F S16x1 .f32) (b : FVec F S1 .f32) : FVec F S16384x1 .f32 :=
  Host.divf (Host.roundeven (scaled x t w b)) (broadcastInDim S16384x1 ![] bcast_S_S16384x1 (constant S_ .f32 0x461C4000#32))

/-- A run of the reference ends with that result and its arguments as they were. -/
theorem run_outcome (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = outcome (F := F) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := run m ρ

/-- The mask is the comparison of the scaled probability with its integer part plus one half. -/
theorem mask_eq (x : IVec S16384x200 32) (t : FVec F S100000x16 .f32) (w : FVec F S16x1 .f32) (b : FVec F S1 .f32) :
    @Cert.On_no_tie.fn Cert.On_no_tie.Gen.facts F _ x t w b
      = cmpf .une (addf (Host.floor (scaled x t w b)) (broadcastInDim S16384x1 ![] bcast_S_S16384x1 (constant S_ .f32 0x3F000000#32))) (scaled x t w b) := rfl

/-! ## The lookup -/

/-- Rows of a table gathered by a rectangle of row numbers: at a row number that names a row, that row. -/
theorem gather_rows (t : FVec F S100000x16 .f32) (ix : IVec S16384x200x1 32) (r : Fin 16384) (l : Fin 200) (e : Fin 16)
    (v : Fin 100000) (hv : (ix (ix3 (n0 := 16384) (n1 := 200) (n2 := 1) r l 0)).toInt = v.val) :
    Host.gather gather_S100000x16_S16384x200x1_S16384x200x16_2_0_n_n_0_2_116 t ix (ix3 (n0 := 16384) (n1 := 200) (n2 := 16) r l e)
      = t (ix2 (n0 := 100000) (n1 := 16) v e) := by
  unfold Host.gather
  refine congrArg t (funext fun a => Fin.ext ?_)
  show gather_S100000x16_S16384x200x1_S16384x200x16_2_0_n_n_0_2_116.start _ ix a
    + gather_S100000x16_S16384x200x1_S16384x200x16_2_0_n_n_0_2_116.batchCoord _ a
    + gather_S100000x16_S16384x200x1_S16384x200x16_2_0_n_n_0_2_116.offCoord _ a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    show gather_S100000x16_S16384x200x1_S16384x200x16_2_0_n_n_0_2_116.start (ix3 (n0 := 16384) (n1 := 200) (n2 := 16) r l e) ix (0 : Fin 2) = v.val
    unfold GatherDims.start
    rw [dif_pos (show (0 : Fin 2) ∈ gather_S100000x16_S16384x200x1_S16384x200x16_2_0_n_n_0_2_116.startIndexMap from List.mem_singleton.mpr rfl)]
    have hsi : gather_S100000x16_S16384x200x1_S16384x200x16_2_0_n_n_0_2_116.siIdx (ix3 (n0 := 16384) (n1 := 200) (n2 := 16) r l e)
        ⟨List.idxOf (0 : Fin 2) gather_S100000x16_S16384x200x1_S16384x200x16_2_0_n_n_0_2_116.startIndexMap,
          List.idxOf_lt_length_iff.2 (List.mem_singleton.mpr rfl)⟩ = ix3 (n0 := 16384) (n1 := 200) (n2 := 1) r l 0 := by
      funext b; refine Fin.ext ?_
      match b with
      | ⟨0, _⟩ => rfl
      | ⟨1, _⟩ => rfl
      | ⟨2, _⟩ => rfl
    show min (ix (gather_S100000x16_S16384x200x1_S16384x200x16_2_0_n_n_0_2_116.siIdx (ix3 (n0 := 16384) (n1 := 200) (n2 := 16) r l e)
        ⟨List.idxOf (0 : Fin 2) gather_S100000x16_S16384x200x1_S16384x200x16_2_0_n_n_0_2_116.startIndexMap,
          List.idxOf_lt_length_iff.2 (List.mem_singleton.mpr rfl)⟩)).toInt.toNat (100000 - 1) = v.val
    rw [hsi, hv]
    have := v.isLt
    omega
  | ⟨1, _⟩ =>
    have hs : gather_S100000x16_S16384x200x1_S16384x200x16_2_0_n_n_0_2_116.start (ix3 (n0 := 16384) (n1 := 200) (n2 := 16) r l e) ix (1 : Fin 2) = 0 := by
      unfold GatherDims.start
      rw [dif_neg (show (1 : Fin 2) ∉ gather_S100000x16_S16384x200x1_S16384x200x16_2_0_n_n_0_2_116.startIndexMap from by decide)]
    show gather_S100000x16_S16384x200x1_S16384x200x16_2_0_n_n_0_2_116.start _ ix (1 : Fin 2) + _ = _
    rw [hs, Nat.zero_add]
    rfl

/-- A row number from 0 to 99999 is looked up as it stands. -/
theorem rowNumbers_apply (x : IVec S16384x200 32) (h : ∀ j, (x j).toNat < 100000) (r : Fin 16384) (l : Fin 200) :
    rowNumbers x (ix3 (n0 := 16384) (n1 := 200) (n2 := 1) r l 0) = x (ix2 (n0 := 16384) (n1 := 200) r l) := by
  unfold rowNumbers
  rw [broadcastInDim_apply _ bcast_S16384x200_S16384x200x1_0_1 _ _ (ix2 (n0 := 16384) (n1 := 200) r l) (by intro b; fin_cases b <;> rfl)]
  exact Routing.wrap_of_lt (x (ix2 (n0 := 16384) (n1 := 200) r l)) _ (lt_trans (h _) (by norm_num))

/-- It reads as it stands as a signed number too. -/
theorem toInt_of_lt {v : BitVec 32} (h : v.toNat < 100000) : v.toInt = v.toNat := by
  rw [BitVec.toInt_eq_toNat_cond, if_pos (by omega)]

/-- All of them name rows. -/
theorem named_apply (x : IVec S16384x200 32) (h : ∀ j, (x j).toNat < 100000) (j : S16384x200.Idx) : named x j = 1#1 := by
  unfold named
  refine Host.reduce_andi_one _ _ _ _ _ rfl fun i => ?_
  obtain ⟨r, l, hi⟩ : ∃ (r : Fin 16384) (l : Fin 200), i = ix3 (n0 := 16384) (n1 := 200) (n2 := 1) r l 0 := by
    refine ⟨i (0 : Fin 3), i (1 : Fin 3), ?_⟩
    refine (eq_ix3 (n0 := 16384) (n1 := 200) (n2 := 1) i).trans ?_
    exact congrArg _ (Subsingleton.elim (α := Fin 1) _ _)
  subst hi
  have hb := h (ix2 (n0 := 16384) (n1 := 200) r l)
  have e0 : (0#32).toInt = 0 := by decide
  have e1 : (99999#32).toInt = 99999 := by decide
  refine IntOp.andi_eq_one.mpr ⟨IntOp.cmpi_sge.mpr ?_, IntOp.cmpi_sle.mpr ?_⟩
  · rw [rowNumbers_apply x h, toInt_of_lt hb]
    show (0#32).toInt ≤ _
    rw [e0]; omega
  · rw [rowNumbers_apply x h, toInt_of_lt hb]
    show _ ≤ (99999#32).toInt
    rw [e1]; omega

/-- The row looked up at a row number that names one. -/
theorem looked_apply (x : IVec S16384x200 32) (h : ∀ j, (x j).toNat < 100000) (t : FVec F S100000x16 .f32) (r : Fin 16384) (l : Fin 200) (e : Fin 16) :
    looked x t (ix3 (n0 := 16384) (n1 := 200) (n2 := 16) r l e)
      = t (ix2 (n0 := 100000) (n1 := 16) ⟨(x (ix2 (n0 := 16384) (n1 := 200) r l)).toNat, h _⟩ e) := by
  unfold looked
  have hn : broadcastInDim S16384x200x16 ![0, 1] bcast_S16384x200_S16384x200x16_0_1 (named x) (ix3 (n0 := 16384) (n1 := 200) (n2 := 16) r l e) = 1#1 := by
    rw [broadcastInDim_apply _ bcast_S16384x200_S16384x200x16_0_1 _ _ (ix2 (n0 := 16384) (n1 := 200) r l) (by intro b; fin_cases b <;> rfl)]
    exact named_apply x h _
  show Scalar.select (broadcastInDim S16384x200x16 ![0, 1] bcast_S16384x200_S16384x200x16_0_1 (named x) (ix3 (n0 := 16384) (n1 := 200) (n2 := 16) r l e)) _ _ = _
  rw [hn]
  show Host.gather gather_S100000x16_S16384x200x1_S16384x200x16_2_0_n_n_0_2_116 t (rowNumbers x) (ix3 (n0 := 16384) (n1 := 200) (n2 := 16) r l e) = _
  exact gather_rows t (rowNumbers x) r l e ⟨_, h _⟩ (by rw [rowNumbers_apply x h, toInt_of_lt (h _)])

/-! ## The logit, over the extended reals -/

/-- A row's mean, one coordinate of it. -/
theorem means_apply (x : IVec S16384x200 32) (h : ∀ j, (x j).toNat < 100000) (t : FVec Ideal S100000x16 .f32) (r : Fin 16384) (e : Fin 16) :
    (means x t (ix2 (n0 := 16384) (n1 := 16) r e) : EReal)
      = Ideal.div (∑ l : Fin 200, t (ix2 (n0 := 100000) (n1 := 16) ⟨(x (ix2 (n0 := 16384) (n1 := 200) r l)).toNat, h _⟩ e)) ((200 : ℝ) : EReal) := by
  have hd : S16384x200x16.Reduces [1] S16384x16 := by decide
  have hs : (Host.reduceAdd (looked x t) (constant S_ .f32 0x00000000#32) reducesTo_S16384x200x16_S16384x16_d1 h_S_ (ix2 (n0 := 16384) (n1 := 16) r e) : EReal)
      = ∑ l : Fin 200, t (ix2 (n0 := 100000) (n1 := 16) ⟨(x (ix2 (n0 := 16384) (n1 := 200) r l)).toNat, h _⟩ e) := by
    rw [hostReduceAdd_apply, Ideal.hostReduceAdd_single _ hd]
    show (Ideal.ofBits .f32 0x00000000#32 + _ : EReal) = _
    rw [Ideal.ofBits_zero_f32, zero_add]
    refine Finset.sum_congr rfl fun l _ => ?_
    rw [← looked_apply x h t r l e]
    congr 1
    funext c; apply Fin.ext
    match c with
    | ⟨0, _⟩ => rfl
    | ⟨1, _⟩ => rfl
    | ⟨2, _⟩ => rfl
  unfold means
  rw [hostDivf_apply, hs]
  show Ideal.div _ (Ideal.ofBits .f32 0x43480000#32) = _
  rw [word_two_hundred]

/-- A row's negated logit. -/
theorem negLogits_apply (x : IVec S16384x200 32) (t : FVec Ideal S100000x16 .f32) (w : FVec Ideal S16x1 .f32) (b : FVec Ideal S1 .f32) (r : Fin 16384) :
    (negLogits x t w b (ix2 (n0 := 16384) (n1 := 1) r 0) : EReal)
      = -((∑ e : Fin 16, (means x t (ix2 (n0 := 16384) (n1 := 16) r e) * w (ix2 (n0 := 16) (n1 := 1) e 0) : EReal)) + b (ix1 (n := 1) 0)) := by
  have hd : dot_S16384x16_S16x1_S16384x1_1_0_0_1_n_n = DotDims.plain 16384 16 1 := rfl
  have hb : broadcastInDim S16384x1 ![0, 1] bcast_S1x1_S16384x1_0_1 (broadcastInDim S1x1 ![1] bcast_S1_S1x1_1 b) (ix2 (n0 := 16384) (n1 := 1) r 0) = b (ix1 (n := 1) 0) := by
    rw [broadcastInDim_apply _ bcast_S1x1_S16384x1_0_1 _ _ (ix2 (n0 := 1) (n1 := 1) 0 0) (by intro b; fin_cases b <;> rfl),
      broadcastInDim_apply _ bcast_S1_S1x1_1 _ _ (ix1 (n := 1) 0) (by intro b; fin_cases b; rfl)]
  unfold negLogits
  change -(Host.dotGeneral dot_S16384x16_S16x1_S16384x1_1_0_0_1_n_n none (means x t) w (ix2 (n0 := 16384) (n1 := 1) r 0)
    + broadcastInDim S16384x1 ![0, 1] bcast_S1x1_S16384x1_0_1 (broadcastInDim S1x1 ![1] bcast_S1_S1x1_1 b) (ix2 (n0 := 16384) (n1 := 1) r 0) : EReal) = _
  rw [hb, hd, dotGeneral_plain_apply]

/-- With a real table and real weights: the mean over the words of the row's score, the bias added after. -/
theorem negLogits_real (x : IVec S16384x200 32) (h : ∀ j, (x j).toNat < 100000) (t : FVec Ideal S100000x16 .f32) (w : FVec Ideal S16x1 .f32) (b : FVec Ideal S1 .f32)
    (tR : S100000x16.Idx → ℝ) (ht : ∀ i, (t i : EReal) = (tR i : EReal)) (wR : S16x1.Idx → ℝ) (hw : ∀ i, (w i : EReal) = (wR i : EReal)) (r : Fin 16384) :
    (negLogits x t w b (ix2 (n0 := 16384) (n1 := 1) r 0) : EReal)
      = -((((∑ l : Fin 200, ∑ e : Fin 16, tR (ix2 (n0 := 100000) (n1 := 16) ⟨(x (ix2 (n0 := 16384) (n1 := 200) r l)).toNat, h _⟩ e) * wR (ix2 (n0 := 16) (n1 := 1) e 0)) / 200 : ℝ) : EReal)
        + b (ix1 (n := 1) 0)) := by
  have hm : ∀ e : Fin 16, (means x t (ix2 (n0 := 16384) (n1 := 16) r e) * w (ix2 (n0 := 16) (n1 := 1) e 0) : EReal)
      = (((∑ l : Fin 200, tR (ix2 (n0 := 100000) (n1 := 16) ⟨(x (ix2 (n0 := 16384) (n1 := 200) r l)).toNat, h _⟩ e)) / 200 * wR (ix2 (n0 := 16) (n1 := 1) e 0) : ℝ) : EReal) := by
    intro e
    rw [means_apply x h, hw, Finset.sum_congr rfl fun l _ => ht _, sum_coe]
    unfold Ideal.div
    rw [if_neg (by norm_num), ← EReal.coe_inv, ← EReal.coe_mul, ← EReal.coe_mul, div_eq_mul_inv]
  rw [negLogits_apply, Finset.sum_congr rfl fun e _ => hm e, sum_coe]
  congr 4
  rw [Finset.sum_comm, Finset.sum_div]
  refine Finset.sum_congr rfl fun e _ => ?_
  rw [← Finset.sum_mul]
  ring

/-- The result at a row, from its negated logit. -/
theorem outcome_apply (x : IVec S16384x200 32) (t : FVec Ideal S100000x16 .f32) (w : FVec Ideal S16x1 .f32) (b : FVec Ideal S1 .f32) (i : S16384x1.Idx) :
    (outcome x t w b i : EReal) = roundedRef (negLogits x t w b i) := by
  unfold roundedRef odds
  rw [← Ideal.ofBits_one_f32]
  rfl

/-- Where the mask is set the row is no tie. -/
theorem noTie_of_mask (x : IVec S16384x200 32) (t : FVec Ideal S100000x16 .f32) (w : FVec Ideal S16x1 .f32) (b : FVec Ideal S1 .f32) (i : S16384x1.Idx)
    (h : @Cert.On_no_tie.fn Cert.On_no_tie.Gen.facts Ideal _ x t w b i = 1#1) : NoTie (negLogits x t w b i) := by
  rw [mask_eq] at h
  unfold NoTie odds
  rw [← Ideal.ofBits_one_f32]
  intro hh
  have h' : (BitVec.ofBool (decide ((Ideal.liftRound Int.floor (scaled x t w b i) + Ideal.ofBits .f32 0x3F000000#32 : EReal) ≠ scaled x t w b i))) = 1#1 := h
  have hs : (Ideal.liftRound Int.floor (scaled x t w b i) + Ideal.ofBits .f32 0x3F000000#32 : EReal) = scaled x t w b i := hh
  rw [decide_eq_false (not_not.mpr hs)] at h'
  exact absurd h' (by decide)

end Cert.ReferenceIdeal.Value

end
-- ==== Proof.Value.lean ====
/-
The kernel over the extended reals gives the reference's result at every row that is no tie of the rounding.
-/
module

public import proofs.«01_k».proof.Proof.Folded
public import proofs.«01_k».proof.Proof.RefValue
public import proofs.«01_k».proof.Proof.FramesIdeal

@[expose] public section

noncomputable section

namespace Cert.KernelIdeal.Run

open Cert.KernelIdeal Cert.KernelIdeal.Gen Cert.Pool
open Idealize.ShloMosaic Idealize.ShloMosaic.ValueIdx
open Idealize.SL.Sem

variable (m : (ℓ : Loc nD τ sig) → Buf (Elt Ideal) ℓ)

/-- The four arguments on a device, as arrays. -/
abbrev argX (d : Dev nD) : IVec S16384x200 32 := m ((SparseCore.T d).loc main_arg0)
abbrev argT (d : Dev nD) : FVec Ideal S100000x16 .f32 := m ((SparseCore.T d).loc main_arg1)
abbrev argW (d : Dev nD) : FVec Ideal S16x1 .f32 := m ((SparseCore.T d).loc main_arg2)
abbrev argB (d : Dev nD) : FVec Ideal S1 .f32 := m ((SparseCore.T d).loc main_arg3)

/-- The score of word `v` is the linear layer's output on row `v` of the table. -/
theorem score_eq (d : Dev nD) (v : BitVec 32) (h : v.toNat < 100000) :
    (scoreOf (F := Ideal) (tbl m d) v : EReal)
      = (∑ e : Fin 16, (argT m d (ix2 (n0 := 100000) (n1 := 16) ⟨v.toNat, h⟩ e) * argW m d (ix2 (n0 := 16) (n1 := 1) e 0) : EReal)) + argB m d (ix1 (n := 1) 0) := by
  unfold scoreOf
  rw [tbl_eq, shapeCast_apply _ _ _ (ix2 (n0 := 12500) (n1 := 8) ⟨v.toNat / 8, by omega⟩ ⟨v.toNat % 8, by omega⟩) (by
    rw [Shape.rowMajor_val_two, Shape.rowMajor_val_one]
    show v.toNat / 8 * 8 + v.toNat % 8 = v.toNat % 100000
    omega)]
  unfold product
  have h6 : VAt m d main_v6 = spread (F := Ideal) (argW m d) := VA_v6 m d
  rw [h6, VA_v7, VA_v8]
  refine (stored_apply _ _ _ _ _).trans ?_
  congr 1
  · refine Finset.sum_congr rfl fun e _ => ?_
    congr 1
    refine shapeCast_apply _ _ _ _ ?_
    refine (Shape.rowMajor_val_two (d := ![100000, 16]) _).trans (Eq.trans ?_ (Shape.rowMajor_val_two (d := ![12500, 128]) _).symm)
    show v.toNat * 16 + e.val = v.toNat / 8 * 128 + (16 * (v.toNat % 8) + e.val)
    omega
  · exact shapeCast_apply _ _ _ _ rfl

/-- Word `l` of row `r`. -/
theorem word_eq (d : Dev nD) (r : Fin 16384) (l : Fin 200) : flatWord (wrd m d) (200 * r.val + l.val) = argX m d (ix2 (n0 := 16384) (n1 := 200) r l) := by
  unfold flatWord
  rw [wrd_eq]
  refine shapeCast_apply _ _ _ _ ?_
  refine (Shape.rowMajor_val_two (d := ![16384, 200]) _).trans (Eq.trans ?_ (Shape.rowMajor_val_two (d := ![25600, 128]) _).symm)
  show r.val * 200 + l.val = (200 * r.val + l.val) / 128 % 25600 * 128 + (200 * r.val + l.val) % 128
  omega

/-- The two named constants are minus a two-hundredth and a ten-thousandth. -/
theorem nh_eq : (nhC (F := Ideal) : EReal) = ((-1 / 200 : ℝ) : EReal) := IdealRules.named_const.ideal_named_scalar _ _ _ _ rfl
theorem sc_eq : (scC (F := Ideal) : EReal) = ((1 / 10000 : ℝ) : EReal) := IdealRules.named_const.ideal_named_scalar _ _ _ _ rfl

/-- The negated mean of a row's scores is the reference's negated logit. -/
theorem row_eq (d : Dev nD) (h : ∀ j, (argX m d j).toNat < 100000)
    (ht : ∀ i, ∃ q : ℝ, (argT m d i : EReal) = (q : EReal)) (hw : ∀ i, ∃ q : ℝ, (argW m d i : EReal) = (q : EReal)) (r : Fin 16384) :
    (rowSum (F := Ideal) (wrd m d) (tbl m d) r.val * nhC (F := Ideal) : EReal)
      = Cert.ReferenceIdeal.Value.negLogits (argX m d) (argT m d) (argW m d) (argB m d) (ix2 (n0 := 16384) (n1 := 1) r 0) := by
  choose tR htR using ht
  choose wR hwR using hw
  rw [Cert.ReferenceIdeal.Value.negLogits_real _ h _ _ _ tR htR wR hwR r, nh_eq, ← mean_of_sums]
  congr 1
  unfold rowSum
  rw [partialSum_eq]
  show ∑ l ∈ Finset.range 200, _ = _
  rw [Finset.sum_range]
  refine Finset.sum_congr rfl fun l _ => ?_
  rw [word_eq, score_eq m d _ (h _), ← sum_coe]
  congr 1
  refine Finset.sum_congr rfl fun e _ => ?_
  rw [htR, hwR, EReal.coe_mul]

/-- The kernel's result at a row that is no tie is the reference's. -/
theorem result_eq (d : Dev nD) (h : ∀ j, (argX m d j).toNat < 100000)
    (ht : ∀ i, ∃ q : ℝ, (argT m d i : EReal) = (q : EReal)) (hw : ∀ i, ∃ q : ℝ, (argW m d i : EReal) = (q : EReal)) (i : S16384x1.Idx)
    (hm : @Cert.On_no_tie.fn Cert.On_no_tie.Gen.facts Ideal _ (argX m d) (argT m d) (argW m d) (argB m d) i = 1#1) :
    (VC m d (Proc.devRef .tc main_v13) : FVec Ideal S16384x1 .f32) i = Cert.ReferenceIdeal.Value.outcome (argX m d) (argT m d) (argW m d) (argB m d) i := by
  obtain ⟨r, hr⟩ : ∃ r : Fin 16384, i = ix2 (n0 := 16384) (n1 := 1) r 0 := by
    refine ⟨i (0 : Fin 2), (eq_ix2 (n0 := 16384) (n1 := 1) i).trans ?_⟩
    exact congrArg _ (Subsingleton.elim (α := Fin 1) _ _)
  subst hr
  refine Eq.trans ?_ (Cert.ReferenceIdeal.Value.outcome_apply _ _ _ _ _).symm
  rw [VC_result]
  refine (shapeCast_apply _ _ _ (ix1 (n := 16384) r) (by
    rw [Shape.rowMajor_val_two, Shape.rowMajor_val_one]
    show r.val = r.val * 1 + 0
    omega)).trans ?_
  exact finish1_eq _ _ _ _ (row_eq m d h ht hw r) sc_eq (Cert.ReferenceIdeal.Value.noTie_of_mask _ _ _ _ _ hm)

/-- The value claim. -/
theorem value : Cert.algebraic_KernelIdeal_ReferenceIdeal_on_no_tie_pre_in_range_finite (hKernelIdeal := Cert.KernelIdeal.Gen.facts)
    (hReferenceIdeal := Cert.ReferenceIdeal.Gen.facts) (hPre_in_range_finite := Cert.Pre_in_range_finite.Gen.facts) (hOn_no_tie := Cert.On_no_tie.Gen.facts) := by
  intro m g m' g' hp ha
  have hx : ∀ (d : Dev nD) j, (argX m d j).toNat < 100000 := fun d j => by
    have := Cert.Pre_in_range_finite.Gen.facts
    exact words_of_in_range_finite _ _ _ _ (hp d) j
  have hf := fun d : Dev nD => @reals_of_in_range_finite Cert.Pre_in_range_finite.Gen.facts _ _ _ _ (hp d)
  refine ⟨fun d => Cert.ReferenceIdeal.Value.outcome (argX m d) (argT m d) (argW m d) (argB m d), ?_, ?_⟩
  · refine (θ_run _ _ _).mono (fun r h d => ⟨fun i hi => ?_, (frame_of_end m r h).1 d⟩) (run_main m g (words_in_table m hx))
    refine (congrFun (h.1 d _ (mem_S₂ main_v13 rfl (by decide) (by decide))) i).trans ?_
    exact result_eq m d (hx d) (hf d).1 (hf d).2 i hi
  · refine (θ_run _ _ _).mono (fun r h d => ⟨fun i _ => ?_, (h d).2⟩) (Cert.ReferenceIdeal.Value.run_outcome m' g')
    refine (congrFun (h d).1 i).trans ?_
    rw [(ha d).1, (ha d).2.1, (ha d).2.2.1, (ha d).2.2.2]

end Cert.KernelIdeal.Run

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Gen.On_no_tie
public import proofs.«01_k».proof.Proof.Frames
public import proofs.«01_k».proof.Proof.FramesIdeal
public import proofs.«01_k».proof.Proof.Value

@[expose] public section

noncomputable section

namespace Cert.Proof

open Idealize.ShloMosaic Idealize.SL.Sem

/-- The named constants of the ideal form are -1/200 and 1/10000. -/
theorem names : Cert.preserves_Kernel_KernelIdeal :=
  ⟨IdealRules.named_const.statement _ _ _ _ _ rfl, IdealRules.named_const.statement _ _ _ _ _ rfl⟩

/-- The whole claim. -/
theorem claim : Cert.Claim :=
  ⟨Cert.Kernel.Gen.facts, Cert.KernelIdeal.Gen.facts, Cert.ReferenceIdeal.Gen.facts, Cert.Pre_in_range.Gen.facts,
    Cert.Pre_in_range_finite.Gen.facts, Cert.On_no_tie.Gen.facts,
    Cert.Kernel.Run.frame_in_range, Cert.KernelIdeal.Run.frame_in_range, Cert.KernelIdeal.Run.frame_in_range_finite,
    Cert.KernelIdeal.Run.frame_reference, Cert.KernelIdeal.Run.frame_reference_finite, names, Cert.KernelIdeal.Run.value⟩

end Cert.Proof

end
